-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S32 : Shape := ⟨1, ![32]⟩
abbrev S_ : Shape := ⟨0, ![]⟩
abbrev S1 : Shape := ⟨1, ![1]⟩
abbrev S3 : Shape := ⟨1, ![3]⟩
abbrev S8192x4096 : Shape := ⟨2, ![8192, 4096]⟩
abbrev S256x2048 : Shape := ⟨2, ![256, 2048]⟩
abbrev S2 : Shape := ⟨1, ![2]⟩
abbrev S256x256 : Shape := ⟨2, ![256, 256]⟩

abbrev nBuf : Space → Nat
  | .hbm => 37
  | .vmem => 10
  | .smem => 1
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S3, .i32⟩
  | .hbm, ⟨36, _⟩ => ⟨S8192x4096, .f32⟩
  | .local _ .vmem, ⟨0, _⟩ => ⟨S8192x256, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .smem, ⟨0, _⟩ => ⟨S3, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_c_5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_6 : Ref sig .tc := ⟨.hbm, 18, rfl⟩
abbrev main_v10 : Ref sig .tc := ⟨.hbm, 19, rfl⟩
abbrev main_c_7 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_8 : Ref sig .tc := ⟨.hbm, 25, rfl⟩
abbrev main_v15 : Ref sig .tc := ⟨.hbm, 26, rfl⟩
abbrev main_c_9 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (v2 : BitVec 32) : Nat :=
  let c0_i32 : BitVec 32 := 0#32
  let c1_i32_0 : BitVec 32 := 1#32
  let v4 : BitVec 32 := Scalar.muli v2 c1_i32_0
  let v5 : BitVec 32 := Scalar.addi c0_i32 v4
  v5.toNat

def k0_dev2 (v1 : BitVec 32) : Nat :=
  let c0_i32_3 : BitVec 32 := 0#32
  let c1_i32_2 : BitVec 32 := 1#32
  let v6 : BitVec 32 := Scalar.muli v1 c1_i32_2
  let v7 : BitVec 32 := Scalar.addi c0_i32_3 v6
  v7.toNat

def k0_off1 (v0 : BitVec 32) : Fin 2 → Nat :=
  let c256_i32 : BitVec 32 := 256#32
  let v8 : BitVec 32 := Scalar.muli v0 c256_i32
  let v9 : Index := Scalar.indexCast v8
  let c0_4 : Index := 0#32
  ![v9.toNat, 0]

def k0_dev3 (v1 : BitVec 32) : Nat :=
  let c0_i32_22 : BitVec 32 := 0#32
  let c1_i32_21 : BitVec 32 := 1#32
  let v35 : BitVec 32 := Scalar.muli v1 c1_i32_21
  let v36 : BitVec 32 := Scalar.addi c0_i32_22 v35
  v36.toNat
def k0_dev4 (v2 : BitVec 32) : Nat :=
  let c0_i32_25 : BitVec 32 := 0#32
  let c1_i32_24 : BitVec 32 := 1#32
  let v39 : BitVec 32 := Scalar.muli v2 c1_i32_24
  let v40 : BitVec 32 := Scalar.addi c0_i32_25 v39
  v40.toNat
def k0_off2 (v0 : BitVec 32) (c0_i32_15 : BitVec 32) : Fin 2 → Nat :=
  let v28 : BitVec 32 := Scalar.subi v0 c0_i32_15
  let c1_i32_16 : BitVec 32 := 1#32
  let v29 : BitVec 32 := Scalar.subi v28 c1_i32_16
  let c64_i32 : BitVec 32 := 64#32
  let v30 : BitVec 32 := Scalar.addi v29 c64_i32
  let c32_i32 : BitVec 32 := 32#32
  let v31 : BitVec 32 := Scalar.remsi v30 c32_i32
  let c256_i32_26 : BitVec 32 := 256#32
  let v43 : BitVec 32 := Scalar.muli v31 c256_i32_26
  let v44 : Index := Scalar.indexCast v43
  let c0_27 : Index := 0#32
  ![v44.toNat, 0]
def k0_off3 (v0 : BitVec 32) (c0_i32_17 : BitVec 32) : Fin 2 → Nat :=
  let v32 : BitVec 32 := Scalar.addi v0 c0_i32_17
  let c1_i32_18 : BitVec 32 := 1#32
  let v33 : BitVec 32 := Scalar.addi v32 c1_i32_18
  let c32_i32_19 : BitVec 32 := 32#32
  let v34 : BitVec 32 := Scalar.remsi v33 c32_i32_19
  let c256_i32_33 : BitVec 32 := 256#32
  let v53 : BitVec 32 := Scalar.muli v34 c256_i32_33
  let v54 : Index := Scalar.indexCast v53
  let c0_34 : Index := 0#32
  ![v54.toNat, 0]
def k0_dev5 (v2 : BitVec 32) : Nat :=
  let c0_i32_64 : BitVec 32 := 0#32
  let c1_i32_63 : BitVec 32 := 1#32
  let v83 : BitVec 32 := Scalar.muli v2 c1_i32_63
  let v84 : BitVec 32 := Scalar.addi c0_i32_64 v83
  v84.toNat
def k0_dev6 (v1 : BitVec 32) : Nat :=
  let c0_i32_67 : BitVec 32 := 0#32
  let c1_i32_66 : BitVec 32 := 1#32
  let v85 : BitVec 32 := Scalar.muli v1 c1_i32_66
  let v86 : BitVec 32 := Scalar.addi c0_i32_67 v85
  v86.toNat
def k0_dev7 (v1 : BitVec 32) : Nat :=
  let c0_i32_77 : BitVec 32 := 0#32
  let c1_i32_76 : BitVec 32 := 1#32
  let v94 : BitVec 32 := Scalar.muli v1 c1_i32_76
  let v95 : BitVec 32 := Scalar.addi c0_i32_77 v94
  v95.toNat
def k0_dev8 (v2 : BitVec 32) : Nat :=
  let c0_i32_80 : BitVec 32 := 0#32
  let c1_i32_79 : BitVec 32 := 1#32
  let v98 : BitVec 32 := Scalar.muli v2 c1_i32_79
  let v99 : BitVec 32 := Scalar.addi c0_i32_80 v98
  v99.toNat
def k0_dev9 (v2 : BitVec 32) : Nat :=
  let c0_i32_119 : BitVec 32 := 0#32
  let c1_i32_118 : BitVec 32 := 1#32
  let v142 : BitVec 32 := Scalar.muli v2 c1_i32_118
  let v143 : BitVec 32 := Scalar.addi c0_i32_119 v142
  v143.toNat
def k0_dev10 (v1 : BitVec 32) : Nat :=
  let c0_i32_122 : BitVec 32 := 0#32
  let c1_i32_121 : BitVec 32 := 1#32
  let v144 : BitVec 32 := Scalar.muli v1 c1_i32_121
  let v145 : BitVec 32 := Scalar.addi c0_i32_122 v144
  v145.toNat
def k0_dev11 (v1 : BitVec 32) : Nat :=
  let c0_i32_136 : BitVec 32 := 0#32
  let c1_i32_135 : BitVec 32 := 1#32
  let v153 : BitVec 32 := Scalar.muli v1 c1_i32_135
  let v154 : BitVec 32 := Scalar.addi c0_i32_136 v153
  v154.toNat
def k0_dev12 (v2 : BitVec 32) : Nat :=
  let c0_i32_139 : BitVec 32 := 0#32
  let c1_i32_138 : BitVec 32 := 1#32
  let v157 : BitVec 32 := Scalar.muli v2 c1_i32_138
  let v158 : BitVec 32 := Scalar.addi c0_i32_139 v157
  v158.toNat
def k0_dev13 (v2 : BitVec 32) : Nat :=
  let c0_i32_178 : BitVec 32 := 0#32
  let c1_i32_177 : BitVec 32 := 1#32
  let v201 : BitVec 32 := Scalar.muli v2 c1_i32_177
  let v202 : BitVec 32 := Scalar.addi c0_i32_178 v201
  v202.toNat
def k0_dev14 (v1 : BitVec 32) : Nat :=
  let c0_i32_181 : BitVec 32 := 0#32
  let c1_i32_180 : BitVec 32 := 1#32
  let v203 : BitVec 32 := Scalar.muli v1 c1_i32_180
  let v204 : BitVec 32 := Scalar.addi c0_i32_181 v203
  v204.toNat
def k0_dev15 (v1 : BitVec 32) : Nat :=
  let c0_i32_194 : BitVec 32 := 0#32
  let c1_i32_193 : BitVec 32 := 1#32
  let v212 : BitVec 32 := Scalar.muli v1 c1_i32_193
  let v213 : BitVec 32 := Scalar.addi c0_i32_194 v212
  v213.toNat
def k0_dev16 (v2 : BitVec 32) : Nat :=
  let c0_i32_197 : BitVec 32 := 0#32
  let c1_i32_196 : BitVec 32 := 1#32
  let v216 : BitVec 32 := Scalar.muli v2 c1_i32_196
  let v217 : BitVec 32 := Scalar.addi c0_i32_197 v216
  v217.toNat
def k0_dev17 (v2 : BitVec 32) : Nat :=
  let c0_i32_236 : BitVec 32 := 0#32
  let c1_i32_235 : BitVec 32 := 1#32
  let v260 : BitVec 32 := Scalar.muli v2 c1_i32_235
  let v261 : BitVec 32 := Scalar.addi c0_i32_236 v260
  v261.toNat
def k0_dev18 (v1 : BitVec 32) : Nat :=
  let c0_i32_239 : BitVec 32 := 0#32
  let c1_i32_238 : BitVec 32 := 1#32
  let v262 : BitVec 32 := Scalar.muli v1 c1_i32_238
  let v263 : BitVec 32 := Scalar.addi c0_i32_239 v262
  v263.toNat
def k0_dev19 (v1 : BitVec 32) : Nat :=
  let c0_i32_252 : BitVec 32 := 0#32
  let c1_i32_251 : BitVec 32 := 1#32
  let v271 : BitVec 32 := Scalar.muli v1 c1_i32_251
  let v272 : BitVec 32 := Scalar.addi c0_i32_252 v271
  v272.toNat
def k0_dev20 (v2 : BitVec 32) : Nat :=
  let c0_i32_255 : BitVec 32 := 0#32
  let c1_i32_254 : BitVec 32 := 1#32
  let v275 : BitVec 32 := Scalar.muli v2 c1_i32_254
  let v276 : BitVec 32 := Scalar.addi c0_i32_255 v275
  v276.toNat
def k0_dev21 (v2 : BitVec 32) : Nat :=
  let c0_i32_294 : BitVec 32 := 0#32
  let c1_i32_293 : BitVec 32 := 1#32
  let v319 : BitVec 32 := Scalar.muli v2 c1_i32_293
  let v320 : BitVec 32 := Scalar.addi c0_i32_294 v319
  v320.toNat
def k0_dev22 (v1 : BitVec 32) : Nat :=
  let c0_i32_297 : BitVec 32 := 0#32
  let c1_i32_296 : BitVec 32 := 1#32
  let v321 : BitVec 32 := Scalar.muli v1 c1_i32_296
  let v322 : BitVec 32 := Scalar.addi c0_i32_297 v321
  v322.toNat
def k0_dev23 (v1 : BitVec 32) : Nat :=
  let c0_i32_310 : BitVec 32 := 0#32
  let c1_i32_309 : BitVec 32 := 1#32
  let v330 : BitVec 32 := Scalar.muli v1 c1_i32_309
  let v331 : BitVec 32 := Scalar.addi c0_i32_310 v330
  v331.toNat
def k0_dev24 (v2 : BitVec 32) : Nat :=
  let c0_i32_313 : BitVec 32 := 0#32
  let c1_i32_312 : BitVec 32 := 1#32
  let v334 : BitVec 32 := Scalar.muli v2 c1_i32_312
  let v335 : BitVec 32 := Scalar.addi c0_i32_313 v334
  v335.toNat
def k0_dev25 (v2 : BitVec 32) : Nat :=
  let c0_i32_352 : BitVec 32 := 0#32
  let c1_i32_351 : BitVec 32 := 1#32
  let v378 : BitVec 32 := Scalar.muli v2 c1_i32_351
  let v379 : BitVec 32 := Scalar.addi c0_i32_352 v378
  v379.toNat
def k0_dev26 (v1 : BitVec 32) : Nat :=
  let c0_i32_355 : BitVec 32 := 0#32
  let c1_i32_354 : BitVec 32 := 1#32
  let v380 : BitVec 32 := Scalar.muli v1 c1_i32_354
  let v381 : BitVec 32 := Scalar.addi c0_i32_355 v380
  v381.toNat
def k0_dev27 (v1 : BitVec 32) : Nat :=
  let c0_i32_368 : BitVec 32 := 0#32
  let c1_i32_367 : BitVec 32 := 1#32
  let v389 : BitVec 32 := Scalar.muli v1 c1_i32_367
  let v390 : BitVec 32 := Scalar.addi c0_i32_368 v389
  v390.toNat
def k0_dev28 (v2 : BitVec 32) : Nat :=
  let c0_i32_371 : BitVec 32 := 0#32
  let c1_i32_370 : BitVec 32 := 1#32
  let v393 : BitVec 32 := Scalar.muli v2 c1_i32_370
  let v394 : BitVec 32 := Scalar.addi c0_i32_371 v393
  v394.toNat
def k0_dev29 (v2 : BitVec 32) : Nat :=
  let c0_i32_410 : BitVec 32 := 0#32
  let c1_i32_409 : BitVec 32 := 1#32
  let v437 : BitVec 32 := Scalar.muli v2 c1_i32_409
  let v438 : BitVec 32 := Scalar.addi c0_i32_410 v437
  v438.toNat
def k0_dev30 (v1 : BitVec 32) : Nat :=
  let c0_i32_413 : BitVec 32 := 0#32
  let c1_i32_412 : BitVec 32 := 1#32
  let v439 : BitVec 32 := Scalar.muli v1 c1_i32_412
  let v440 : BitVec 32 := Scalar.addi c0_i32_413 v439
  v440.toNat
def k0_dev31 (v1 : BitVec 32) : Nat :=
  let c0_i32_426 : BitVec 32 := 0#32
  let c1_i32_425 : BitVec 32 := 1#32
  let v448 : BitVec 32 := Scalar.muli v1 c1_i32_425
  let v449 : BitVec 32 := Scalar.addi c0_i32_426 v448
  v449.toNat
def k0_dev32 (v2 : BitVec 32) : Nat :=
  let c0_i32_429 : BitVec 32 := 0#32
  let c1_i32_428 : BitVec 32 := 1#32
  let v452 : BitVec 32 := Scalar.muli v2 c1_i32_428
  let v453 : BitVec 32 := Scalar.addi c0_i32_429 v452
  v453.toNat
def k0_dev33 (v2 : BitVec 32) : Nat :=
  let c0_i32_468 : BitVec 32 := 0#32
  let c1_i32_467 : BitVec 32 := 1#32
  let v496 : BitVec 32 := Scalar.muli v2 c1_i32_467
  let v497 : BitVec 32 := Scalar.addi c0_i32_468 v496
  v497.toNat
def k0_dev34 (v1 : BitVec 32) : Nat :=
  let c0_i32_471 : BitVec 32 := 0#32
  let c1_i32_470 : BitVec 32 := 1#32
  let v498 : BitVec 32 := Scalar.muli v1 c1_i32_470
  let v499 : BitVec 32 := Scalar.addi c0_i32_471 v498
  v499.toNat
def k0_dev35 (v1 : BitVec 32) : Nat :=
  let c0_i32_484 : BitVec 32 := 0#32
  let c1_i32_483 : BitVec 32 := 1#32
  let v507 : BitVec 32 := Scalar.muli v1 c1_i32_483
  let v508 : BitVec 32 := Scalar.addi c0_i32_484 v507
  v508.toNat
def k0_dev36 (v2 : BitVec 32) : Nat :=
  let c0_i32_487 : BitVec 32 := 0#32
  let c1_i32_486 : BitVec 32 := 1#32
  let v511 : BitVec 32 := Scalar.muli v2 c1_i32_486
  let v512 : BitVec 32 := Scalar.addi c0_i32_487 v511
  v512.toNat
def k0_dev37 (v2 : BitVec 32) : Nat :=
  let c0_i32_526 : BitVec 32 := 0#32
  let c1_i32_525 : BitVec 32 := 1#32
  let v555 : BitVec 32 := Scalar.muli v2 c1_i32_525
  let v556 : BitVec 32 := Scalar.addi c0_i32_526 v555
  v556.toNat
def k0_dev38 (v1 : BitVec 32) : Nat :=
  let c0_i32_529 : BitVec 32 := 0#32
  let c1_i32_528 : BitVec 32 := 1#32
  let v557 : BitVec 32 := Scalar.muli v1 c1_i32_528
  let v558 : BitVec 32 := Scalar.addi c0_i32_529 v557
  v558.toNat
def k0_dev39 (v1 : BitVec 32) : Nat :=
  let c0_i32_542 : BitVec 32 := 0#32
  let c1_i32_541 : BitVec 32 := 1#32
  let v566 : BitVec 32 := Scalar.muli v1 c1_i32_541
  let v567 : BitVec 32 := Scalar.addi c0_i32_542 v566
  v567.toNat
def k0_dev40 (v2 : BitVec 32) : Nat :=
  let c0_i32_545 : BitVec 32 := 0#32
  let c1_i32_544 : BitVec 32 := 1#32
  let v570 : BitVec 32 := Scalar.muli v2 c1_i32_544
  let v571 : BitVec 32 := Scalar.addi c0_i32_545 v570
  v571.toNat
def k0_dev41 (v2 : BitVec 32) : Nat :=
  let c0_i32_584 : BitVec 32 := 0#32
  let c1_i32_583 : BitVec 32 := 1#32
  let v614 : BitVec 32 := Scalar.muli v2 c1_i32_583
  let v615 : BitVec 32 := Scalar.addi c0_i32_584 v614
  v615.toNat
def k0_dev42 (v1 : BitVec 32) : Nat :=
  let c0_i32_587 : BitVec 32 := 0#32
  let c1_i32_586 : BitVec 32 := 1#32
  let v616 : BitVec 32 := Scalar.muli v1 c1_i32_586
  let v617 : BitVec 32 := Scalar.addi c0_i32_587 v616
  v617.toNat
def k0_dev43 (v1 : BitVec 32) : Nat :=
  let c0_i32_600 : BitVec 32 := 0#32
  let c1_i32_599 : BitVec 32 := 1#32
  let v625 : BitVec 32 := Scalar.muli v1 c1_i32_599
  let v626 : BitVec 32 := Scalar.addi c0_i32_600 v625
  v626.toNat
def k0_dev44 (v2 : BitVec 32) : Nat :=
  let c0_i32_603 : BitVec 32 := 0#32
  let c1_i32_602 : BitVec 32 := 1#32
  let v629 : BitVec 32 := Scalar.muli v2 c1_i32_602
  let v630 : BitVec 32 := Scalar.addi c0_i32_603 v629
  v630.toNat
def k0_dev45 (v2 : BitVec 32) : Nat :=
  let c0_i32_642 : BitVec 32 := 0#32
  let c1_i32_641 : BitVec 32 := 1#32
  let v673 : BitVec 32 := Scalar.muli v2 c1_i32_641
  let v674 : BitVec 32 := Scalar.addi c0_i32_642 v673
  v674.toNat
def k0_dev46 (v1 : BitVec 32) : Nat :=
  let c0_i32_645 : BitVec 32 := 0#32
  let c1_i32_644 : BitVec 32 := 1#32
  let v675 : BitVec 32 := Scalar.muli v1 c1_i32_644
  let v676 : BitVec 32 := Scalar.addi c0_i32_645 v675
  v676.toNat
def k0_dev47 (v1 : BitVec 32) : Nat :=
  let c0_i32_658 : BitVec 32 := 0#32
  let c1_i32_657 : BitVec 32 := 1#32
  let v684 : BitVec 32 := Scalar.muli v1 c1_i32_657
  let v685 : BitVec 32 := Scalar.addi c0_i32_658 v684
  v685.toNat
def k0_dev48 (v2 : BitVec 32) : Nat :=
  let c0_i32_661 : BitVec 32 := 0#32
  let c1_i32_660 : BitVec 32 := 1#32
  let v688 : BitVec 32 := Scalar.muli v2 c1_i32_660
  let v689 : BitVec 32 := Scalar.addi c0_i32_661 v688
  v689.toNat
def k0_dev49 (v2 : BitVec 32) : Nat :=
  let c0_i32_700 : BitVec 32 := 0#32
  let c1_i32_699 : BitVec 32 := 1#32
  let v732 : BitVec 32 := Scalar.muli v2 c1_i32_699
  let v733 : BitVec 32 := Scalar.addi c0_i32_700 v732
  v733.toNat
def k0_dev50 (v1 : BitVec 32) : Nat :=
  let c0_i32_703 : BitVec 32 := 0#32
  let c1_i32_702 : BitVec 32 := 1#32
  let v734 : BitVec 32 := Scalar.muli v1 c1_i32_702
  let v735 : BitVec 32 := Scalar.addi c0_i32_703 v734
  v735.toNat
def k0_dev51 (v1 : BitVec 32) : Nat :=
  let c0_i32_716 : BitVec 32 := 0#32
  let c1_i32_715 : BitVec 32 := 1#32
  let v743 : BitVec 32 := Scalar.muli v1 c1_i32_715
  let v744 : BitVec 32 := Scalar.addi c0_i32_716 v743
  v744.toNat
def k0_dev52 (v2 : BitVec 32) : Nat :=
  let c0_i32_719 : BitVec 32 := 0#32
  let c1_i32_718 : BitVec 32 := 1#32
  let v747 : BitVec 32 := Scalar.muli v2 c1_i32_718
  let v748 : BitVec 32 := Scalar.addi c0_i32_719 v747
  v748.toNat
def k0_dev53 (v2 : BitVec 32) : Nat :=
  let c0_i32_758 : BitVec 32 := 0#32
  let c1_i32_757 : BitVec 32 := 1#32
  let v791 : BitVec 32 := Scalar.muli v2 c1_i32_757
  let v792 : BitVec 32 := Scalar.addi c0_i32_758 v791
  v792.toNat
def k0_dev54 (v1 : BitVec 32) : Nat :=
  let c0_i32_761 : BitVec 32 := 0#32
  let c1_i32_760 : BitVec 32 := 1#32
  let v793 : BitVec 32 := Scalar.muli v1 c1_i32_760
  let v794 : BitVec 32 := Scalar.addi c0_i32_761 v793
  v794.toNat
def k0_dev55 (v1 : BitVec 32) : Nat :=
  let c0_i32_774 : BitVec 32 := 0#32
  let c1_i32_773 : BitVec 32 := 1#32
  let v802 : BitVec 32 := Scalar.muli v1 c1_i32_773
  let v803 : BitVec 32 := Scalar.addi c0_i32_774 v802
  v803.toNat
def k0_dev56 (v2 : BitVec 32) : Nat :=
  let c0_i32_777 : BitVec 32 := 0#32
  let c1_i32_776 : BitVec 32 := 1#32
  let v806 : BitVec 32 := Scalar.muli v2 c1_i32_776
  let v807 : BitVec 32 := Scalar.addi c0_i32_777 v806
  v807.toNat
def k0_dev57 (v2 : BitVec 32) : Nat :=
  let c0_i32_816 : BitVec 32 := 0#32
  let c1_i32_815 : BitVec 32 := 1#32
  let v850 : BitVec 32 := Scalar.muli v2 c1_i32_815
  let v851 : BitVec 32 := Scalar.addi c0_i32_816 v850
  v851.toNat
def k0_dev58 (v1 : BitVec 32) : Nat :=
  let c0_i32_819 : BitVec 32 := 0#32
  let c1_i32_818 : BitVec 32 := 1#32
  let v852 : BitVec 32 := Scalar.muli v1 c1_i32_818
  let v853 : BitVec 32 := Scalar.addi c0_i32_819 v852
  v853.toNat
def k0_dev59 (v1 : BitVec 32) : Nat :=
  let c0_i32_832 : BitVec 32 := 0#32
  let c1_i32_831 : BitVec 32 := 1#32
  let v861 : BitVec 32 := Scalar.muli v1 c1_i32_831
  let v862 : BitVec 32 := Scalar.addi c0_i32_832 v861
  v862.toNat
def k0_dev60 (v2 : BitVec 32) : Nat :=
  let c0_i32_835 : BitVec 32 := 0#32
  let c1_i32_834 : BitVec 32 := 1#32
  let v865 : BitVec 32 := Scalar.muli v2 c1_i32_834
  let v866 : BitVec 32 := Scalar.addi c0_i32_835 v865
  v866.toNat
def k0_dev61 (v2 : BitVec 32) : Nat :=
  let c0_i32_874 : BitVec 32 := 0#32
  let c1_i32_873 : BitVec 32 := 1#32
  let v909 : BitVec 32 := Scalar.muli v2 c1_i32_873
  let v910 : BitVec 32 := Scalar.addi c0_i32_874 v909
  v910.toNat
def k0_dev62 (v1 : BitVec 32) : Nat :=
  let c0_i32_877 : BitVec 32 := 0#32
  let c1_i32_876 : BitVec 32 := 1#32
  let v911 : BitVec 32 := Scalar.muli v1 c1_i32_876
  let v912 : BitVec 32 := Scalar.addi c0_i32_877 v911
  v912.toNat
def k0_dev63 (v1 : BitVec 32) : Nat :=
  let c0_i32_890 : BitVec 32 := 0#32
  let c1_i32_889 : BitVec 32 := 1#32
  let v920 : BitVec 32 := Scalar.muli v1 c1_i32_889
  let v921 : BitVec 32 := Scalar.addi c0_i32_890 v920
  v921.toNat
def k0_dev64 (v2 : BitVec 32) : Nat :=
  let c0_i32_893 : BitVec 32 := 0#32
  let c1_i32_892 : BitVec 32 := 1#32
  let v924 : BitVec 32 := Scalar.muli v2 c1_i32_892
  let v925 : BitVec 32 := Scalar.addi c0_i32_893 v924
  v925.toNat
def k0_dev65 (v2 : BitVec 32) : Nat :=
  let c0_i32_932 : BitVec 32 := 0#32
  let c1_i32_931 : BitVec 32 := 1#32
  let v968 : BitVec 32 := Scalar.muli v2 c1_i32_931
  let v969 : BitVec 32 := Scalar.addi c0_i32_932 v968
  v969.toNat
def k0_dev66 (v1 : BitVec 32) : Nat :=
  let c0_i32_935 : BitVec 32 := 0#32
  let c1_i32_934 : BitVec 32 := 1#32
  let v970 : BitVec 32 := Scalar.muli v1 c1_i32_934
  let v971 : BitVec 32 := Scalar.addi c0_i32_935 v970
  v971.toNat
def k0_dev67 (v1 : BitVec 32) : Nat :=
  let c0_i32_948 : BitVec 32 := 0#32
  let c1_i32_947 : BitVec 32 := 1#32
  let v979 : BitVec 32 := Scalar.muli v1 c1_i32_947
  let v980 : BitVec 32 := Scalar.addi c0_i32_948 v979
  v980.toNat
def k0_dev68 (v2 : BitVec 32) : Nat :=
  let c0_i32_951 : BitVec 32 := 0#32
  let c1_i32_950 : BitVec 32 := 1#32
  let v983 : BitVec 32 := Scalar.muli v2 c1_i32_950
  let v984 : BitVec 32 := Scalar.addi c0_i32_951 v983
  v984.toNat
def k0_dev69 (v2 : BitVec 32) : Nat :=
  let c0_i32_990 : BitVec 32 := 0#32
  let c1_i32_989 : BitVec 32 := 1#32
  let v1027 : BitVec 32 := Scalar.muli v2 c1_i32_989
  let v1028 : BitVec 32 := Scalar.addi c0_i32_990 v1027
  v1028.toNat
def k0_dev70 (v1 : BitVec 32) : Nat :=
  let c0_i32_993 : BitVec 32 := 0#32
  let c1_i32_992 : BitVec 32 := 1#32
  let v1029 : BitVec 32 := Scalar.muli v1 c1_i32_992
  let v1030 : BitVec 32 := Scalar.addi c0_i32_993 v1029
  v1030.toNat
def k0_dev71 (v1 : BitVec 32) : Nat :=
  let c0_i32_1006 : BitVec 32 := 0#32
  let c1_i32_1005 : BitVec 32 := 1#32
  let v1038 : BitVec 32 := Scalar.muli v1 c1_i32_1005
  let v1039 : BitVec 32 := Scalar.addi c0_i32_1006 v1038
  v1039.toNat
def k0_dev72 (v2 : BitVec 32) : Nat :=
  let c0_i32_1009 : BitVec 32 := 0#32
  let c1_i32_1008 : BitVec 32 := 1#32
  let v1042 : BitVec 32 := Scalar.muli v2 c1_i32_1008
  let v1043 : BitVec 32 := Scalar.addi c0_i32_1009 v1042
  v1043.toNat
def k0_dev73 (v2 : BitVec 32) : Nat :=
  let c0_i32_1048 : BitVec 32 := 0#32
  let c1_i32_1047 : BitVec 32 := 1#32
  let v1086 : BitVec 32 := Scalar.muli v2 c1_i32_1047
  let v1087 : BitVec 32 := Scalar.addi c0_i32_1048 v1086
  v1087.toNat
def k0_dev74 (v1 : BitVec 32) : Nat :=
  let c0_i32_1051 : BitVec 32 := 0#32
  let c1_i32_1050 : BitVec 32 := 1#32
  let v1088 : BitVec 32 := Scalar.muli v1 c1_i32_1050
  let v1089 : BitVec 32 := Scalar.addi c0_i32_1051 v1088
  v1089.toNat
def k0_dev75 (v1 : BitVec 32) : Nat :=
  let c0_i32_1064 : BitVec 32 := 0#32
  let c1_i32_1063 : BitVec 32 := 1#32
  let v1097 : BitVec 32 := Scalar.muli v1 c1_i32_1063
  let v1098 : BitVec 32 := Scalar.addi c0_i32_1064 v1097
  v1098.toNat
def k0_dev76 (v2 : BitVec 32) : Nat :=
  let c0_i32_1067 : BitVec 32 := 0#32
  let c1_i32_1066 : BitVec 32 := 1#32
  let v1101 : BitVec 32 := Scalar.muli v2 c1_i32_1066
  let v1102 : BitVec 32 := Scalar.addi c0_i32_1067 v1101
  v1102.toNat
def k0_dev77 (v2 : BitVec 32) : Nat :=
  let c0_i32_1106 : BitVec 32 := 0#32
  let c1_i32_1105 : BitVec 32 := 1#32
  let v1145 : BitVec 32 := Scalar.muli v2 c1_i32_1105
  let v1146 : BitVec 32 := Scalar.addi c0_i32_1106 v1145
  v1146.toNat
def k0_dev78 (v1 : BitVec 32) : Nat :=
  let c0_i32_1109 : BitVec 32 := 0#32
  let c1_i32_1108 : BitVec 32 := 1#32
  let v1147 : BitVec 32 := Scalar.muli v1 c1_i32_1108
  let v1148 : BitVec 32 := Scalar.addi c0_i32_1109 v1147
  v1148.toNat
def k0_dev79 (v1 : BitVec 32) : Nat :=
  let c0_i32_1122 : BitVec 32 := 0#32
  let c1_i32_1121 : BitVec 32 := 1#32
  let v1156 : BitVec 32 := Scalar.muli v1 c1_i32_1121
  let v1157 : BitVec 32 := Scalar.addi c0_i32_1122 v1156
  v1157.toNat
def k0_dev80 (v2 : BitVec 32) : Nat :=
  let c0_i32_1125 : BitVec 32 := 0#32
  let c1_i32_1124 : BitVec 32 := 1#32
  let v1160 : BitVec 32 := Scalar.muli v2 c1_i32_1124
  let v1161 : BitVec 32 := Scalar.addi c0_i32_1125 v1160
  v1161.toNat
def k0_dev81 (v2 : BitVec 32) : Nat :=
  let c0_i32_1164 : BitVec 32 := 0#32
  let c1_i32_1163 : BitVec 32 := 1#32
  let v1204 : BitVec 32 := Scalar.muli v2 c1_i32_1163
  let v1205 : BitVec 32 := Scalar.addi c0_i32_1164 v1204
  v1205.toNat
def k0_dev82 (v1 : BitVec 32) : Nat :=
  let c0_i32_1167 : BitVec 32 := 0#32
  let c1_i32_1166 : BitVec 32 := 1#32
  let v1206 : BitVec 32 := Scalar.muli v1 c1_i32_1166
  let v1207 : BitVec 32 := Scalar.addi c0_i32_1167 v1206
  v1207.toNat
def k0_dev83 (v1 : BitVec 32) : Nat :=
  let c0_i32_1180 : BitVec 32 := 0#32
  let c1_i32_1179 : BitVec 32 := 1#32
  let v1215 : BitVec 32 := Scalar.muli v1 c1_i32_1179
  let v1216 : BitVec 32 := Scalar.addi c0_i32_1180 v1215
  v1216.toNat
def k0_dev84 (v2 : BitVec 32) : Nat :=
  let c0_i32_1183 : BitVec 32 := 0#32
  let c1_i32_1182 : BitVec 32 := 1#32
  let v1219 : BitVec 32 := Scalar.muli v2 c1_i32_1182
  let v1220 : BitVec 32 := Scalar.addi c0_i32_1183 v1219
  v1220.toNat
def k0_dev85 (v2 : BitVec 32) : Nat :=
  let c0_i32_1222 : BitVec 32 := 0#32
  let c1_i32_1221 : BitVec 32 := 1#32
  let v1263 : BitVec 32 := Scalar.muli v2 c1_i32_1221
  let v1264 : BitVec 32 := Scalar.addi c0_i32_1222 v1263
  v1264.toNat
def k0_dev86 (v1 : BitVec 32) : Nat :=
  let c0_i32_1225 : BitVec 32 := 0#32
  let c1_i32_1224 : BitVec 32 := 1#32
  let v1265 : BitVec 32 := Scalar.muli v1 c1_i32_1224
  let v1266 : BitVec 32 := Scalar.addi c0_i32_1225 v1265
  v1266.toNat
def k0_dev87 (v1 : BitVec 32) : Nat :=
  let c0_i32_1238 : BitVec 32 := 0#32
  let c1_i32_1237 : BitVec 32 := 1#32
  let v1274 : BitVec 32 := Scalar.muli v1 c1_i32_1237
  let v1275 : BitVec 32 := Scalar.addi c0_i32_1238 v1274
  v1275.toNat
def k0_dev88 (v2 : BitVec 32) : Nat :=
  let c0_i32_1241 : BitVec 32 := 0#32
  let c1_i32_1240 : BitVec 32 := 1#32
  let v1278 : BitVec 32 := Scalar.muli v2 c1_i32_1240
  let v1279 : BitVec 32 := Scalar.addi c0_i32_1241 v1278
  v1279.toNat
def k0_dev89 (v2 : BitVec 32) : Nat :=
  let c0_i32_1280 : BitVec 32 := 0#32
  let c1_i32_1279 : BitVec 32 := 1#32
  let v1322 : BitVec 32 := Scalar.muli v2 c1_i32_1279
  let v1323 : BitVec 32 := Scalar.addi c0_i32_1280 v1322
  v1323.toNat
def k0_dev90 (v1 : BitVec 32) : Nat :=
  let c0_i32_1283 : BitVec 32 := 0#32
  let c1_i32_1282 : BitVec 32 := 1#32
  let v1324 : BitVec 32 := Scalar.muli v1 c1_i32_1282
  let v1325 : BitVec 32 := Scalar.addi c0_i32_1283 v1324
  v1325.toNat
def k0_dev91 (v1 : BitVec 32) : Nat :=
  let c0_i32_1296 : BitVec 32 := 0#32
  let c1_i32_1295 : BitVec 32 := 1#32
  let v1333 : BitVec 32 := Scalar.muli v1 c1_i32_1295
  let v1334 : BitVec 32 := Scalar.addi c0_i32_1296 v1333
  v1334.toNat
def k0_dev92 (v2 : BitVec 32) : Nat :=
  let c0_i32_1299 : BitVec 32 := 0#32
  let c1_i32_1298 : BitVec 32 := 1#32
  let v1337 : BitVec 32 := Scalar.muli v2 c1_i32_1298
  let v1338 : BitVec 32 := Scalar.addi c0_i32_1299 v1337
  v1338.toNat
def k0_dev93 (v2 : BitVec 32) : Nat :=
  let c0_i32_1338 : BitVec 32 := 0#32
  let c1_i32_1337 : BitVec 32 := 1#32
  let v1381 : BitVec 32 := Scalar.muli v2 c1_i32_1337
  let v1382 : BitVec 32 := Scalar.addi c0_i32_1338 v1381
  v1382.toNat
def k0_dev94 (v1 : BitVec 32) : Nat :=
  let c0_i32_1341 : BitVec 32 := 0#32
  let c1_i32_1340 : BitVec 32 := 1#32
  let v1383 : BitVec 32 := Scalar.muli v1 c1_i32_1340
  let v1384 : BitVec 32 := Scalar.addi c0_i32_1341 v1383
  v1384.toNat
def k0_dev95 (v1 : BitVec 32) : Nat :=
  let c0_i32_1354 : BitVec 32 := 0#32
  let c1_i32_1353 : BitVec 32 := 1#32
  let v1392 : BitVec 32 := Scalar.muli v1 c1_i32_1353
  let v1393 : BitVec 32 := Scalar.addi c0_i32_1354 v1392
  v1393.toNat
def k0_dev96 (v2 : BitVec 32) : Nat :=
  let c0_i32_1357 : BitVec 32 := 0#32
  let c1_i32_1356 : BitVec 32 := 1#32
  let v1396 : BitVec 32 := Scalar.muli v2 c1_i32_1356
  let v1397 : BitVec 32 := Scalar.addi c0_i32_1357 v1396
  v1397.toNat
def k0_dev97 (v2 : BitVec 32) : Nat :=
  let c0_i32_1396 : BitVec 32 := 0#32
  let c1_i32_1395 : BitVec 32 := 1#32
  let v1440 : BitVec 32 := Scalar.muli v2 c1_i32_1395
  let v1441 : BitVec 32 := Scalar.addi c0_i32_1396 v1440
  v1441.toNat
def k0_dev98 (v1 : BitVec 32) : Nat :=
  let c0_i32_1399 : BitVec 32 := 0#32
  let c1_i32_1398 : BitVec 32 := 1#32
  let v1442 : BitVec 32 := Scalar.muli v1 c1_i32_1398
  let v1443 : BitVec 32 := Scalar.addi c0_i32_1399 v1442
  v1443.toNat
def k0_dev99 (v1 : BitVec 32) : Nat :=
  let c0_i32_1412 : BitVec 32 := 0#32
  let c1_i32_1411 : BitVec 32 := 1#32
  let v1451 : BitVec 32 := Scalar.muli v1 c1_i32_1411
  let v1452 : BitVec 32 := Scalar.addi c0_i32_1412 v1451
  v1452.toNat
def k0_dev100 (v2 : BitVec 32) : Nat :=
  let c0_i32_1415 : BitVec 32 := 0#32
  let c1_i32_1414 : BitVec 32 := 1#32
  let v1455 : BitVec 32 := Scalar.muli v2 c1_i32_1414
  let v1456 : BitVec 32 := Scalar.addi c0_i32_1415 v1455
  v1456.toNat
def k0_dev101 (v2 : BitVec 32) : Nat :=
  let c0_i32_1454 : BitVec 32 := 0#32
  let c1_i32_1453 : BitVec 32 := 1#32
  let v1499 : BitVec 32 := Scalar.muli v2 c1_i32_1453
  let v1500 : BitVec 32 := Scalar.addi c0_i32_1454 v1499
  v1500.toNat
def k0_dev102 (v1 : BitVec 32) : Nat :=
  let c0_i32_1457 : BitVec 32 := 0#32
  let c1_i32_1456 : BitVec 32 := 1#32
  let v1501 : BitVec 32 := Scalar.muli v1 c1_i32_1456
  let v1502 : BitVec 32 := Scalar.addi c0_i32_1457 v1501
  v1502.toNat
def k0_dev103 (v1 : BitVec 32) : Nat :=
  let c0_i32_1470 : BitVec 32 := 0#32
  let c1_i32_1469 : BitVec 32 := 1#32
  let v1510 : BitVec 32 := Scalar.muli v1 c1_i32_1469
  let v1511 : BitVec 32 := Scalar.addi c0_i32_1470 v1510
  v1511.toNat
def k0_dev104 (v2 : BitVec 32) : Nat :=
  let c0_i32_1473 : BitVec 32 := 0#32
  let c1_i32_1472 : BitVec 32 := 1#32
  let v1514 : BitVec 32 := Scalar.muli v2 c1_i32_1472
  let v1515 : BitVec 32 := Scalar.addi c0_i32_1473 v1514
  v1515.toNat
def k0_dev105 (v2 : BitVec 32) : Nat :=
  let c0_i32_1512 : BitVec 32 := 0#32
  let c1_i32_1511 : BitVec 32 := 1#32
  let v1558 : BitVec 32 := Scalar.muli v2 c1_i32_1511
  let v1559 : BitVec 32 := Scalar.addi c0_i32_1512 v1558
  v1559.toNat
def k0_dev106 (v1 : BitVec 32) : Nat :=
  let c0_i32_1515 : BitVec 32 := 0#32
  let c1_i32_1514 : BitVec 32 := 1#32
  let v1560 : BitVec 32 := Scalar.muli v1 c1_i32_1514
  let v1561 : BitVec 32 := Scalar.addi c0_i32_1515 v1560
  v1561.toNat
def k0_dev107 (v1 : BitVec 32) : Nat :=
  let c0_i32_1528 : BitVec 32 := 0#32
  let c1_i32_1527 : BitVec 32 := 1#32
  let v1569 : BitVec 32 := Scalar.muli v1 c1_i32_1527
  let v1570 : BitVec 32 := Scalar.addi c0_i32_1528 v1569
  v1570.toNat
def k0_dev108 (v2 : BitVec 32) : Nat :=
  let c0_i32_1531 : BitVec 32 := 0#32
  let c1_i32_1530 : BitVec 32 := 1#32
  let v1573 : BitVec 32 := Scalar.muli v2 c1_i32_1530
  let v1574 : BitVec 32 := Scalar.addi c0_i32_1531 v1573
  v1574.toNat
def k0_dev109 (v2 : BitVec 32) : Nat :=
  let c0_i32_1570 : BitVec 32 := 0#32
  let c1_i32_1569 : BitVec 32 := 1#32
  let v1617 : BitVec 32 := Scalar.muli v2 c1_i32_1569
  let v1618 : BitVec 32 := Scalar.addi c0_i32_1570 v1617
  v1618.toNat
def k0_dev110 (v1 : BitVec 32) : Nat :=
  let c0_i32_1573 : BitVec 32 := 0#32
  let c1_i32_1572 : BitVec 32 := 1#32
  let v1619 : BitVec 32 := Scalar.muli v1 c1_i32_1572
  let v1620 : BitVec 32 := Scalar.addi c0_i32_1573 v1619
  v1620.toNat
def k0_dev111 (v1 : BitVec 32) : Nat :=
  let c0_i32_1586 : BitVec 32 := 0#32
  let c1_i32_1585 : BitVec 32 := 1#32
  let v1628 : BitVec 32 := Scalar.muli v1 c1_i32_1585
  let v1629 : BitVec 32 := Scalar.addi c0_i32_1586 v1628
  v1629.toNat
def k0_dev112 (v2 : BitVec 32) : Nat :=
  let c0_i32_1589 : BitVec 32 := 0#32
  let c1_i32_1588 : BitVec 32 := 1#32
  let v1632 : BitVec 32 := Scalar.muli v2 c1_i32_1588
  let v1633 : BitVec 32 := Scalar.addi c0_i32_1589 v1632
  v1633.toNat
def k0_dev113 (v2 : BitVec 32) : Nat :=
  let c0_i32_1628 : BitVec 32 := 0#32
  let c1_i32_1627 : BitVec 32 := 1#32
  let v1676 : BitVec 32 := Scalar.muli v2 c1_i32_1627
  let v1677 : BitVec 32 := Scalar.addi c0_i32_1628 v1676
  v1677.toNat
def k0_dev114 (v1 : BitVec 32) : Nat :=
  let c0_i32_1631 : BitVec 32 := 0#32
  let c1_i32_1630 : BitVec 32 := 1#32
  let v1678 : BitVec 32 := Scalar.muli v1 c1_i32_1630
  let v1679 : BitVec 32 := Scalar.addi c0_i32_1631 v1678
  v1679.toNat
def k0_dev115 (v1 : BitVec 32) : Nat :=
  let c0_i32_1644 : BitVec 32 := 0#32
  let c1_i32_1643 : BitVec 32 := 1#32
  let v1687 : BitVec 32 := Scalar.muli v1 c1_i32_1643
  let v1688 : BitVec 32 := Scalar.addi c0_i32_1644 v1687
  v1688.toNat
def k0_dev116 (v2 : BitVec 32) : Nat :=
  let c0_i32_1647 : BitVec 32 := 0#32
  let c1_i32_1646 : BitVec 32 := 1#32
  let v1691 : BitVec 32 := Scalar.muli v2 c1_i32_1646
  let v1692 : BitVec 32 := Scalar.addi c0_i32_1647 v1691
  v1692.toNat
def k0_dev117 (v2 : BitVec 32) : Nat :=
  let c0_i32_1686 : BitVec 32 := 0#32
  let c1_i32_1685 : BitVec 32 := 1#32
  let v1735 : BitVec 32 := Scalar.muli v2 c1_i32_1685
  let v1736 : BitVec 32 := Scalar.addi c0_i32_1686 v1735
  v1736.toNat
def k0_dev118 (v1 : BitVec 32) : Nat :=
  let c0_i32_1689 : BitVec 32 := 0#32
  let c1_i32_1688 : BitVec 32 := 1#32
  let v1737 : BitVec 32 := Scalar.muli v1 c1_i32_1688
  let v1738 : BitVec 32 := Scalar.addi c0_i32_1689 v1737
  v1738.toNat
def k0_dev119 (v1 : BitVec 32) : Nat :=
  let c0_i32_1702 : BitVec 32 := 0#32
  let c1_i32_1701 : BitVec 32 := 1#32
  let v1746 : BitVec 32 := Scalar.muli v1 c1_i32_1701
  let v1747 : BitVec 32 := Scalar.addi c0_i32_1702 v1746
  v1747.toNat
def k0_dev120 (v2 : BitVec 32) : Nat :=
  let c0_i32_1705 : BitVec 32 := 0#32
  let c1_i32_1704 : BitVec 32 := 1#32
  let v1750 : BitVec 32 := Scalar.muli v2 c1_i32_1704
  let v1751 : BitVec 32 := Scalar.addi c0_i32_1705 v1750
  v1751.toNat
def k0_dev121 (v1 : BitVec 32) : Nat :=
  let c0_i32_1754 : BitVec 32 := 0#32
  let c1_i32_1753 : BitVec 32 := 1#32
  let v1801 : BitVec 32 := Scalar.muli v1 c1_i32_1753
  let v1802 : BitVec 32 := Scalar.addi c0_i32_1754 v1801
  v1802.toNat
def k0_dev122 (v2 : BitVec 32) : Nat :=
  let c0_i32_1757 : BitVec 32 := 0#32
  let c1_i32_1756 : BitVec 32 := 1#32
  let v1805 : BitVec 32 := Scalar.muli v2 c1_i32_1756
  let v1806 : BitVec 32 := Scalar.addi c0_i32_1757 v1805
  v1806.toNat
def k0_dev123 (v2 : BitVec 32) : Nat :=
  let c0_i32_1796 : BitVec 32 := 0#32
  let c1_i32_1795 : BitVec 32 := 1#32
  let v1849 : BitVec 32 := Scalar.muli v2 c1_i32_1795
  let v1850 : BitVec 32 := Scalar.addi c0_i32_1796 v1849
  v1850.toNat
def k0_dev124 (v1 : BitVec 32) : Nat :=
  let c0_i32_1799 : BitVec 32 := 0#32
  let c1_i32_1798 : BitVec 32 := 1#32
  let v1851 : BitVec 32 := Scalar.muli v1 c1_i32_1798
  let v1852 : BitVec 32 := Scalar.addi c0_i32_1799 v1851
  v1852.toNat
def k0_dev125 (v2 : BitVec 32) : Nat :=
  let c0_i32_1802 : BitVec 32 := 0#32
  let c1_i32_1801 : BitVec 32 := 1#32
  let v1853 : BitVec 32 := Scalar.muli v2 c1_i32_1801
  let v1854 : BitVec 32 := Scalar.addi c0_i32_1802 v1853
  v1854.toNat
def k0_dev126 (v1 : BitVec 32) : Nat :=
  let c0_i32_1805 : BitVec 32 := 0#32
  let c1_i32_1804 : BitVec 32 := 1#32
  let v1855 : BitVec 32 := Scalar.muli v1 c1_i32_1804
  let v1856 : BitVec 32 := Scalar.addi c0_i32_1805 v1855
  v1856.toNat
def k0_off4 (v0 : BitVec 32) : Fin 2 → Nat :=
  let c1_i32_1816 : BitVec 32 := 1#32
  let v1869 : BitVec 32 := Scalar.addi v0 c1_i32_1816
  let c32_i32_1817 : BitVec 32 := 32#32
  let v1870 : BitVec 32 := Scalar.remsi v1869 c32_i32_1817
  let c256_i32_1818 : BitVec 32 := 256#32
  let v1871 : BitVec 32 := Scalar.muli v1870 c256_i32_1818
  let c0_i32_1824 : BitVec 32 := 0#32
  ![v1871.toNat, 0]
def k0_off5 (v0 : BitVec 32) : Fin 2 → Nat :=
  let c32_i32_1819 : BitVec 32 := 32#32
  let v1872 : BitVec 32 := Scalar.addi v0 c32_i32_1819
  let c1_i32_1820 : BitVec 32 := 1#32
  let v1873 : BitVec 32 := Scalar.subi v1872 c1_i32_1820
  let c32_i32_1821 : BitVec 32 := 32#32
  let v1874 : BitVec 32 := Scalar.remsi v1873 c32_i32_1821
  let c256_i32_1822 : BitVec 32 := 256#32
  let v1875 : BitVec 32 := Scalar.muli v1874 c256_i32_1822
  let c2048_i32 : BitVec 32 := 2048#32
  ![v1875.toNat, 2048]
def k0_dev127 (v1 : BitVec 32) : Nat :=
  let c0_i32_1836 : BitVec 32 := 0#32
  let c1_i32_1835 : BitVec 32 := 1#32
  let v1888 : BitVec 32 := Scalar.muli v1 c1_i32_1835
  let v1889 : BitVec 32 := Scalar.addi c0_i32_1836 v1888
  v1889.toNat
def k0_dev128 (v2 : BitVec 32) : Nat :=
  let c0_i32_1839 : BitVec 32 := 0#32
  let c1_i32_1838 : BitVec 32 := 1#32
  let v1892 : BitVec 32 := Scalar.muli v2 c1_i32_1838
  let v1893 : BitVec 32 := Scalar.addi c0_i32_1839 v1892
  v1893.toNat
def k0_off6 (v0 : BitVec 32) (c0_i32_1846 : BitVec 32) : Fin 2 → Nat :=
  let v1904 : BitVec 32 := Scalar.subi v0 c0_i32_1846
  let c64_i32_1847 : BitVec 32 := 64#32
  let v1905 : BitVec 32 := Scalar.addi v1904 c64_i32_1847
  let c32_i32_1848 : BitVec 32 := 32#32
  let v1906 : BitVec 32 := Scalar.remsi v1905 c32_i32_1848
  let c256_i32_1851 : BitVec 32 := 256#32
  let v1909 : BitVec 32 := Scalar.muli v1906 c256_i32_1851
  let c0_i32_1854 : BitVec 32 := 0#32
  ![v1909.toNat, 0]
def k0_off7 (v0 : BitVec 32) (c0_i32_1849 : BitVec 32) : Fin 2 → Nat :=
  let v1907 : BitVec 32 := Scalar.addi v0 c0_i32_1849
  let c32_i32_1850 : BitVec 32 := 32#32
  let v1908 : BitVec 32 := Scalar.remsi v1907 c32_i32_1850
  let c256_i32_1852 : BitVec 32 := 256#32
  let v1910 : BitVec 32 := Scalar.muli v1908 c256_i32_1852
  let c2048_i32_1856 : BitVec 32 := 2048#32
  ![v1910.toNat, 2048]

def k0_chk3 (v0 : BitVec 32) : Prop :=
  (∀ a, (k0_off1 v0) a + S256x256.size a ≤ S8192x256.size a) ∧
  (∀ (r : Fin 31), ∀ a, (k0_off2 v0 (BitVec.ofNat 32 r.val)) a + S256x256.size a ≤ S8192x256.size a) ∧
  (∀ (r : Fin 31), ∀ a, (k0_off3 v0 (BitVec.ofNat 32 r.val)) a + S256x256.size a ≤ S8192x256.size a) ∧
  (∀ a, (k0_off4 v0) a + S256x2048.size a ≤ S8192x4096.size a) ∧
  (∀ a, (k0_off5 v0) a + S256x2048.size a ≤ S8192x4096.size a) ∧
  (∀ (r : Fin 31), ∀ a, (k0_off6 v0 (BitVec.ofNat 32 r.val)) a + S256x2048.size a ≤ S8192x4096.size a) ∧
  (∀ (r : Fin 31), ∀ a, (k0_off7 v0 (BitVec.ofNat 32 r.val)) a + S256x2048.size a ≤ S8192x4096.size a)
theorem k0_off1_inb : ∀ (v0 : BitVec 32) (k0_hw3 : k0_chk3 v0), ∀ a, (k0_off1 v0) a + S256x256.size a ≤ S8192x256.size a := fun v0 k0_hw3 => k0_hw3.1
theorem k0_off2_inb : ∀ (v0 : BitVec 32) (k0_hw3 : k0_chk3 v0), ∀ (r : Fin 31), ∀ a, (k0_off2 v0 (BitVec.ofNat 32 r.val)) a + S256x256.size a ≤ S8192x256.size a := fun v0 k0_hw3 r => k0_hw3.2.1 r
theorem k0_off3_inb : ∀ (v0 : BitVec 32) (k0_hw3 : k0_chk3 v0), ∀ (r : Fin 31), ∀ a, (k0_off3 v0 (BitVec.ofNat 32 r.val)) a + S256x256.size a ≤ S8192x256.size a := fun v0 k0_hw3 r => k0_hw3.2.2.1 r
theorem k0_off4_inb : ∀ (v0 : BitVec 32) (k0_hw3 : k0_chk3 v0), ∀ a, (k0_off4 v0) a + S256x2048.size a ≤ S8192x4096.size a := fun v0 k0_hw3 => k0_hw3.2.2.2.1
theorem k0_off5_inb : ∀ (v0 : BitVec 32) (k0_hw3 : k0_chk3 v0), ∀ a, (k0_off5 v0) a + S256x2048.size a ≤ S8192x4096.size a := fun v0 k0_hw3 => k0_hw3.2.2.2.2.1
theorem k0_off6_inb : ∀ (v0 : BitVec 32) (k0_hw3 : k0_chk3 v0), ∀ (r : Fin 31), ∀ a, (k0_off6 v0 (BitVec.ofNat 32 r.val)) a + S256x2048.size a ≤ S8192x4096.size a := fun v0 k0_hw3 r => k0_hw3.2.2.2.2.2.1 r
theorem k0_off7_inb : ∀ (v0 : BitVec 32) (k0_hw3 : k0_chk3 v0), ∀ (r : Fin 31), ∀ a, (k0_off7 v0 (BitVec.ofNat 32 r.val)) a + S256x2048.size a ≤ S8192x4096.size a := fun v0 k0_hw3 r => k0_hw3.2.2.2.2.2.2 r

def k0_dev129 (v1 : BitVec 32) : Nat :=
  let c0_i32_1867 : BitVec 32 := 0#32
  let c1_i32_1866 : BitVec 32 := 1#32
  let v1917 : BitVec 32 := Scalar.muli v1 c1_i32_1866
  let v1918 : BitVec 32 := Scalar.addi c0_i32_1867 v1917
  v1918.toNat
def k0_dev130 (v2 : BitVec 32) : Nat :=
  let c0_i32_1870 : BitVec 32 := 0#32
  let c1_i32_1869 : BitVec 32 := 1#32
  let v1921 : BitVec 32 := Scalar.muli v2 c1_i32_1869
  let v1922 : BitVec 32 := Scalar.addi c0_i32_1870 v1921
  v1922.toNat
def k0_dev131 (v2 : BitVec 32) : Nat :=
  let c0_i32_1898 : BitVec 32 := 0#32
  let c1_i32_1897 : BitVec 32 := 1#32
  let v1952 : BitVec 32 := Scalar.muli v2 c1_i32_1897
  let v1953 : BitVec 32 := Scalar.addi c0_i32_1898 v1952
  v1953.toNat
def k0_dev132 (v1 : BitVec 32) : Nat :=
  let c0_i32_1901 : BitVec 32 := 0#32
  let c1_i32_1900 : BitVec 32 := 1#32
  let v1954 : BitVec 32 := Scalar.muli v1 c1_i32_1900
  let v1955 : BitVec 32 := Scalar.addi c0_i32_1901 v1954
  v1955.toNat
def k0_dev133 (v1 : BitVec 32) : Nat :=
  let c0_i32_1908 : BitVec 32 := 0#32
  let c1_i32_1907 : BitVec 32 := 1#32
  let v1956 : BitVec 32 := Scalar.muli v1 c1_i32_1907
  let v1957 : BitVec 32 := Scalar.addi c0_i32_1908 v1956
  v1957.toNat
def k0_dev134 (v2 : BitVec 32) : Nat :=
  let c0_i32_1911 : BitVec 32 := 0#32
  let c1_i32_1910 : BitVec 32 := 1#32
  let v1960 : BitVec 32 := Scalar.muli v2 c1_i32_1910
  let v1961 : BitVec 32 := Scalar.addi c0_i32_1911 v1960
  v1961.toNat
def k0_dev135 (v2 : BitVec 32) : Nat :=
  let c0_i32_1939 : BitVec 32 := 0#32
  let c1_i32_1938 : BitVec 32 := 1#32
  let v1991 : BitVec 32 := Scalar.muli v2 c1_i32_1938
  let v1992 : BitVec 32 := Scalar.addi c0_i32_1939 v1991
  v1992.toNat
def k0_dev136 (v1 : BitVec 32) : Nat :=
  let c0_i32_1942 : BitVec 32 := 0#32
  let c1_i32_1941 : BitVec 32 := 1#32
  let v1993 : BitVec 32 := Scalar.muli v1 c1_i32_1941
  let v1994 : BitVec 32 := Scalar.addi c0_i32_1942 v1993
  v1994.toNat
def k0_dev137 (v1 : BitVec 32) : Nat :=
  let c0_i32_1949 : BitVec 32 := 0#32
  let c1_i32_1948 : BitVec 32 := 1#32
  let v1995 : BitVec 32 := Scalar.muli v1 c1_i32_1948
  let v1996 : BitVec 32 := Scalar.addi c0_i32_1949 v1995
  v1996.toNat
def k0_dev138 (v2 : BitVec 32) : Nat :=
  let c0_i32_1952 : BitVec 32 := 0#32
  let c1_i32_1951 : BitVec 32 := 1#32
  let v1999 : BitVec 32 := Scalar.muli v2 c1_i32_1951
  let v2000 : BitVec 32 := Scalar.addi c0_i32_1952 v1999
  v2000.toNat
def k0_dev139 (v2 : BitVec 32) : Nat :=
  let c0_i32_1980 : BitVec 32 := 0#32
  let c1_i32_1979 : BitVec 32 := 1#32
  let v2030 : BitVec 32 := Scalar.muli v2 c1_i32_1979
  let v2031 : BitVec 32 := Scalar.addi c0_i32_1980 v2030
  v2031.toNat
def k0_dev140 (v1 : BitVec 32) : Nat :=
  let c0_i32_1983 : BitVec 32 := 0#32
  let c1_i32_1982 : BitVec 32 := 1#32
  let v2032 : BitVec 32 := Scalar.muli v1 c1_i32_1982
  let v2033 : BitVec 32 := Scalar.addi c0_i32_1983 v2032
  v2033.toNat
def k0_dev141 (v1 : BitVec 32) : Nat :=
  let c0_i32_1990 : BitVec 32 := 0#32
  let c1_i32_1989 : BitVec 32 := 1#32
  let v2034 : BitVec 32 := Scalar.muli v1 c1_i32_1989
  let v2035 : BitVec 32 := Scalar.addi c0_i32_1990 v2034
  v2035.toNat
def k0_dev142 (v2 : BitVec 32) : Nat :=
  let c0_i32_1993 : BitVec 32 := 0#32
  let c1_i32_1992 : BitVec 32 := 1#32
  let v2038 : BitVec 32 := Scalar.muli v2 c1_i32_1992
  let v2039 : BitVec 32 := Scalar.addi c0_i32_1993 v2038
  v2039.toNat
def k0_dev143 (v2 : BitVec 32) : Nat :=
  let c0_i32_2021 : BitVec 32 := 0#32
  let c1_i32_2020 : BitVec 32 := 1#32
  let v2069 : BitVec 32 := Scalar.muli v2 c1_i32_2020
  let v2070 : BitVec 32 := Scalar.addi c0_i32_2021 v2069
  v2070.toNat
def k0_dev144 (v1 : BitVec 32) : Nat :=
  let c0_i32_2024 : BitVec 32 := 0#32
  let c1_i32_2023 : BitVec 32 := 1#32
  let v2071 : BitVec 32 := Scalar.muli v1 c1_i32_2023
  let v2072 : BitVec 32 := Scalar.addi c0_i32_2024 v2071
  v2072.toNat
def k0_dev145 (v1 : BitVec 32) : Nat :=
  let c0_i32_2031 : BitVec 32 := 0#32
  let c1_i32_2030 : BitVec 32 := 1#32
  let v2073 : BitVec 32 := Scalar.muli v1 c1_i32_2030
  let v2074 : BitVec 32 := Scalar.addi c0_i32_2031 v2073
  v2074.toNat
def k0_dev146 (v2 : BitVec 32) : Nat :=
  let c0_i32_2034 : BitVec 32 := 0#32
  let c1_i32_2033 : BitVec 32 := 1#32
  let v2077 : BitVec 32 := Scalar.muli v2 c1_i32_2033
  let v2078 : BitVec 32 := Scalar.addi c0_i32_2034 v2077
  v2078.toNat
def k0_dev147 (v2 : BitVec 32) : Nat :=
  let c0_i32_2062 : BitVec 32 := 0#32
  let c1_i32_2061 : BitVec 32 := 1#32
  let v2108 : BitVec 32 := Scalar.muli v2 c1_i32_2061
  let v2109 : BitVec 32 := Scalar.addi c0_i32_2062 v2108
  v2109.toNat
def k0_dev148 (v1 : BitVec 32) : Nat :=
  let c0_i32_2065 : BitVec 32 := 0#32
  let c1_i32_2064 : BitVec 32 := 1#32
  let v2110 : BitVec 32 := Scalar.muli v1 c1_i32_2064
  let v2111 : BitVec 32 := Scalar.addi c0_i32_2065 v2110
  v2111.toNat
def k0_dev149 (v1 : BitVec 32) : Nat :=
  let c0_i32_2072 : BitVec 32 := 0#32
  let c1_i32_2071 : BitVec 32 := 1#32
  let v2112 : BitVec 32 := Scalar.muli v1 c1_i32_2071
  let v2113 : BitVec 32 := Scalar.addi c0_i32_2072 v2112
  v2113.toNat
def k0_dev150 (v2 : BitVec 32) : Nat :=
  let c0_i32_2075 : BitVec 32 := 0#32
  let c1_i32_2074 : BitVec 32 := 1#32
  let v2116 : BitVec 32 := Scalar.muli v2 c1_i32_2074
  let v2117 : BitVec 32 := Scalar.addi c0_i32_2075 v2116
  v2117.toNat
def k0_dev151 (v2 : BitVec 32) : Nat :=
  let c0_i32_2103 : BitVec 32 := 0#32
  let c1_i32_2102 : BitVec 32 := 1#32
  let v2147 : BitVec 32 := Scalar.muli v2 c1_i32_2102
  let v2148 : BitVec 32 := Scalar.addi c0_i32_2103 v2147
  v2148.toNat
def k0_dev152 (v1 : BitVec 32) : Nat :=
  let c0_i32_2106 : BitVec 32 := 0#32
  let c1_i32_2105 : BitVec 32 := 1#32
  let v2149 : BitVec 32 := Scalar.muli v1 c1_i32_2105
  let v2150 : BitVec 32 := Scalar.addi c0_i32_2106 v2149
  v2150.toNat
def k0_dev153 (v1 : BitVec 32) : Nat :=
  let c0_i32_2113 : BitVec 32 := 0#32
  let c1_i32_2112 : BitVec 32 := 1#32
  let v2151 : BitVec 32 := Scalar.muli v1 c1_i32_2112
  let v2152 : BitVec 32 := Scalar.addi c0_i32_2113 v2151
  v2152.toNat
def k0_dev154 (v2 : BitVec 32) : Nat :=
  let c0_i32_2116 : BitVec 32 := 0#32
  let c1_i32_2115 : BitVec 32 := 1#32
  let v2155 : BitVec 32 := Scalar.muli v2 c1_i32_2115
  let v2156 : BitVec 32 := Scalar.addi c0_i32_2116 v2155
  v2156.toNat
def k0_dev155 (v2 : BitVec 32) : Nat :=
  let c0_i32_2144 : BitVec 32 := 0#32
  let c1_i32_2143 : BitVec 32 := 1#32
  let v2186 : BitVec 32 := Scalar.muli v2 c1_i32_2143
  let v2187 : BitVec 32 := Scalar.addi c0_i32_2144 v2186
  v2187.toNat
def k0_dev156 (v1 : BitVec 32) : Nat :=
  let c0_i32_2147 : BitVec 32 := 0#32
  let c1_i32_2146 : BitVec 32 := 1#32
  let v2188 : BitVec 32 := Scalar.muli v1 c1_i32_2146
  let v2189 : BitVec 32 := Scalar.addi c0_i32_2147 v2188
  v2189.toNat
def k0_dev157 (v1 : BitVec 32) : Nat :=
  let c0_i32_2154 : BitVec 32 := 0#32
  let c1_i32_2153 : BitVec 32 := 1#32
  let v2190 : BitVec 32 := Scalar.muli v1 c1_i32_2153
  let v2191 : BitVec 32 := Scalar.addi c0_i32_2154 v2190
  v2191.toNat
def k0_dev158 (v2 : BitVec 32) : Nat :=
  let c0_i32_2157 : BitVec 32 := 0#32
  let c1_i32_2156 : BitVec 32 := 1#32
  let v2194 : BitVec 32 := Scalar.muli v2 c1_i32_2156
  let v2195 : BitVec 32 := Scalar.addi c0_i32_2157 v2194
  v2195.toNat
def k0_dev159 (v2 : BitVec 32) : Nat :=
  let c0_i32_2185 : BitVec 32 := 0#32
  let c1_i32_2184 : BitVec 32 := 1#32
  let v2225 : BitVec 32 := Scalar.muli v2 c1_i32_2184
  let v2226 : BitVec 32 := Scalar.addi c0_i32_2185 v2225
  v2226.toNat
def k0_dev160 (v1 : BitVec 32) : Nat :=
  let c0_i32_2188 : BitVec 32 := 0#32
  let c1_i32_2187 : BitVec 32 := 1#32
  let v2227 : BitVec 32 := Scalar.muli v1 c1_i32_2187
  let v2228 : BitVec 32 := Scalar.addi c0_i32_2188 v2227
  v2228.toNat
def k0_dev161 (v1 : BitVec 32) : Nat :=
  let c0_i32_2195 : BitVec 32 := 0#32
  let c1_i32_2194 : BitVec 32 := 1#32
  let v2229 : BitVec 32 := Scalar.muli v1 c1_i32_2194
  let v2230 : BitVec 32 := Scalar.addi c0_i32_2195 v2229
  v2230.toNat
def k0_dev162 (v2 : BitVec 32) : Nat :=
  let c0_i32_2198 : BitVec 32 := 0#32
  let c1_i32_2197 : BitVec 32 := 1#32
  let v2233 : BitVec 32 := Scalar.muli v2 c1_i32_2197
  let v2234 : BitVec 32 := Scalar.addi c0_i32_2198 v2233
  v2234.toNat
def k0_dev163 (v2 : BitVec 32) : Nat :=
  let c0_i32_2226 : BitVec 32 := 0#32
  let c1_i32_2225 : BitVec 32 := 1#32
  let v2264 : BitVec 32 := Scalar.muli v2 c1_i32_2225
  let v2265 : BitVec 32 := Scalar.addi c0_i32_2226 v2264
  v2265.toNat
def k0_dev164 (v1 : BitVec 32) : Nat :=
  let c0_i32_2229 : BitVec 32 := 0#32
  let c1_i32_2228 : BitVec 32 := 1#32
  let v2266 : BitVec 32 := Scalar.muli v1 c1_i32_2228
  let v2267 : BitVec 32 := Scalar.addi c0_i32_2229 v2266
  v2267.toNat
def k0_dev165 (v1 : BitVec 32) : Nat :=
  let c0_i32_2236 : BitVec 32 := 0#32
  let c1_i32_2235 : BitVec 32 := 1#32
  let v2268 : BitVec 32 := Scalar.muli v1 c1_i32_2235
  let v2269 : BitVec 32 := Scalar.addi c0_i32_2236 v2268
  v2269.toNat
def k0_dev166 (v2 : BitVec 32) : Nat :=
  let c0_i32_2239 : BitVec 32 := 0#32
  let c1_i32_2238 : BitVec 32 := 1#32
  let v2272 : BitVec 32 := Scalar.muli v2 c1_i32_2238
  let v2273 : BitVec 32 := Scalar.addi c0_i32_2239 v2272
  v2273.toNat
def k0_dev167 (v2 : BitVec 32) : Nat :=
  let c0_i32_2267 : BitVec 32 := 0#32
  let c1_i32_2266 : BitVec 32 := 1#32
  let v2303 : BitVec 32 := Scalar.muli v2 c1_i32_2266
  let v2304 : BitVec 32 := Scalar.addi c0_i32_2267 v2303
  v2304.toNat
def k0_dev168 (v1 : BitVec 32) : Nat :=
  let c0_i32_2270 : BitVec 32 := 0#32
  let c1_i32_2269 : BitVec 32 := 1#32
  let v2305 : BitVec 32 := Scalar.muli v1 c1_i32_2269
  let v2306 : BitVec 32 := Scalar.addi c0_i32_2270 v2305
  v2306.toNat
def k0_dev169 (v1 : BitVec 32) : Nat :=
  let c0_i32_2277 : BitVec 32 := 0#32
  let c1_i32_2276 : BitVec 32 := 1#32
  let v2307 : BitVec 32 := Scalar.muli v1 c1_i32_2276
  let v2308 : BitVec 32 := Scalar.addi c0_i32_2277 v2307
  v2308.toNat
def k0_dev170 (v2 : BitVec 32) : Nat :=
  let c0_i32_2280 : BitVec 32 := 0#32
  let c1_i32_2279 : BitVec 32 := 1#32
  let v2311 : BitVec 32 := Scalar.muli v2 c1_i32_2279
  let v2312 : BitVec 32 := Scalar.addi c0_i32_2280 v2311
  v2312.toNat
def k0_dev171 (v2 : BitVec 32) : Nat :=
  let c0_i32_2308 : BitVec 32 := 0#32
  let c1_i32_2307 : BitVec 32 := 1#32
  let v2342 : BitVec 32 := Scalar.muli v2 c1_i32_2307
  let v2343 : BitVec 32 := Scalar.addi c0_i32_2308 v2342
  v2343.toNat
def k0_dev172 (v1 : BitVec 32) : Nat :=
  let c0_i32_2311 : BitVec 32 := 0#32
  let c1_i32_2310 : BitVec 32 := 1#32
  let v2344 : BitVec 32 := Scalar.muli v1 c1_i32_2310
  let v2345 : BitVec 32 := Scalar.addi c0_i32_2311 v2344
  v2345.toNat
def k0_dev173 (v1 : BitVec 32) : Nat :=
  let c0_i32_2318 : BitVec 32 := 0#32
  let c1_i32_2317 : BitVec 32 := 1#32
  let v2346 : BitVec 32 := Scalar.muli v1 c1_i32_2317
  let v2347 : BitVec 32 := Scalar.addi c0_i32_2318 v2346
  v2347.toNat
def k0_dev174 (v2 : BitVec 32) : Nat :=
  let c0_i32_2321 : BitVec 32 := 0#32
  let c1_i32_2320 : BitVec 32 := 1#32
  let v2350 : BitVec 32 := Scalar.muli v2 c1_i32_2320
  let v2351 : BitVec 32 := Scalar.addi c0_i32_2321 v2350
  v2351.toNat
def k0_dev175 (v2 : BitVec 32) : Nat :=
  let c0_i32_2349 : BitVec 32 := 0#32
  let c1_i32_2348 : BitVec 32 := 1#32
  let v2381 : BitVec 32 := Scalar.muli v2 c1_i32_2348
  let v2382 : BitVec 32 := Scalar.addi c0_i32_2349 v2381
  v2382.toNat
def k0_dev176 (v1 : BitVec 32) : Nat :=
  let c0_i32_2352 : BitVec 32 := 0#32
  let c1_i32_2351 : BitVec 32 := 1#32
  let v2383 : BitVec 32 := Scalar.muli v1 c1_i32_2351
  let v2384 : BitVec 32 := Scalar.addi c0_i32_2352 v2383
  v2384.toNat
def k0_dev177 (v1 : BitVec 32) : Nat :=
  let c0_i32_2359 : BitVec 32 := 0#32
  let c1_i32_2358 : BitVec 32 := 1#32
  let v2385 : BitVec 32 := Scalar.muli v1 c1_i32_2358
  let v2386 : BitVec 32 := Scalar.addi c0_i32_2359 v2385
  v2386.toNat
def k0_dev178 (v2 : BitVec 32) : Nat :=
  let c0_i32_2362 : BitVec 32 := 0#32
  let c1_i32_2361 : BitVec 32 := 1#32
  let v2389 : BitVec 32 := Scalar.muli v2 c1_i32_2361
  let v2390 : BitVec 32 := Scalar.addi c0_i32_2362 v2389
  v2390.toNat
def k0_dev179 (v2 : BitVec 32) : Nat :=
  let c0_i32_2390 : BitVec 32 := 0#32
  let c1_i32_2389 : BitVec 32 := 1#32
  let v2420 : BitVec 32 := Scalar.muli v2 c1_i32_2389
  let v2421 : BitVec 32 := Scalar.addi c0_i32_2390 v2420
  v2421.toNat
def k0_dev180 (v1 : BitVec 32) : Nat :=
  let c0_i32_2393 : BitVec 32 := 0#32
  let c1_i32_2392 : BitVec 32 := 1#32
  let v2422 : BitVec 32 := Scalar.muli v1 c1_i32_2392
  let v2423 : BitVec 32 := Scalar.addi c0_i32_2393 v2422
  v2423.toNat
def k0_dev181 (v1 : BitVec 32) : Nat :=
  let c0_i32_2400 : BitVec 32 := 0#32
  let c1_i32_2399 : BitVec 32 := 1#32
  let v2424 : BitVec 32 := Scalar.muli v1 c1_i32_2399
  let v2425 : BitVec 32 := Scalar.addi c0_i32_2400 v2424
  v2425.toNat
def k0_dev182 (v2 : BitVec 32) : Nat :=
  let c0_i32_2403 : BitVec 32 := 0#32
  let c1_i32_2402 : BitVec 32 := 1#32
  let v2428 : BitVec 32 := Scalar.muli v2 c1_i32_2402
  let v2429 : BitVec 32 := Scalar.addi c0_i32_2403 v2428
  v2429.toNat
def k0_dev183 (v2 : BitVec 32) : Nat :=
  let c0_i32_2431 : BitVec 32 := 0#32
  let c1_i32_2430 : BitVec 32 := 1#32
  let v2459 : BitVec 32 := Scalar.muli v2 c1_i32_2430
  let v2460 : BitVec 32 := Scalar.addi c0_i32_2431 v2459
  v2460.toNat
def k0_dev184 (v1 : BitVec 32) : Nat :=
  let c0_i32_2434 : BitVec 32 := 0#32
  let c1_i32_2433 : BitVec 32 := 1#32
  let v2461 : BitVec 32 := Scalar.muli v1 c1_i32_2433
  let v2462 : BitVec 32 := Scalar.addi c0_i32_2434 v2461
  v2462.toNat
def k0_dev185 (v1 : BitVec 32) : Nat :=
  let c0_i32_2441 : BitVec 32 := 0#32
  let c1_i32_2440 : BitVec 32 := 1#32
  let v2463 : BitVec 32 := Scalar.muli v1 c1_i32_2440
  let v2464 : BitVec 32 := Scalar.addi c0_i32_2441 v2463
  v2464.toNat
def k0_dev186 (v2 : BitVec 32) : Nat :=
  let c0_i32_2444 : BitVec 32 := 0#32
  let c1_i32_2443 : BitVec 32 := 1#32
  let v2467 : BitVec 32 := Scalar.muli v2 c1_i32_2443
  let v2468 : BitVec 32 := Scalar.addi c0_i32_2444 v2467
  v2468.toNat
def k0_dev187 (v2 : BitVec 32) : Nat :=
  let c0_i32_2472 : BitVec 32 := 0#32
  let c1_i32_2471 : BitVec 32 := 1#32
  let v2498 : BitVec 32 := Scalar.muli v2 c1_i32_2471
  let v2499 : BitVec 32 := Scalar.addi c0_i32_2472 v2498
  v2499.toNat
def k0_dev188 (v1 : BitVec 32) : Nat :=
  let c0_i32_2475 : BitVec 32 := 0#32
  let c1_i32_2474 : BitVec 32 := 1#32
  let v2500 : BitVec 32 := Scalar.muli v1 c1_i32_2474
  let v2501 : BitVec 32 := Scalar.addi c0_i32_2475 v2500
  v2501.toNat
def k0_dev189 (v1 : BitVec 32) : Nat :=
  let c0_i32_2482 : BitVec 32 := 0#32
  let c1_i32_2481 : BitVec 32 := 1#32
  let v2502 : BitVec 32 := Scalar.muli v1 c1_i32_2481
  let v2503 : BitVec 32 := Scalar.addi c0_i32_2482 v2502
  v2503.toNat
def k0_dev190 (v2 : BitVec 32) : Nat :=
  let c0_i32_2485 : BitVec 32 := 0#32
  let c1_i32_2484 : BitVec 32 := 1#32
  let v2506 : BitVec 32 := Scalar.muli v2 c1_i32_2484
  let v2507 : BitVec 32 := Scalar.addi c0_i32_2485 v2506
  v2507.toNat
def k0_dev191 (v2 : BitVec 32) : Nat :=
  let c0_i32_2513 : BitVec 32 := 0#32
  let c1_i32_2512 : BitVec 32 := 1#32
  let v2537 : BitVec 32 := Scalar.muli v2 c1_i32_2512
  let v2538 : BitVec 32 := Scalar.addi c0_i32_2513 v2537
  v2538.toNat
def k0_dev192 (v1 : BitVec 32) : Nat :=
  let c0_i32_2516 : BitVec 32 := 0#32
  let c1_i32_2515 : BitVec 32 := 1#32
  let v2539 : BitVec 32 := Scalar.muli v1 c1_i32_2515
  let v2540 : BitVec 32 := Scalar.addi c0_i32_2516 v2539
  v2540.toNat
def k0_dev193 (v1 : BitVec 32) : Nat :=
  let c0_i32_2523 : BitVec 32 := 0#32
  let c1_i32_2522 : BitVec 32 := 1#32
  let v2541 : BitVec 32 := Scalar.muli v1 c1_i32_2522
  let v2542 : BitVec 32 := Scalar.addi c0_i32_2523 v2541
  v2542.toNat
def k0_dev194 (v2 : BitVec 32) : Nat :=
  let c0_i32_2526 : BitVec 32 := 0#32
  let c1_i32_2525 : BitVec 32 := 1#32
  let v2545 : BitVec 32 := Scalar.muli v2 c1_i32_2525
  let v2546 : BitVec 32 := Scalar.addi c0_i32_2526 v2545
  v2546.toNat
def k0_dev195 (v2 : BitVec 32) : Nat :=
  let c0_i32_2554 : BitVec 32 := 0#32
  let c1_i32_2553 : BitVec 32 := 1#32
  let v2576 : BitVec 32 := Scalar.muli v2 c1_i32_2553
  let v2577 : BitVec 32 := Scalar.addi c0_i32_2554 v2576
  v2577.toNat
def k0_dev196 (v1 : BitVec 32) : Nat :=
  let c0_i32_2557 : BitVec 32 := 0#32
  let c1_i32_2556 : BitVec 32 := 1#32
  let v2578 : BitVec 32 := Scalar.muli v1 c1_i32_2556
  let v2579 : BitVec 32 := Scalar.addi c0_i32_2557 v2578
  v2579.toNat
def k0_dev197 (v1 : BitVec 32) : Nat :=
  let c0_i32_2564 : BitVec 32 := 0#32
  let c1_i32_2563 : BitVec 32 := 1#32
  let v2580 : BitVec 32 := Scalar.muli v1 c1_i32_2563
  let v2581 : BitVec 32 := Scalar.addi c0_i32_2564 v2580
  v2581.toNat
def k0_dev198 (v2 : BitVec 32) : Nat :=
  let c0_i32_2567 : BitVec 32 := 0#32
  let c1_i32_2566 : BitVec 32 := 1#32
  let v2584 : BitVec 32 := Scalar.muli v2 c1_i32_2566
  let v2585 : BitVec 32 := Scalar.addi c0_i32_2567 v2584
  v2585.toNat
def k0_dev199 (v2 : BitVec 32) : Nat :=
  let c0_i32_2595 : BitVec 32 := 0#32
  let c1_i32_2594 : BitVec 32 := 1#32
  let v2615 : BitVec 32 := Scalar.muli v2 c1_i32_2594
  let v2616 : BitVec 32 := Scalar.addi c0_i32_2595 v2615
  v2616.toNat
def k0_dev200 (v1 : BitVec 32) : Nat :=
  let c0_i32_2598 : BitVec 32 := 0#32
  let c1_i32_2597 : BitVec 32 := 1#32
  let v2617 : BitVec 32 := Scalar.muli v1 c1_i32_2597
  let v2618 : BitVec 32 := Scalar.addi c0_i32_2598 v2617
  v2618.toNat
def k0_dev201 (v1 : BitVec 32) : Nat :=
  let c0_i32_2605 : BitVec 32 := 0#32
  let c1_i32_2604 : BitVec 32 := 1#32
  let v2619 : BitVec 32 := Scalar.muli v1 c1_i32_2604
  let v2620 : BitVec 32 := Scalar.addi c0_i32_2605 v2619
  v2620.toNat
def k0_dev202 (v2 : BitVec 32) : Nat :=
  let c0_i32_2608 : BitVec 32 := 0#32
  let c1_i32_2607 : BitVec 32 := 1#32
  let v2623 : BitVec 32 := Scalar.muli v2 c1_i32_2607
  let v2624 : BitVec 32 := Scalar.addi c0_i32_2608 v2623
  v2624.toNat
def k0_dev203 (v2 : BitVec 32) : Nat :=
  let c0_i32_2636 : BitVec 32 := 0#32
  let c1_i32_2635 : BitVec 32 := 1#32
  let v2654 : BitVec 32 := Scalar.muli v2 c1_i32_2635
  let v2655 : BitVec 32 := Scalar.addi c0_i32_2636 v2654
  v2655.toNat
def k0_dev204 (v1 : BitVec 32) : Nat :=
  let c0_i32_2639 : BitVec 32 := 0#32
  let c1_i32_2638 : BitVec 32 := 1#32
  let v2656 : BitVec 32 := Scalar.muli v1 c1_i32_2638
  let v2657 : BitVec 32 := Scalar.addi c0_i32_2639 v2656
  v2657.toNat
def k0_dev205 (v1 : BitVec 32) : Nat :=
  let c0_i32_2646 : BitVec 32 := 0#32
  let c1_i32_2645 : BitVec 32 := 1#32
  let v2658 : BitVec 32 := Scalar.muli v1 c1_i32_2645
  let v2659 : BitVec 32 := Scalar.addi c0_i32_2646 v2658
  v2659.toNat
def k0_dev206 (v2 : BitVec 32) : Nat :=
  let c0_i32_2649 : BitVec 32 := 0#32
  let c1_i32_2648 : BitVec 32 := 1#32
  let v2662 : BitVec 32 := Scalar.muli v2 c1_i32_2648
  let v2663 : BitVec 32 := Scalar.addi c0_i32_2649 v2662
  v2663.toNat
def k0_dev207 (v2 : BitVec 32) : Nat :=
  let c0_i32_2677 : BitVec 32 := 0#32
  let c1_i32_2676 : BitVec 32 := 1#32
  let v2693 : BitVec 32 := Scalar.muli v2 c1_i32_2676
  let v2694 : BitVec 32 := Scalar.addi c0_i32_2677 v2693
  v2694.toNat
def k0_dev208 (v1 : BitVec 32) : Nat :=
  let c0_i32_2680 : BitVec 32 := 0#32
  let c1_i32_2679 : BitVec 32 := 1#32
  let v2695 : BitVec 32 := Scalar.muli v1 c1_i32_2679
  let v2696 : BitVec 32 := Scalar.addi c0_i32_2680 v2695
  v2696.toNat
def k0_dev209 (v1 : BitVec 32) : Nat :=
  let c0_i32_2687 : BitVec 32 := 0#32
  let c1_i32_2686 : BitVec 32 := 1#32
  let v2697 : BitVec 32 := Scalar.muli v1 c1_i32_2686
  let v2698 : BitVec 32 := Scalar.addi c0_i32_2687 v2697
  v2698.toNat
def k0_dev210 (v2 : BitVec 32) : Nat :=
  let c0_i32_2690 : BitVec 32 := 0#32
  let c1_i32_2689 : BitVec 32 := 1#32
  let v2701 : BitVec 32 := Scalar.muli v2 c1_i32_2689
  let v2702 : BitVec 32 := Scalar.addi c0_i32_2690 v2701
  v2702.toNat
def k0_dev211 (v2 : BitVec 32) : Nat :=
  let c0_i32_2718 : BitVec 32 := 0#32
  let c1_i32_2717 : BitVec 32 := 1#32
  let v2732 : BitVec 32 := Scalar.muli v2 c1_i32_2717
  let v2733 : BitVec 32 := Scalar.addi c0_i32_2718 v2732
  v2733.toNat
def k0_dev212 (v1 : BitVec 32) : Nat :=
  let c0_i32_2721 : BitVec 32 := 0#32
  let c1_i32_2720 : BitVec 32 := 1#32
  let v2734 : BitVec 32 := Scalar.muli v1 c1_i32_2720
  let v2735 : BitVec 32 := Scalar.addi c0_i32_2721 v2734
  v2735.toNat
def k0_dev213 (v1 : BitVec 32) : Nat :=
  let c0_i32_2728 : BitVec 32 := 0#32
  let c1_i32_2727 : BitVec 32 := 1#32
  let v2736 : BitVec 32 := Scalar.muli v1 c1_i32_2727
  let v2737 : BitVec 32 := Scalar.addi c0_i32_2728 v2736
  v2737.toNat
def k0_dev214 (v2 : BitVec 32) : Nat :=
  let c0_i32_2731 : BitVec 32 := 0#32
  let c1_i32_2730 : BitVec 32 := 1#32
  let v2740 : BitVec 32 := Scalar.muli v2 c1_i32_2730
  let v2741 : BitVec 32 := Scalar.addi c0_i32_2731 v2740
  v2741.toNat
def k0_dev215 (v2 : BitVec 32) : Nat :=
  let c0_i32_2759 : BitVec 32 := 0#32
  let c1_i32_2758 : BitVec 32 := 1#32
  let v2771 : BitVec 32 := Scalar.muli v2 c1_i32_2758
  let v2772 : BitVec 32 := Scalar.addi c0_i32_2759 v2771
  v2772.toNat
def k0_dev216 (v1 : BitVec 32) : Nat :=
  let c0_i32_2762 : BitVec 32 := 0#32
  let c1_i32_2761 : BitVec 32 := 1#32
  let v2773 : BitVec 32 := Scalar.muli v1 c1_i32_2761
  let v2774 : BitVec 32 := Scalar.addi c0_i32_2762 v2773
  v2774.toNat
def k0_dev217 (v1 : BitVec 32) : Nat :=
  let c0_i32_2769 : BitVec 32 := 0#32
  let c1_i32_2768 : BitVec 32 := 1#32
  let v2775 : BitVec 32 := Scalar.muli v1 c1_i32_2768
  let v2776 : BitVec 32 := Scalar.addi c0_i32_2769 v2775
  v2776.toNat
def k0_dev218 (v2 : BitVec 32) : Nat :=
  let c0_i32_2772 : BitVec 32 := 0#32
  let c1_i32_2771 : BitVec 32 := 1#32
  let v2779 : BitVec 32 := Scalar.muli v2 c1_i32_2771
  let v2780 : BitVec 32 := Scalar.addi c0_i32_2772 v2779
  v2780.toNat
def k0_dev219 (v2 : BitVec 32) : Nat :=
  let c0_i32_2800 : BitVec 32 := 0#32
  let c1_i32_2799 : BitVec 32 := 1#32
  let v2810 : BitVec 32 := Scalar.muli v2 c1_i32_2799
  let v2811 : BitVec 32 := Scalar.addi c0_i32_2800 v2810
  v2811.toNat
def k0_dev220 (v1 : BitVec 32) : Nat :=
  let c0_i32_2803 : BitVec 32 := 0#32
  let c1_i32_2802 : BitVec 32 := 1#32
  let v2812 : BitVec 32 := Scalar.muli v1 c1_i32_2802
  let v2813 : BitVec 32 := Scalar.addi c0_i32_2803 v2812
  v2813.toNat
def k0_dev221 (v1 : BitVec 32) : Nat :=
  let c0_i32_2810 : BitVec 32 := 0#32
  let c1_i32_2809 : BitVec 32 := 1#32
  let v2814 : BitVec 32 := Scalar.muli v1 c1_i32_2809
  let v2815 : BitVec 32 := Scalar.addi c0_i32_2810 v2814
  v2815.toNat
def k0_dev222 (v2 : BitVec 32) : Nat :=
  let c0_i32_2813 : BitVec 32 := 0#32
  let c1_i32_2812 : BitVec 32 := 1#32
  let v2818 : BitVec 32 := Scalar.muli v2 c1_i32_2812
  let v2819 : BitVec 32 := Scalar.addi c0_i32_2813 v2818
  v2819.toNat
def k0_dev223 (v2 : BitVec 32) : Nat :=
  let c0_i32_2841 : BitVec 32 := 0#32
  let c1_i32_2840 : BitVec 32 := 1#32
  let v2849 : BitVec 32 := Scalar.muli v2 c1_i32_2840
  let v2850 : BitVec 32 := Scalar.addi c0_i32_2841 v2849
  v2850.toNat
def k0_dev224 (v1 : BitVec 32) : Nat :=
  let c0_i32_2844 : BitVec 32 := 0#32
  let c1_i32_2843 : BitVec 32 := 1#32
  let v2851 : BitVec 32 := Scalar.muli v1 c1_i32_2843
  let v2852 : BitVec 32 := Scalar.addi c0_i32_2844 v2851
  v2852.toNat
def k0_dev225 (v1 : BitVec 32) : Nat :=
  let c0_i32_2851 : BitVec 32 := 0#32
  let c1_i32_2850 : BitVec 32 := 1#32
  let v2853 : BitVec 32 := Scalar.muli v1 c1_i32_2850
  let v2854 : BitVec 32 := Scalar.addi c0_i32_2851 v2853
  v2854.toNat
def k0_dev226 (v2 : BitVec 32) : Nat :=
  let c0_i32_2854 : BitVec 32 := 0#32
  let c1_i32_2853 : BitVec 32 := 1#32
  let v2857 : BitVec 32 := Scalar.muli v2 c1_i32_2853
  let v2858 : BitVec 32 := Scalar.addi c0_i32_2854 v2857
  v2858.toNat
def k0_dev227 (v2 : BitVec 32) : Nat :=
  let c0_i32_2882 : BitVec 32 := 0#32
  let c1_i32_2881 : BitVec 32 := 1#32
  let v2888 : BitVec 32 := Scalar.muli v2 c1_i32_2881
  let v2889 : BitVec 32 := Scalar.addi c0_i32_2882 v2888
  v2889.toNat
def k0_dev228 (v1 : BitVec 32) : Nat :=
  let c0_i32_2885 : BitVec 32 := 0#32
  let c1_i32_2884 : BitVec 32 := 1#32
  let v2890 : BitVec 32 := Scalar.muli v1 c1_i32_2884
  let v2891 : BitVec 32 := Scalar.addi c0_i32_2885 v2890
  v2891.toNat
def k0_dev229 (v1 : BitVec 32) : Nat :=
  let c0_i32_2892 : BitVec 32 := 0#32
  let c1_i32_2891 : BitVec 32 := 1#32
  let v2892 : BitVec 32 := Scalar.muli v1 c1_i32_2891
  let v2893 : BitVec 32 := Scalar.addi c0_i32_2892 v2892
  v2893.toNat
def k0_dev230 (v2 : BitVec 32) : Nat :=
  let c0_i32_2895 : BitVec 32 := 0#32
  let c1_i32_2894 : BitVec 32 := 1#32
  let v2896 : BitVec 32 := Scalar.muli v2 c1_i32_2894
  let v2897 : BitVec 32 := Scalar.addi c0_i32_2895 v2896
  v2897.toNat
def k0_dev231 (v2 : BitVec 32) : Nat :=
  let c0_i32_2923 : BitVec 32 := 0#32
  let c1_i32_2922 : BitVec 32 := 1#32
  let v2927 : BitVec 32 := Scalar.muli v2 c1_i32_2922
  let v2928 : BitVec 32 := Scalar.addi c0_i32_2923 v2927
  v2928.toNat
def k0_dev232 (v1 : BitVec 32) : Nat :=
  let c0_i32_2926 : BitVec 32 := 0#32
  let c1_i32_2925 : BitVec 32 := 1#32
  let v2929 : BitVec 32 := Scalar.muli v1 c1_i32_2925
  let v2930 : BitVec 32 := Scalar.addi c0_i32_2926 v2929
  v2930.toNat
def k0_dev233 (v1 : BitVec 32) : Nat :=
  let c0_i32_2933 : BitVec 32 := 0#32
  let c1_i32_2932 : BitVec 32 := 1#32
  let v2931 : BitVec 32 := Scalar.muli v1 c1_i32_2932
  let v2932 : BitVec 32 := Scalar.addi c0_i32_2933 v2931
  v2932.toNat
def k0_dev234 (v2 : BitVec 32) : Nat :=
  let c0_i32_2936 : BitVec 32 := 0#32
  let c1_i32_2935 : BitVec 32 := 1#32
  let v2935 : BitVec 32 := Scalar.muli v2 c1_i32_2935
  let v2936 : BitVec 32 := Scalar.addi c0_i32_2936 v2935
  v2936.toNat
def k0_dev235 (v2 : BitVec 32) : Nat :=
  let c0_i32_2964 : BitVec 32 := 0#32
  let c1_i32_2963 : BitVec 32 := 1#32
  let v2966 : BitVec 32 := Scalar.muli v2 c1_i32_2963
  let v2967 : BitVec 32 := Scalar.addi c0_i32_2964 v2966
  v2967.toNat
def k0_dev236 (v1 : BitVec 32) : Nat :=
  let c0_i32_2967 : BitVec 32 := 0#32
  let c1_i32_2966 : BitVec 32 := 1#32
  let v2968 : BitVec 32 := Scalar.muli v1 c1_i32_2966
  let v2969 : BitVec 32 := Scalar.addi c0_i32_2967 v2968
  v2969.toNat
def k0_dev237 (v1 : BitVec 32) : Nat :=
  let c0_i32_2974 : BitVec 32 := 0#32
  let c1_i32_2973 : BitVec 32 := 1#32
  let v2970 : BitVec 32 := Scalar.muli v1 c1_i32_2973
  let v2971 : BitVec 32 := Scalar.addi c0_i32_2974 v2970
  v2971.toNat
def k0_dev238 (v2 : BitVec 32) : Nat :=
  let c0_i32_2977 : BitVec 32 := 0#32
  let c1_i32_2976 : BitVec 32 := 1#32
  let v2974 : BitVec 32 := Scalar.muli v2 c1_i32_2976
  let v2975 : BitVec 32 := Scalar.addi c0_i32_2977 v2974
  v2975.toNat
def k0_dev239 (v2 : BitVec 32) : Nat :=
  let c0_i32_3005 : BitVec 32 := 0#32
  let c1_i32_3004 : BitVec 32 := 1#32
  let v3005 : BitVec 32 := Scalar.muli v2 c1_i32_3004
  let v3006 : BitVec 32 := Scalar.addi c0_i32_3005 v3005
  v3006.toNat
def k0_dev240 (v1 : BitVec 32) : Nat :=
  let c0_i32_3008 : BitVec 32 := 0#32
  let c1_i32_3007 : BitVec 32 := 1#32
  let v3007 : BitVec 32 := Scalar.muli v1 c1_i32_3007
  let v3008 : BitVec 32 := Scalar.addi c0_i32_3008 v3007
  v3008.toNat
def k0_dev241 (v1 : BitVec 32) : Nat :=
  let c0_i32_3015 : BitVec 32 := 0#32
  let c1_i32_3014 : BitVec 32 := 1#32
  let v3009 : BitVec 32 := Scalar.muli v1 c1_i32_3014
  let v3010 : BitVec 32 := Scalar.addi c0_i32_3015 v3009
  v3010.toNat
def k0_dev242 (v2 : BitVec 32) : Nat :=
  let c0_i32_3018 : BitVec 32 := 0#32
  let c1_i32_3017 : BitVec 32 := 1#32
  let v3013 : BitVec 32 := Scalar.muli v2 c1_i32_3017
  let v3014 : BitVec 32 := Scalar.addi c0_i32_3018 v3013
  v3014.toNat
def k0_dev243 (v2 : BitVec 32) : Nat :=
  let c0_i32_3046 : BitVec 32 := 0#32
  let c1_i32_3045 : BitVec 32 := 1#32
  let v3044 : BitVec 32 := Scalar.muli v2 c1_i32_3045
  let v3045 : BitVec 32 := Scalar.addi c0_i32_3046 v3044
  v3045.toNat
def k0_dev244 (v1 : BitVec 32) : Nat :=
  let c0_i32_3049 : BitVec 32 := 0#32
  let c1_i32_3048 : BitVec 32 := 1#32
  let v3046 : BitVec 32 := Scalar.muli v1 c1_i32_3048
  let v3047 : BitVec 32 := Scalar.addi c0_i32_3049 v3046
  v3047.toNat
def k0_dev245 (v1 : BitVec 32) : Nat :=
  let c0_i32_3056 : BitVec 32 := 0#32
  let c1_i32_3055 : BitVec 32 := 1#32
  let v3048 : BitVec 32 := Scalar.muli v1 c1_i32_3055
  let v3049 : BitVec 32 := Scalar.addi c0_i32_3056 v3048
  v3049.toNat

def k0_chk2_0 (v1 : BitVec 32) : Prop :=
  ((k0_dev2 v1) < nD) ∧
  ((k0_dev3 v1) < nD) ∧
  ((k0_dev6 v1) < nD) ∧
  ((k0_dev7 v1) < nD) ∧
  ((k0_dev10 v1) < nD) ∧
  ((k0_dev11 v1) < nD) ∧
  ((k0_dev14 v1) < nD) ∧
  ((k0_dev15 v1) < nD) ∧
  ((k0_dev18 v1) < nD) ∧
  ((k0_dev19 v1) < nD) ∧
  ((k0_dev22 v1) < nD) ∧
  ((k0_dev23 v1) < nD) ∧
  ((k0_dev26 v1) < nD) ∧
  ((k0_dev27 v1) < nD) ∧
  ((k0_dev30 v1) < nD) ∧
  ((k0_dev31 v1) < nD) ∧
  ((k0_dev34 v1) < nD) ∧
  ((k0_dev35 v1) < nD) ∧
  ((k0_dev38 v1) < nD) ∧
  ((k0_dev39 v1) < nD) ∧
  ((k0_dev42 v1) < nD) ∧
  ((k0_dev43 v1) < nD) ∧
  ((k0_dev46 v1) < nD) ∧
  ((k0_dev47 v1) < nD) ∧
  ((k0_dev50 v1) < nD) ∧
  ((k0_dev51 v1) < nD) ∧
  ((k0_dev54 v1) < nD) ∧
  ((k0_dev55 v1) < nD) ∧
  ((k0_dev58 v1) < nD) ∧
  ((k0_dev59 v1) < nD) ∧
  ((k0_dev62 v1) < nD) ∧
  ((k0_dev63 v1) < nD)
def k0_chk2_1 (v1 : BitVec 32) : Prop :=
  ((k0_dev66 v1) < nD) ∧
  ((k0_dev67 v1) < nD) ∧
  ((k0_dev70 v1) < nD) ∧
  ((k0_dev71 v1) < nD) ∧
  ((k0_dev74 v1) < nD) ∧
  ((k0_dev75 v1) < nD) ∧
  ((k0_dev78 v1) < nD) ∧
  ((k0_dev79 v1) < nD) ∧
  ((k0_dev82 v1) < nD) ∧
  ((k0_dev83 v1) < nD) ∧
  ((k0_dev86 v1) < nD) ∧
  ((k0_dev87 v1) < nD) ∧
  ((k0_dev90 v1) < nD) ∧
  ((k0_dev91 v1) < nD) ∧
  ((k0_dev94 v1) < nD) ∧
  ((k0_dev95 v1) < nD) ∧
  ((k0_dev98 v1) < nD) ∧
  ((k0_dev99 v1) < nD) ∧
  ((k0_dev102 v1) < nD) ∧
  ((k0_dev103 v1) < nD) ∧
  ((k0_dev106 v1) < nD) ∧
  ((k0_dev107 v1) < nD) ∧
  ((k0_dev110 v1) < nD) ∧
  ((k0_dev111 v1) < nD) ∧
  ((k0_dev114 v1) < nD) ∧
  ((k0_dev115 v1) < nD) ∧
  ((k0_dev118 v1) < nD) ∧
  ((k0_dev119 v1) < nD) ∧
  ((k0_dev121 v1) < nD) ∧
  ((k0_dev124 v1) < nD) ∧
  ((k0_dev126 v1) < nD) ∧
  ((k0_dev127 v1) < nD)
def k0_chk2_2 (v1 : BitVec 32) : Prop :=
  ((k0_dev129 v1) < nD) ∧
  ((k0_dev132 v1) < nD) ∧
  ((k0_dev133 v1) < nD) ∧
  ((k0_dev136 v1) < nD) ∧
  ((k0_dev137 v1) < nD) ∧
  ((k0_dev140 v1) < nD) ∧
  ((k0_dev141 v1) < nD) ∧
  ((k0_dev144 v1) < nD) ∧
  ((k0_dev145 v1) < nD) ∧
  ((k0_dev148 v1) < nD) ∧
  ((k0_dev149 v1) < nD) ∧
  ((k0_dev152 v1) < nD) ∧
  ((k0_dev153 v1) < nD) ∧
  ((k0_dev156 v1) < nD) ∧
  ((k0_dev157 v1) < nD) ∧
  ((k0_dev160 v1) < nD) ∧
  ((k0_dev161 v1) < nD) ∧
  ((k0_dev164 v1) < nD) ∧
  ((k0_dev165 v1) < nD) ∧
  ((k0_dev168 v1) < nD) ∧
  ((k0_dev169 v1) < nD) ∧
  ((k0_dev172 v1) < nD) ∧
  ((k0_dev173 v1) < nD) ∧
  ((k0_dev176 v1) < nD) ∧
  ((k0_dev177 v1) < nD) ∧
  ((k0_dev180 v1) < nD) ∧
  ((k0_dev181 v1) < nD) ∧
  ((k0_dev184 v1) < nD) ∧
  ((k0_dev185 v1) < nD) ∧
  ((k0_dev188 v1) < nD) ∧
  ((k0_dev189 v1) < nD) ∧
  ((k0_dev192 v1) < nD)
def k0_chk2_3 (v1 : BitVec 32) : Prop :=
  ((k0_dev193 v1) < nD) ∧
  ((k0_dev196 v1) < nD) ∧
  ((k0_dev197 v1) < nD) ∧
  ((k0_dev200 v1) < nD) ∧
  ((k0_dev201 v1) < nD) ∧
  ((k0_dev204 v1) < nD) ∧
  ((k0_dev205 v1) < nD) ∧
  ((k0_dev208 v1) < nD) ∧
  ((k0_dev209 v1) < nD) ∧
  ((k0_dev212 v1) < nD) ∧
  ((k0_dev213 v1) < nD) ∧
  ((k0_dev216 v1) < nD) ∧
  ((k0_dev217 v1) < nD) ∧
  ((k0_dev220 v1) < nD) ∧
  ((k0_dev221 v1) < nD) ∧
  ((k0_dev224 v1) < nD) ∧
  ((k0_dev225 v1) < nD) ∧
  ((k0_dev228 v1) < nD) ∧
  ((k0_dev229 v1) < nD) ∧
  ((k0_dev232 v1) < nD) ∧
  ((k0_dev233 v1) < nD) ∧
  ((k0_dev236 v1) < nD) ∧
  ((k0_dev237 v1) < nD) ∧
  ((k0_dev240 v1) < nD) ∧
  ((k0_dev241 v1) < nD) ∧
  ((k0_dev244 v1) < nD) ∧
  ((k0_dev245 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev71_lt : ∀ (v1 : BitVec 32) (k0_hw2 : k0_chk2 v1), (k0_dev71 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev78_lt : ∀ (v1 : BitVec 32) (k0_hw2 : k0_chk2 v1), (k0_dev78 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev82_lt : ∀ (v1 : BitVec 32) (k0_hw2 : k0_chk2 v1), (k0_dev82 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev94_lt : ∀ (v1 : BitVec 32) (k0_hw2 : k0_chk2 v1), (k0_dev94 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev98_lt : ∀ (v1 : BitVec 32) (k0_hw2 : k0_chk2 v1), (k0_dev98 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.1.2.2.2.2.2.2.2.2.2.2.2.2.2.2.2.2.2.2.2.2.2.2.2.2.2.2.2.2.1
theorem k0_dev124_lt : ∀ (v1 : BitVec 32) (k0_hw2 : k0_chk2 v1), (k0_dev124 v1) < nD := fun v1 k0_hw2 => k0_hw2.2.1.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1.1
theorem k0_dev132_lt : ∀ (v1 : BitVec 32) (k0_hw2 : k0_chk2 v1), (k0_dev132 v1) < nD := fun v1 k0_hw2 => k0_hw2.2.2.1.2.1
theorem k0_dev133_lt : ∀ (v1 : BitVec 32) (k0_hw2 : k0_chk2 v1), (k0_dev133 v1) < nD := fun v1 k0_hw2 => k0_hw2.2.2.1.2.2.1
theorem k0_dev136_lt : ∀ (v1 : BitVec 32) (k0_hw2 : k0_chk2 v1), (k0_dev136 v1) < nD := fun v1 k0_hw2 => k0_hw2.2.2.1.2.2.2.1
theorem k0_dev137_lt : ∀ (v1 : BitVec 32) (k0_hw2 : k0_chk2 v1), (k0_dev137 v1) < nD := fun v1 k0_hw2 => k0_hw2.2.2.1.2.2.2.2.1
theorem k0_dev140_lt : ∀ (v1 : BitVec 32) (k0_hw2 : k0_chk2 v1), (k0_dev140 v1) < nD := fun v1 k0_hw2 => k0_hw2.2.2.1.2.2.2.2.2.1
theorem k0_dev141_lt : ∀ (v1 : BitVec 32) (k0_hw2 : k0_chk2 v1), (k0_dev141 v1) < nD := fun v1 k0_hw2 => k0_hw2.2.2.1.2.2.2.2.2.2.1
theorem k0_dev144_lt : ∀ (v1 : BitVec 32) (k0_hw2 : k0_chk2 v1), (k0_dev144 v1) < nD := fun v1 k0_hw2 => k0_hw2.2.2.1.2.2.2.2.2.2.2.1
theorem k0_dev145_lt : ∀ (v1 : BitVec 32) (k0_hw2 : k0_chk2 v1), (k0_dev145 v1) < nD := fun v1 k0_hw2 => k0_hw2.2.2.1.2.2.2.2.2.2.2.2.1
theorem k0_dev148_lt : ∀ (v1 : BitVec 32) (k0_hw2 : k0_chk2 v1), (k0_dev148 v1) < nD := fun v1 k0_hw2 => k0_hw2.2.2.1.2.2.2.2.2.2.2.2.2.1
theorem k0_dev149_lt : ∀ (v1 : BitVec 32) (k0_hw2 : k0_chk2 v1), (k0_dev149 v1) < nD := fun v1 k0_hw2 => k0_hw2.2.2.1.2.2.2.2.2.2.2.2.2.2.1
theorem k0_dev152_lt : ∀ (v1 : BitVec 32) (k0_hw2 : k0_chk2 v1), (k0_dev152 v1) < nD := fun v1 k0_hw2 => k0_hw2.2.2.1.2.2.2.2.2.2.2.2.2.2.2.1
theorem k0_dev153_lt : ∀ (v1 : BitVec 32) (k0_hw2 : k0_chk2 v1), (k0_dev153 v1) < nD := fun v1 k0_hw2 => k0_hw2.2.2.1.2.2.2.2.2.2.2.2.2.2.2.2.1
theorem k0_dev156_lt : ∀ (v1 : BitVec 32) (k0_hw2 : k0_chk2 v1), (k0_dev156 v1) < nD := fun v1 k0_hw2 => k0_hw2.2.2.1.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.1
theorem k0_dev160_lt : ∀ (v1 : BitVec 32) (k0_hw2 : k0_chk2 v1), (k0_dev160 v1) < nD := fun v1 k0_hw2 => k0_hw2.2.2.1.2.2.2.2.2.2.2.2.2.2.2.2.2.2.2.1
theorem k0_dev161_lt : ∀ (v1 : BitVec 32) (k0_hw2 : k0_chk2 v1), (k0_dev161 v1) < nD := fun v1 k0_hw2 => k0_hw2.2.2.1.2.2.2.2.2.2.2.2.2.2.2.2.2.2.2.2.1
theorem k0_dev164_lt : ∀ (v1 : BitVec 32) (k0_hw2 : k0_chk2 v1), (k0_dev164 v1) < nD := fun v1 k0_hw2 => k0_hw2.2.2.1.2.2.2.2.2.2.2.2.2.2.2.2.2.2.2.2.2.1
theorem k0_dev165_lt : ∀ (v1 : BitVec 32) (k0_hw2 : k0_chk2 v1), (k0_dev165 v1) < nD := fun v1 k0_hw2 => k0_hw2.2.2.1.2.2.2.2.2.2.2.2.2.2.2.2.2.2.2.2.2.2.1
theorem k0_dev168_lt : ∀ (v1 : BitVec 32) (k0_hw2 : k0_chk2 v1), (k0_dev168 v1) < nD := fun v1 k0_hw2 => k0_hw2.2.2.1.2.2.2.2.2.2.2.2.2.2.2.2.2.2.2.2.2.2.2.1
theorem k0_dev169_lt : ∀ (v1 : BitVec 32) (k0_hw2 : k0_chk2 v1), (k0_dev169 v1) < nD := fun v1 k0_hw2 => k0_hw2.2.2.1.2.2.2.2.2.2.2.2.2.2.2.2.2.2.2.2.2.2.2.2.1
theorem k0_dev172_lt : ∀ (v1 : BitVec 32) (k0_hw2 : k0_chk2 v1), (k0_dev172 v1) < nD := fun v1 k0_hw2 => k0_hw2.2.2.1.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.1
theorem k0_dev176_lt : ∀ (v1 : BitVec 32) (k0_hw2 : k0_chk2 v1), (k0_dev176 v1) < nD := fun v1 k0_hw2 => k0_hw2.2.2.1.2.2.2.2.2.2.2.2.2.2.2.2.2.2.2.2.2.2.2.2.2.2.2.1
theorem k0_dev177_lt : ∀ (v1 : BitVec 32) (k0_hw2 : k0_chk2 v1), (k0_dev177 v1) < nD := fun v1 k0_hw2 => k0_hw2.2.2.1.2.2.2.2.2.2.2.2.2.2.2.2.2.2.2.2.2.2.2.2.2.2.2.2.1
theorem k0_dev180_lt : ∀ (v1 : BitVec 32) (k0_hw2 : k0_chk2 v1), (k0_dev180 v1) < nD := fun v1 k0_hw2 => k0_hw2.2.2.1.2.2.2.2.2.2.2.2.2.2.2.2.2.2.2.2.2.2.2.2.2.2.2.2.2.1
theorem k0_dev181_lt : ∀ (v1 : BitVec 32) (k0_hw2 : k0_chk2 v1), (k0_dev181 v1) < nD := fun v1 k0_hw2 => k0_hw2.2.2.1.2.2.2.2.2.2.2.2.2.2.2.2.2.2.2.2.2.2.2.2.2.2.2.2.2.2.1
theorem k0_dev184_lt : ∀ (v1 : BitVec 32) (k0_hw2 : k0_chk2 v1), (k0_dev184 v1) < nD := fun v1 k0_hw2 => k0_hw2.2.2.1.2.2.2.2.2.2.2.2.2.2.2.2.2.2.2.2.2.2.2.2.2.2.2.2.2.2.2.1
theorem k0_dev185_lt : ∀ (v1 : BitVec 32) (k0_hw2 : k0_chk2 v1), (k0_dev185 v1) < nD := fun v1 k0_hw2 => k0_hw2.2.2.1.2.2.2.2.2.2.2.2.2.2.2.2.2.2.2.2.2.2.2.2.2.2.2.2.2.2.2.2.1
theorem k0_dev188_lt : ∀ (v1 : BitVec 32) (k0_hw2 : k0_chk2 v1), (k0_dev188 v1) < nD := fun v1 k0_hw2 => k0_hw2.2.2.1.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.1
theorem k0_dev192_lt : ∀ (v1 : BitVec 32) (k0_hw2 : k0_chk2 v1), (k0_dev192 v1) < nD := fun v1 k0_hw2 => k0_hw2.2.2.1.2.2.2.2.2.2.2.2.2.2.2.2.2.2.2.2.2.2.2.2.2.2.2.2.2.2.2.2.2.2.2
theorem k0_dev193_lt : ∀ (v1 : BitVec 32) (k0_hw2 : k0_chk2 v1), (k0_dev193 v1) < nD := fun v1 k0_hw2 => k0_hw2.2.2.2.1
theorem k0_dev196_lt : ∀ (v1 : BitVec 32) (k0_hw2 : k0_chk2 v1), (k0_dev196 v1) < nD := fun v1 k0_hw2 => k0_hw2.2.2.2.2.1
theorem k0_dev197_lt : ∀ (v1 : BitVec 32) (k0_hw2 : k0_chk2 v1), (k0_dev197 v1) < nD := fun v1 k0_hw2 => k0_hw2.2.2.2.2.2.1
theorem k0_dev200_lt : ∀ (v1 : BitVec 32) (k0_hw2 : k0_chk2 v1), (k0_dev200 v1) < nD := fun v1 k0_hw2 => k0_hw2.2.2.2.2.2.2.1
theorem k0_dev201_lt : ∀ (v1 : BitVec 32) (k0_hw2 : k0_chk2 v1), (k0_dev201 v1) < nD := fun v1 k0_hw2 => k0_hw2.2.2.2.2.2.2.2.1
theorem k0_dev204_lt : ∀ (v1 : BitVec 32) (k0_hw2 : k0_chk2 v1), (k0_dev204 v1) < nD := fun v1 k0_hw2 => k0_hw2.2.2.2.2.2.2.2.2.1
theorem k0_dev205_lt : ∀ (v1 : BitVec 32) (k0_hw2 : k0_chk2 v1), (k0_dev205 v1) < nD := fun v1 k0_hw2 => k0_hw2.2.2.2.2.2.2.2.2.2.1
theorem k0_dev208_lt : ∀ (v1 : BitVec 32) (k0_hw2 : k0_chk2 v1), (k0_dev208 v1) < nD := fun v1 k0_hw2 => k0_hw2.2.2.2.2.2.2.2.2.2.2.1
theorem k0_dev209_lt : ∀ (v1 : BitVec 32) (k0_hw2 : k0_chk2 v1), (k0_dev209 v1) < nD := fun v1 k0_hw2 => k0_hw2.2.2.2.2.2.2.2.2.2.2.2.1
theorem k0_dev212_lt : ∀ (v1 : BitVec 32) (k0_hw2 : k0_chk2 v1), (k0_dev212 v1) < nD := fun v1 k0_hw2 => k0_hw2.2.2.2.2.2.2.2.2.2.2.2.2.1
theorem k0_dev213_lt : ∀ (v1 : BitVec 32) (k0_hw2 : k0_chk2 v1), (k0_dev213 v1) < nD := fun v1 k0_hw2 => k0_hw2.2.2.2.2.2.2.2.2.2.2.2.2.2.1
theorem k0_dev216_lt : ∀ (v1 : BitVec 32) (k0_hw2 : k0_chk2 v1), (k0_dev216 v1) < nD := fun v1 k0_hw2 => k0_hw2.2.2.2.2.2.2.2.2.2.2.2.2.2.2.1
theorem k0_dev217_lt : ∀ (v1 : BitVec 32) (k0_hw2 : k0_chk2 v1), (k0_dev217 v1) < nD := fun v1 k0_hw2 => k0_hw2.2.2.2.2.2.2.2.2.2.2.2.2.2.2.2.1
theorem k0_dev220_lt : ∀ (v1 : BitVec 32) (k0_hw2 : k0_chk2 v1), (k0_dev220 v1) < nD := fun v1 k0_hw2 => k0_hw2.2.2.2.2.2.2.2.2.2.2.2.2.2.2.2.2.1
theorem k0_dev221_lt : ∀ (v1 : BitVec 32) (k0_hw2 : k0_chk2 v1), (k0_dev221 v1) < nD := fun v1 k0_hw2 => k0_hw2.2.2.2.2.2.2.2.2.2.2.2.2.2.2.2.2.2.1
theorem k0_dev224_lt : ∀ (v1 : BitVec 32) (k0_hw2 : k0_chk2 v1), (k0_dev224 v1) < nD := fun v1 k0_hw2 => k0_hw2.2.2.2.2.2.2.2.2.2.2.2.2.2.2.2.2.2.2.1
theorem k0_dev225_lt : ∀ (v1 : BitVec 32) (k0_hw2 : k0_chk2 v1), (k0_dev225 v1) < nD := fun v1 k0_hw2 => k0_hw2.2.2.2.2.2.2.2.2.2.2.2.2.2.2.2.2.2.2.2.1
theorem k0_dev228_lt : ∀ (v1 : BitVec 32) (k0_hw2 : k0_chk2 v1), (k0_dev228 v1) < nD := fun v1 k0_hw2 => k0_hw2.2.2.2.2.2.2.2.2.2.2.2.2.2.2.2.2.2.2.2.2.1
theorem k0_dev229_lt : ∀ (v1 : BitVec 32) (k0_hw2 : k0_chk2 v1), (k0_dev229 v1) < nD := fun v1 k0_hw2 => k0_hw2.2.2.2.2.2.2.2.2.2.2.2.2.2.2.2.2.2.2.2.2.2.1
theorem k0_dev232_lt : ∀ (v1 : BitVec 32) (k0_hw2 : k0_chk2 v1), (k0_dev232 v1) < nD := fun v1 k0_hw2 => k0_hw2.2.2.2.2.2.2.2.2.2.2.2.2.2.2.2.2.2.2.2.2.2.2.1
theorem k0_dev233_lt : ∀ (v1 : BitVec 32) (k0_hw2 : k0_chk2 v1), (k0_dev233 v1) < nD := fun v1 k0_hw2 => k0_hw2.2.2.2.2.2.2.2.2.2.2.2.2.2.2.2.2.2.2.2.2.2.2.2.1
theorem k0_dev236_lt : ∀ (v1 : BitVec 32) (k0_hw2 : k0_chk2 v1), (k0_dev236 v1) < nD := fun v1 k0_hw2 => k0_hw2.2.2.2.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.2.2.2.2.2.2.2.2.2.2.2.2.2.2.2.2.2.2.2.2.2.2.1
theorem k0_dev240_lt : ∀ (v1 : BitVec 32) (k0_hw2 : k0_chk2 v1), (k0_dev240 v1) < nD := fun v1 k0_hw2 => k0_hw2.2.2.2.2.2.2.2.2.2.2.2.2.2.2.2.2.2.2.2.2.2.2.2.2.2.2.1
theorem k0_dev241_lt : ∀ (v1 : BitVec 32) (k0_hw2 : k0_chk2 v1), (k0_dev241 v1) < nD := fun v1 k0_hw2 => k0_hw2.2.2.2.2.2.2.2.2.2.2.2.2.2.2.2.2.2.2.2.2.2.2.2.2.2.2.2.1
theorem k0_dev244_lt : ∀ (v1 : BitVec 32) (k0_hw2 : k0_chk2 v1), (k0_dev244 v1) < nD := fun v1 k0_hw2 => k0_hw2.2.2.2.2.2.2.2.2.2.2.2.2.2.2.2.2.2.2.2.2.2.2.2.2.2.2.2.2.1
theorem k0_dev245_lt : ∀ (v1 : BitVec 32) (k0_hw2 : k0_chk2 v1), (k0_dev245 v1) < nD := fun v1 k0_hw2 => k0_hw2.2.2.2.2.2.2.2.2.2.2.2.2.2.2.2.2.2.2.2.2.2.2.2.2.2.2.2.2.2

def k0_dev246 (v2 : BitVec 32) : Nat :=
  let c0_i32_3059 : BitVec 32 := 0#32
  let c1_i32_3058 : BitVec 32 := 1#32
  let v3052 : BitVec 32 := Scalar.muli v2 c1_i32_3058
  let v3053 : BitVec 32 := Scalar.addi c0_i32_3059 v3052
  v3053.toNat

def k0_chk1_0 (v2 : BitVec 32) : Prop :=
  ((k0_dev1 v2) < nD) ∧
  ((k0_dev4 v2) < nD) ∧
  ((k0_dev5 v2) < nD) ∧
  ((k0_dev8 v2) < nD) ∧
  ((k0_dev9 v2) < nD) ∧
  ((k0_dev12 v2) < nD) ∧
  ((k0_dev13 v2) < nD) ∧
  ((k0_dev16 v2) < nD) ∧
  ((k0_dev17 v2) < nD) ∧
  ((k0_dev20 v2) < nD) ∧
  ((k0_dev21 v2) < nD) ∧
  ((k0_dev24 v2) < nD) ∧
  ((k0_dev25 v2) < nD) ∧
  ((k0_dev28 v2) < nD) ∧
  ((k0_dev29 v2) < nD) ∧
  ((k0_dev32 v2) < nD) ∧
  ((k0_dev33 v2) < nD) ∧
  ((k0_dev36 v2) < nD) ∧
  ((k0_dev37 v2) < nD) ∧
  ((k0_dev40 v2) < nD) ∧
  ((k0_dev41 v2) < nD) ∧
  ((k0_dev44 v2) < nD) ∧
  ((k0_dev45 v2) < nD) ∧
  ((k0_dev48 v2) < nD) ∧
  ((k0_dev49 v2) < nD) ∧
  ((k0_dev52 v2) < nD) ∧
  ((k0_dev53 v2) < nD) ∧
  ((k0_dev56 v2) < nD) ∧
  ((k0_dev57 v2) < nD) ∧
  ((k0_dev60 v2) < nD) ∧
  ((k0_dev61 v2) < nD) ∧
  ((k0_dev64 v2) < nD)
def k0_chk1_1 (v2 : BitVec 32) : Prop :=
  ((k0_dev65 v2) < nD) ∧
  ((k0_dev68 v2) < nD) ∧
  ((k0_dev69 v2) < nD) ∧
  ((k0_dev72 v2) < nD) ∧
  ((k0_dev73 v2) < nD) ∧
  ((k0_dev76 v2) < nD) ∧
  ((k0_dev77 v2) < nD) ∧
  ((k0_dev80 v2) < nD) ∧
  ((k0_dev81 v2) < nD) ∧
  ((k0_dev84 v2) < nD) ∧
  ((k0_dev85 v2) < nD) ∧
  ((k0_dev88 v2) < nD) ∧
  ((k0_dev89 v2) < nD) ∧
  ((k0_dev92 v2) < nD) ∧
  ((k0_dev93 v2) < nD) ∧
  ((k0_dev96 v2) < nD) ∧
  ((k0_dev97 v2) < nD) ∧
  ((k0_dev100 v2) < nD) ∧
  ((k0_dev101 v2) < nD) ∧
  ((k0_dev104 v2) < nD) ∧
  ((k0_dev105 v2) < nD) ∧
  ((k0_dev108 v2) < nD) ∧
  ((k0_dev109 v2) < nD) ∧
  ((k0_dev112 v2) < nD) ∧
  ((k0_dev113 v2) < nD) ∧
  ((k0_dev116 v2) < nD) ∧
  ((k0_dev117 v2) < nD) ∧
  ((k0_dev120 v2) < nD) ∧
  ((k0_dev122 v2) < nD) ∧
  ((k0_dev123 v2) < nD) ∧
  ((k0_dev125 v2) < nD) ∧
  ((k0_dev128 v2) < nD)
def k0_chk1_2 (v2 : BitVec 32) : Prop :=
  ((k0_dev130 v2) < nD) ∧
  ((k0_dev131 v2) < nD) ∧
  ((k0_dev134 v2) < nD) ∧
  ((k0_dev135 v2) < nD) ∧
  ((k0_dev138 v2) < nD) ∧
  ((k0_dev139 v2) < nD) ∧
  ((k0_dev142 v2) < nD) ∧
  ((k0_dev143 v2) < nD) ∧
  ((k0_dev146 v2) < nD) ∧
  ((k0_dev147 v2) < nD) ∧
  ((k0_dev150 v2) < nD) ∧
  ((k0_dev151 v2) < nD) ∧
  ((k0_dev154 v2) < nD) ∧
  ((k0_dev155 v2) < nD) ∧
  ((k0_dev158 v2) < nD) ∧
  ((k0_dev159 v2) < nD) ∧
  ((k0_dev162 v2) < nD) ∧
  ((k0_dev163 v2) < nD) ∧
  ((k0_dev166 v2) < nD) ∧
  ((k0_dev167 v2) < nD) ∧
  ((k0_dev170 v2) < nD) ∧
  ((k0_dev171 v2) < nD) ∧
  ((k0_dev174 v2) < nD) ∧
  ((k0_dev175 v2) < nD) ∧
  ((k0_dev178 v2) < nD) ∧
  ((k0_dev179 v2) < nD) ∧
  ((k0_dev182 v2) < nD) ∧
  ((k0_dev183 v2) < nD) ∧
  ((k0_dev186 v2) < nD) ∧
  ((k0_dev187 v2) < nD) ∧
  ((k0_dev190 v2) < nD) ∧
  ((k0_dev191 v2) < nD)
def k0_chk1_3 (v2 : BitVec 32) : Prop :=
  ((k0_dev194 v2) < nD) ∧
  ((k0_dev195 v2) < nD) ∧
  ((k0_dev198 v2) < nD) ∧
  ((k0_dev199 v2) < nD) ∧
  ((k0_dev202 v2) < nD) ∧
  ((k0_dev203 v2) < nD) ∧
  ((k0_dev206 v2) < nD) ∧
  ((k0_dev207 v2) < nD) ∧
  ((k0_dev210 v2) < nD) ∧
  ((k0_dev211 v2) < nD) ∧
  ((k0_dev214 v2) < nD) ∧
  ((k0_dev215 v2) < nD) ∧
  ((k0_dev218 v2) < nD) ∧
  ((k0_dev219 v2) < nD) ∧
  ((k0_dev222 v2) < nD) ∧
  ((k0_dev223 v2) < nD) ∧
  ((k0_dev226 v2) < nD) ∧
  ((k0_dev227 v2) < nD) ∧
  ((k0_dev230 v2) < nD) ∧
  ((k0_dev231 v2) < nD) ∧
  ((k0_dev234 v2) < nD) ∧
  ((k0_dev235 v2) < nD) ∧
  ((k0_dev238 v2) < nD) ∧
  ((k0_dev239 v2) < nD) ∧
  ((k0_dev242 v2) < nD) ∧
  ((k0_dev243 v2) < nD) ∧
  ((k0_dev246 v2) < nD)
def k0_chk1 (v2 : BitVec 32) : Prop :=
  k0_chk1_0 v2 ∧
  k0_chk1_1 v2 ∧
  k0_chk1_2 v2 ∧
  k0_chk1_3 v2
theorem k0_dev1_lt : ∀ (v2 : BitVec 32) (k0_hw1 : k0_chk1 v2), (k0_dev1 v2) < nD := fun v2 k0_hw1 => k0_hw1.1.1
theorem k0_dev4_lt : ∀ (v2 : BitVec 32) (k0_hw1 : k0_chk1 v2), (k0_dev4 v2) < nD := fun v2 k0_hw1 => k0_hw1.1.2.1
theorem k0_dev5_lt : ∀ (v2 : BitVec 32) (k0_hw1 : k0_chk1 v2), (k0_dev5 v2) < nD := fun v2 k0_hw1 => k0_hw1.1.2.2.1
theorem k0_dev8_lt : ∀ (v2 : BitVec 32) (k0_hw1 : k0_chk1 v2), (k0_dev8 v2) < nD := fun v2 k0_hw1 => k0_hw1.1.2.2.2.1
theorem k0_dev9_lt : ∀ (v2 : BitVec 32) (k0_hw1 : k0_chk1 v2), (k0_dev9 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev13_lt : ∀ (v2 : BitVec 32) (k0_hw1 : k0_chk1 v2), (k0_dev13 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev17_lt : ∀ (v2 : BitVec 32) (k0_hw1 : k0_chk1 v2), (k0_dev17 v2) < nD := fun v2 k0_hw1 => k0_hw1.1.2.2.2.2.2.2.2.2.1
theorem k0_dev20_lt : ∀ (v2 : BitVec 32) (k0_hw1 : k0_chk1 v2), (k0_dev20 v2) < nD := fun v2 k0_hw1 => k0_hw1.1.2.2.2.2.2.2.2.2.2.1
theorem k0_dev21_lt : ∀ (v2 : BitVec 32) (k0_hw1 : k0_chk1 v2), (k0_dev21 v2) < nD := fun v2 k0_hw1 => k0_hw1.1.2.2.2.2.2.2.2.2.2.2.1
theorem k0_dev24_lt : ∀ (v2 : BitVec 32) (k0_hw1 : k0_chk1 v2), (k0_dev24 v2) < nD := fun v2 k0_hw1 => k0_hw1.1.2.2.2.2.2.2.2.2.2.2.2.1
theorem k0_dev25_lt : ∀ (v2 : BitVec 32) (k0_hw1 : k0_chk1 v2), (k0_dev25 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev29_lt : ∀ (v2 : BitVec 32) (k0_hw1 : k0_chk1 v2), (k0_dev29 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev33_lt : ∀ (v2 : BitVec 32) (k0_hw1 : k0_chk1 v2), (k0_dev33 v2) < nD := fun v2 k0_hw1 => k0_hw1.1.2.2.2.2.2.2.2.2.2.2.2.2.2.2.2.2.1
theorem k0_dev36_lt : ∀ (v2 : BitVec 32) (k0_hw1 : k0_chk1 v2), (k0_dev36 v2) < nD := fun v2 k0_hw1 => k0_hw1.1.2.2.2.2.2.2.2.2.2.2.2.2.2.2.2.2.2.1
theorem k0_dev37_lt : ∀ (v2 : BitVec 32) (k0_hw1 : k0_chk1 v2), (k0_dev37 v2) < nD := fun v2 k0_hw1 => k0_hw1.1.2.2.2.2.2.2.2.2.2.2.2.2.2.2.2.2.2.2.1
theorem k0_dev40_lt : ∀ (v2 : BitVec 32) (k0_hw1 : k0_chk1 v2), (k0_dev40 v2) < nD := fun v2 k0_hw1 => k0_hw1.1.2.2.2.2.2.2.2.2.2.2.2.2.2.2.2.2.2.2.2.1
theorem k0_dev41_lt : ∀ (v2 : BitVec 32) (k0_hw1 : k0_chk1 v2), (k0_dev41 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev45_lt : ∀ (v2 : BitVec 32) (k0_hw1 : k0_chk1 v2), (k0_dev45 v2) < nD := fun v2 k0_hw1 => k0_hw1.1.2.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.2.1
theorem k0_dev49_lt : ∀ (v2 : BitVec 32) (k0_hw1 : k0_chk1 v2), (k0_dev49 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev53_lt : ∀ (v2 : BitVec 32) (k0_hw1 : k0_chk1 v2), (k0_dev53 v2) < nD := fun v2 k0_hw1 => k0_hw1.1.2.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.2.1
theorem k0_dev57_lt : ∀ (v2 : BitVec 32) (k0_hw1 : k0_chk1 v2), (k0_dev57 v2) < nD := fun v2 k0_hw1 => k0_hw1.1.2.2.2.2.2.2.2.2.2.2.2.2.2.2.2.2.2.2.2.2.2.2.2.2.2.2.2.2.1
theorem k0_dev60_lt : ∀ (v2 : BitVec 32) (k0_hw1 : k0_chk1 v2), (k0_dev60 v2) < nD := fun v2 k0_hw1 => k0_hw1.1.2.2.2.2.2.2.2.2.2.2.2.2.2.2.2.2.2.2.2.2.2.2.2.2.2.2.2.2.2.1
theorem k0_dev61_lt : ∀ (v2 : BitVec 32) (k0_hw1 : k0_chk1 v2), (k0_dev61 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev65_lt : ∀ (v2 : BitVec 32) (k0_hw1 : k0_chk1 v2), (k0_dev65 v2) < nD := fun v2 k0_hw1 => k0_hw1.2.1.1
theorem k0_dev68_lt : ∀ (v2 : BitVec 32) (k0_hw1 : k0_chk1 v2), (k0_dev68 v2) < nD := fun v2 k0_hw1 => k0_hw1.2.1.2.1
theorem k0_dev69_lt : ∀ (v2 : BitVec 32) (k0_hw1 : k0_chk1 v2), (k0_dev69 v2) < nD := fun v2 k0_hw1 => k0_hw1.2.1.2.2.1
theorem k0_dev72_lt : ∀ (v2 : BitVec 32) (k0_hw1 : k0_chk1 v2), (k0_dev72 v2) < nD := fun v2 k0_hw1 => k0_hw1.2.1.2.2.2.1
theorem k0_dev73_lt : ∀ (v2 : BitVec 32) (k0_hw1 : k0_chk1 v2), (k0_dev73 v2) < nD := fun v2 k0_hw1 => k0_hw1.2.1.2.2.2.2.1
theorem k0_dev76_lt : ∀ (v2 : BitVec 32) (k0_hw1 : k0_chk1 v2), (k0_dev76 v2) < nD := fun v2 k0_hw1 => k0_hw1.2.1.2.2.2.2.2.1
theorem k0_dev77_lt : ∀ (v2 : BitVec 32) (k0_hw1 : k0_chk1 v2), (k0_dev77 v2) < nD := fun v2 k0_hw1 => k0_hw1.2.1.2.2.2.2.2.2.1
theorem k0_dev80_lt : ∀ (v2 : BitVec 32) (k0_hw1 : k0_chk1 v2), (k0_dev80 v2) < nD := fun v2 k0_hw1 => k0_hw1.2.1.2.2.2.2.2.2.2.1
theorem k0_dev81_lt : ∀ (v2 : BitVec 32) (k0_hw1 : k0_chk1 v2), (k0_dev81 v2) < nD := fun v2 k0_hw1 => k0_hw1.2.1.2.2.2.2.2.2.2.2.1
theorem k0_dev84_lt : ∀ (v2 : BitVec 32) (k0_hw1 : k0_chk1 v2), (k0_dev84 v2) < nD := fun v2 k0_hw1 => k0_hw1.2.1.2.2.2.2.2.2.2.2.2.1
theorem k0_dev85_lt : ∀ (v2 : BitVec 32) (k0_hw1 : k0_chk1 v2), (k0_dev85 v2) < nD := fun v2 k0_hw1 => k0_hw1.2.1.2.2.2.2.2.2.2.2.2.2.1
theorem k0_dev88_lt : ∀ (v2 : BitVec 32) (k0_hw1 : k0_chk1 v2), (k0_dev88 v2) < nD := fun v2 k0_hw1 => k0_hw1.2.1.2.2.2.2.2.2.2.2.2.2.2.1
theorem k0_dev89_lt : ∀ (v2 : BitVec 32) (k0_hw1 : k0_chk1 v2), (k0_dev89 v2) < nD := fun v2 k0_hw1 => k0_hw1.2.1.2.2.2.2.2.2.2.2.2.2.2.2.1
theorem k0_dev92_lt : ∀ (v2 : BitVec 32) (k0_hw1 : k0_chk1 v2), (k0_dev92 v2) < nD := fun v2 k0_hw1 => k0_hw1.2.1.2.2.2.2.2.2.2.2.2.2.2.2.2.1
theorem k0_dev93_lt : ∀ (v2 : BitVec 32) (k0_hw1 : k0_chk1 v2), (k0_dev93 v2) < nD := fun v2 k0_hw1 => k0_hw1.2.1.2.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.2.1
theorem k0_dev97_lt : ∀ (v2 : BitVec 32) (k0_hw1 : k0_chk1 v2), (k0_dev97 v2) < nD := fun v2 k0_hw1 => k0_hw1.2.1.2.2.2.2.2.2.2.2.2.2.2.2.2.2.2.2.1
theorem k0_dev100_lt : ∀ (v2 : BitVec 32) (k0_hw1 : k0_chk1 v2), (k0_dev100 v2) < nD := fun v2 k0_hw1 => k0_hw1.2.1.2.2.2.2.2.2.2.2.2.2.2.2.2.2.2.2.2.1
theorem k0_dev101_lt : ∀ (v2 : BitVec 32) (k0_hw1 : k0_chk1 v2), (k0_dev101 v2) < nD := fun v2 k0_hw1 => k0_hw1.2.1.2.2.2.2.2.2.2.2.2.2.2.2.2.2.2.2.2.2.1
theorem k0_dev104_lt : ∀ (v2 : BitVec 32) (k0_hw1 : k0_chk1 v2), (k0_dev104 v2) < nD := fun v2 k0_hw1 => k0_hw1.2.1.2.2.2.2.2.2.2.2.2.2.2.2.2.2.2.2.2.2.2.1
theorem k0_dev105_lt : ∀ (v2 : BitVec 32) (k0_hw1 : k0_chk1 v2), (k0_dev105 v2) < nD := fun v2 k0_hw1 => k0_hw1.2.1.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.1.2.2.2.2.2.2.2.2.2.2.2.2.2.2.2.2.2.2.2.2.2.1
theorem k0_dev109_lt : ∀ (v2 : BitVec 32) (k0_hw1 : k0_chk1 v2), (k0_dev109 v2) < nD := fun v2 k0_hw1 => k0_hw1.2.1.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.2.1
theorem k0_dev113_lt : ∀ (v2 : BitVec 32) (k0_hw1 : k0_chk1 v2), (k0_dev113 v2) < nD := fun v2 k0_hw1 => k0_hw1.2.1.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.1.2.2.2.2.2.2.2.2.2.2.2.2.2.2.2.2.2.2.2.2.2.2.2.2.2.1
theorem k0_dev117_lt : ∀ (v2 : BitVec 32) (k0_hw1 : k0_chk1 v2), (k0_dev117 v2) < nD := fun v2 k0_hw1 => k0_hw1.2.1.2.2.2.2.2.2.2.2.2.2.2.2.2.2.2.2.2.2.2.2.2.2.2.2.2.2.1
theorem k0_dev120_lt : ∀ (v2 : BitVec 32) (k0_hw1 : k0_chk1 v2), (k0_dev120 v2) < nD := fun v2 k0_hw1 => k0_hw1.2.1.2.2.2.2.2.2.2.2.2.2.2.2.2.2.2.2.2.2.2.2.2.2.2.2.2.2.2.1
theorem k0_dev122_lt : ∀ (v2 : BitVec 32) (k0_hw1 : k0_chk1 v2), (k0_dev122 v2) < nD := fun v2 k0_hw1 => k0_hw1.2.1.2.2.2.2.2.2.2.2.2.2.2.2.2.2.2.2.2.2.2.2.2.2.2.2.2.2.2.2.1
theorem k0_dev123_lt : ∀ (v2 : BitVec 32) (k0_hw1 : k0_chk1 v2), (k0_dev123 v2) < nD := fun v2 k0_hw1 => k0_hw1.2.1.2.2.2.2.2.2.2.2.2.2.2.2.2.2.2.2.2.2.2.2.2.2.2.2.2.2.2.2.2.1
theorem k0_dev125_lt : ∀ (v2 : BitVec 32) (k0_hw1 : k0_chk1 v2), (k0_dev125 v2) < nD := fun v2 k0_hw1 => k0_hw1.2.1.2.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.2
theorem k0_dev130_lt : ∀ (v2 : BitVec 32) (k0_hw1 : k0_chk1 v2), (k0_dev130 v2) < nD := fun v2 k0_hw1 => k0_hw1.2.2.1.1
theorem k0_dev131_lt : ∀ (v2 : BitVec 32) (k0_hw1 : k0_chk1 v2), (k0_dev131 v2) < nD := fun v2 k0_hw1 => k0_hw1.2.2.1.2.1
theorem k0_dev134_lt : ∀ (v2 : BitVec 32) (k0_hw1 : k0_chk1 v2), (k0_dev134 v2) < nD := fun v2 k0_hw1 => k0_hw1.2.2.1.2.2.1
theorem k0_dev135_lt : ∀ (v2 : BitVec 32) (k0_hw1 : k0_chk1 v2), (k0_dev135 v2) < nD := fun v2 k0_hw1 => k0_hw1.2.2.1.2.2.2.1
theorem k0_dev138_lt : ∀ (v2 : BitVec 32) (k0_hw1 : k0_chk1 v2), (k0_dev138 v2) < nD := fun v2 k0_hw1 => k0_hw1.2.2.1.2.2.2.2.1
theorem k0_dev139_lt : ∀ (v2 : BitVec 32) (k0_hw1 : k0_chk1 v2), (k0_dev139 v2) < nD := fun v2 k0_hw1 => k0_hw1.2.2.1.2.2.2.2.2.1
theorem k0_dev142_lt : ∀ (v2 : BitVec 32) (k0_hw1 : k0_chk1 v2), (k0_dev142 v2) < nD := fun v2 k0_hw1 => k0_hw1.2.2.1.2.2.2.2.2.2.1
theorem k0_dev143_lt : ∀ (v2 : BitVec 32) (k0_hw1 : k0_chk1 v2), (k0_dev143 v2) < nD := fun v2 k0_hw1 => k0_hw1.2.2.1.2.2.2.2.2.2.2.1
theorem k0_dev146_lt : ∀ (v2 : BitVec 32) (k0_hw1 : k0_chk1 v2), (k0_dev146 v2) < nD := fun v2 k0_hw1 => k0_hw1.2.2.1.2.2.2.2.2.2.2.2.1
theorem k0_dev147_lt : ∀ (v2 : BitVec 32) (k0_hw1 : k0_chk1 v2), (k0_dev147 v2) < nD := fun v2 k0_hw1 => k0_hw1.2.2.1.2.2.2.2.2.2.2.2.2.1
theorem k0_dev150_lt : ∀ (v2 : BitVec 32) (k0_hw1 : k0_chk1 v2), (k0_dev150 v2) < nD := fun v2 k0_hw1 => k0_hw1.2.2.1.2.2.2.2.2.2.2.2.2.2.1
theorem k0_dev151_lt : ∀ (v2 : BitVec 32) (k0_hw1 : k0_chk1 v2), (k0_dev151 v2) < nD := fun v2 k0_hw1 => k0_hw1.2.2.1.2.2.2.2.2.2.2.2.2.2.2.1
theorem k0_dev154_lt : ∀ (v2 : BitVec 32) (k0_hw1 : k0_chk1 v2), (k0_dev154 v2) < nD := fun v2 k0_hw1 => k0_hw1.2.2.1.2.2.2.2.2.2.2.2.2.2.2.2.1
theorem k0_dev155_lt : ∀ (v2 : BitVec 32) (k0_hw1 : k0_chk1 v2), (k0_dev155 v2) < nD := fun v2 k0_hw1 => k0_hw1.2.2.1.2.2.2.2.2.2.2.2.2.2.2.2.2.1
theorem k0_dev158_lt : ∀ (v2 : BitVec 32) (k0_hw1 : k0_chk1 v2), (k0_dev158 v2) < nD := fun v2 k0_hw1 => k0_hw1.2.2.1.2.2.2.2.2.2.2.2.2.2.2.2.2.2.1
theorem k0_dev159_lt : ∀ (v2 : BitVec 32) (k0_hw1 : k0_chk1 v2), (k0_dev159 v2) < nD := fun v2 k0_hw1 => k0_hw1.2.2.1.2.2.2.2.2.2.2.2.2.2.2.2.2.2.2.1
theorem k0_dev162_lt : ∀ (v2 : BitVec 32) (k0_hw1 : k0_chk1 v2), (k0_dev162 v2) < nD := fun v2 k0_hw1 => k0_hw1.2.2.1.2.2.2.2.2.2.2.2.2.2.2.2.2.2.2.2.1
theorem k0_dev163_lt : ∀ (v2 : BitVec 32) (k0_hw1 : k0_chk1 v2), (k0_dev163 v2) < nD := fun v2 k0_hw1 => k0_hw1.2.2.1.2.2.2.2.2.2.2.2.2.2.2.2.2.2.2.2.2.1
theorem k0_dev166_lt : ∀ (v2 : BitVec 32) (k0_hw1 : k0_chk1 v2), (k0_dev166 v2) < nD := fun v2 k0_hw1 => k0_hw1.2.2.1.2.2.2.2.2.2.2.2.2.2.2.2.2.2.2.2.2.2.1
theorem k0_dev167_lt : ∀ (v2 : BitVec 32) (k0_hw1 : k0_chk1 v2), (k0_dev167 v2) < nD := fun v2 k0_hw1 => k0_hw1.2.2.1.2.2.2.2.2.2.2.2.2.2.2.2.2.2.2.2.2.2.2.1
theorem k0_dev170_lt : ∀ (v2 : BitVec 32) (k0_hw1 : k0_chk1 v2), (k0_dev170 v2) < nD := fun v2 k0_hw1 => k0_hw1.2.2.1.2.2.2.2.2.2.2.2.2.2.2.2.2.2.2.2.2.2.2.2.1
theorem k0_dev171_lt : ∀ (v2 : BitVec 32) (k0_hw1 : k0_chk1 v2), (k0_dev171 v2) < nD := fun v2 k0_hw1 => k0_hw1.2.2.1.2.2.2.2.2.2.2.2.2.2.2.2.2.2.2.2.2.2.2.2.2.1
theorem k0_dev174_lt : ∀ (v2 : BitVec 32) (k0_hw1 : k0_chk1 v2), (k0_dev174 v2) < nD := fun v2 k0_hw1 => k0_hw1.2.2.1.2.2.2.2.2.2.2.2.2.2.2.2.2.2.2.2.2.2.2.2.2.2.1
theorem k0_dev175_lt : ∀ (v2 : BitVec 32) (k0_hw1 : k0_chk1 v2), (k0_dev175 v2) < nD := fun v2 k0_hw1 => k0_hw1.2.2.1.2.2.2.2.2.2.2.2.2.2.2.2.2.2.2.2.2.2.2.2.2.2.2.1
theorem k0_dev178_lt : ∀ (v2 : BitVec 32) (k0_hw1 : k0_chk1 v2), (k0_dev178 v2) < nD := fun v2 k0_hw1 => k0_hw1.2.2.1.2.2.2.2.2.2.2.2.2.2.2.2.2.2.2.2.2.2.2.2.2.2.2.2.1
theorem k0_dev179_lt : ∀ (v2 : BitVec 32) (k0_hw1 : k0_chk1 v2), (k0_dev179 v2) < nD := fun v2 k0_hw1 => k0_hw1.2.2.1.2.2.2.2.2.2.2.2.2.2.2.2.2.2.2.2.2.2.2.2.2.2.2.2.2.1
theorem k0_dev182_lt : ∀ (v2 : BitVec 32) (k0_hw1 : k0_chk1 v2), (k0_dev182 v2) < nD := fun v2 k0_hw1 => k0_hw1.2.2.1.2.2.2.2.2.2.2.2.2.2.2.2.2.2.2.2.2.2.2.2.2.2.2.2.2.2.1
theorem k0_dev183_lt : ∀ (v2 : BitVec 32) (k0_hw1 : k0_chk1 v2), (k0_dev183 v2) < nD := fun v2 k0_hw1 => k0_hw1.2.2.1.2.2.2.2.2.2.2.2.2.2.2.2.2.2.2.2.2.2.2.2.2.2.2.2.2.2.2.1
theorem k0_dev186_lt : ∀ (v2 : BitVec 32) (k0_hw1 : k0_chk1 v2), (k0_dev186 v2) < nD := fun v2 k0_hw1 => k0_hw1.2.2.1.2.2.2.2.2.2.2.2.2.2.2.2.2.2.2.2.2.2.2.2.2.2.2.2.2.2.2.2.1
theorem k0_dev187_lt : ∀ (v2 : BitVec 32) (k0_hw1 : k0_chk1 v2), (k0_dev187 v2) < nD := fun v2 k0_hw1 => k0_hw1.2.2.1.2.2.2.2.2.2.2.2.2.2.2.2.2.2.2.2.2.2.2.2.2.2.2.2.2.2.2.2.2.1
theorem k0_dev190_lt : ∀ (v2 : BitVec 32) (k0_hw1 : k0_chk1 v2), (k0_dev190 v2) < nD := fun v2 k0_hw1 => k0_hw1.2.2.1.2.2.2.2.2.2.2.2.2.2.2.2.2.2.2.2.2.2.2.2.2.2.2.2.2.2.2.2.2.2.1
theorem k0_dev191_lt : ∀ (v2 : BitVec 32) (k0_hw1 : k0_chk1 v2), (k0_dev191 v2) < nD := fun v2 k0_hw1 => k0_hw1.2.2.1.2.2.2.2.2.2.2.2.2.2.2.2.2.2.2.2.2.2.2.2.2.2.2.2.2.2.2.2.2.2.2
theorem k0_dev194_lt : ∀ (v2 : BitVec 32) (k0_hw1 : k0_chk1 v2), (k0_dev194 v2) < nD := fun v2 k0_hw1 => k0_hw1.2.2.2.1
theorem k0_dev195_lt : ∀ (v2 : BitVec 32) (k0_hw1 : k0_chk1 v2), (k0_dev195 v2) < nD := fun v2 k0_hw1 => k0_hw1.2.2.2.2.1
theorem k0_dev198_lt : ∀ (v2 : BitVec 32) (k0_hw1 : k0_chk1 v2), (k0_dev198 v2) < nD := fun v2 k0_hw1 => k0_hw1.2.2.2.2.2.1
theorem k0_dev199_lt : ∀ (v2 : BitVec 32) (k0_hw1 : k0_chk1 v2), (k0_dev199 v2) < nD := fun v2 k0_hw1 => k0_hw1.2.2.2.2.2.2.1
theorem k0_dev202_lt : ∀ (v2 : BitVec 32) (k0_hw1 : k0_chk1 v2), (k0_dev202 v2) < nD := fun v2 k0_hw1 => k0_hw1.2.2.2.2.2.2.2.1
theorem k0_dev203_lt : ∀ (v2 : BitVec 32) (k0_hw1 : k0_chk1 v2), (k0_dev203 v2) < nD := fun v2 k0_hw1 => k0_hw1.2.2.2.2.2.2.2.2.1
theorem k0_dev206_lt : ∀ (v2 : BitVec 32) (k0_hw1 : k0_chk1 v2), (k0_dev206 v2) < nD := fun v2 k0_hw1 => k0_hw1.2.2.2.2.2.2.2.2.2.1
theorem k0_dev207_lt : ∀ (v2 : BitVec 32) (k0_hw1 : k0_chk1 v2), (k0_dev207 v2) < nD := fun v2 k0_hw1 => k0_hw1.2.2.2.2.2.2.2.2.2.2.1
theorem k0_dev210_lt : ∀ (v2 : BitVec 32) (k0_hw1 : k0_chk1 v2), (k0_dev210 v2) < nD := fun v2 k0_hw1 => k0_hw1.2.2.2.2.2.2.2.2.2.2.2.1
theorem k0_dev211_lt : ∀ (v2 : BitVec 32) (k0_hw1 : k0_chk1 v2), (k0_dev211 v2) < nD := fun v2 k0_hw1 => k0_hw1.2.2.2.2.2.2.2.2.2.2.2.2.1
theorem k0_dev214_lt : ∀ (v2 : BitVec 32) (k0_hw1 : k0_chk1 v2), (k0_dev214 v2) < nD := fun v2 k0_hw1 => k0_hw1.2.2.2.2.2.2.2.2.2.2.2.2.2.1
theorem k0_dev215_lt : ∀ (v2 : BitVec 32) (k0_hw1 : k0_chk1 v2), (k0_dev215 v2) < nD := fun v2 k0_hw1 => k0_hw1.2.2.2.2.2.2.2.2.2.2.2.2.2.2.1
theorem k0_dev218_lt : ∀ (v2 : BitVec 32) (k0_hw1 : k0_chk1 v2), (k0_dev218 v2) < nD := fun v2 k0_hw1 => k0_hw1.2.2.2.2.2.2.2.2.2.2.2.2.2.2.2.1
theorem k0_dev219_lt : ∀ (v2 : BitVec 32) (k0_hw1 : k0_chk1 v2), (k0_dev219 v2) < nD := fun v2 k0_hw1 => k0_hw1.2.2.2.2.2.2.2.2.2.2.2.2.2.2.2.2.1
theorem k0_dev222_lt : ∀ (v2 : BitVec 32) (k0_hw1 : k0_chk1 v2), (k0_dev222 v2) < nD := fun v2 k0_hw1 => k0_hw1.2.2.2.2.2.2.2.2.2.2.2.2.2.2.2.2.2.1
theorem k0_dev223_lt : ∀ (v2 : BitVec 32) (k0_hw1 : k0_chk1 v2), (k0_dev223 v2) < nD := fun v2 k0_hw1 => k0_hw1.2.2.2.2.2.2.2.2.2.2.2.2.2.2.2.2.2.2.1
theorem k0_dev226_lt : ∀ (v2 : BitVec 32) (k0_hw1 : k0_chk1 v2), (k0_dev226 v2) < nD := fun v2 k0_hw1 => k0_hw1.2.2.2.2.2.2.2.2.2.2.2.2.2.2.2.2.2.2.2.1
theorem k0_dev227_lt : ∀ (v2 : BitVec 32) (k0_hw1 : k0_chk1 v2), (k0_dev227 v2) < nD := fun v2 k0_hw1 => k0_hw1.2.2.2.2.2.2.2.2.2.2.2.2.2.2.2.2.2.2.2.2.1
theorem k0_dev230_lt : ∀ (v2 : BitVec 32) (k0_hw1 : k0_chk1 v2), (k0_dev230 v2) < nD := fun v2 k0_hw1 => k0_hw1.2.2.2.2.2.2.2.2.2.2.2.2.2.2.2.2.2.2.2.2.2.1
theorem k0_dev231_lt : ∀ (v2 : BitVec 32) (k0_hw1 : k0_chk1 v2), (k0_dev231 v2) < nD := fun v2 k0_hw1 => k0_hw1.2.2.2.2.2.2.2.2.2.2.2.2.2.2.2.2.2.2.2.2.2.2.1
theorem k0_dev234_lt : ∀ (v2 : BitVec 32) (k0_hw1 : k0_chk1 v2), (k0_dev234 v2) < nD := fun v2 k0_hw1 => k0_hw1.2.2.2.2.2.2.2.2.2.2.2.2.2.2.2.2.2.2.2.2.2.2.2.1
theorem k0_dev235_lt : ∀ (v2 : BitVec 32) (k0_hw1 : k0_chk1 v2), (k0_dev235 v2) < nD := fun v2 k0_hw1 => k0_hw1.2.2.2.2.2.2.2.2.2.2.2.2.2.2.2.2.2.2.2.2.2.2.2.2.1
theorem k0_dev238_lt : ∀ (v2 : BitVec 32) (k0_hw1 : k0_chk1 v2), (k0_dev238 v2) < nD := fun v2 k0_hw1 => k0_hw1.2.2.2.2.2.2.2.2.2.2.2.2.2.2.2.2.2.2.2.2.2.2.2.2.2.1
theorem k0_dev239_lt : ∀ (v2 : BitVec 32) (k0_hw1 : k0_chk1 v2), (k0_dev239 v2) < nD := fun v2 k0_hw1 => k0_hw1.2.2.2.2.2.2.2.2.2.2.2.2.2.2.2.2.2.2.2.2.2.2.2.2.2.2.1
theorem k0_dev242_lt : ∀ (v2 : BitVec 32) (k0_hw1 : k0_chk1 v2), (k0_dev242 v2) < nD := fun v2 k0_hw1 => k0_hw1.2.2.2.2.2.2.2.2.2.2.2.2.2.2.2.2.2.2.2.2.2.2.2.2.2.2.2.1
theorem k0_dev243_lt : ∀ (v2 : BitVec 32) (k0_hw1 : k0_chk1 v2), (k0_dev243 v2) < nD := fun v2 k0_hw1 => k0_hw1.2.2.2.2.2.2.2.2.2.2.2.2.2.2.2.2.2.2.2.2.2.2.2.2.2.2.2.2.1
theorem k0_dev246_lt : ∀ (v2 : BitVec 32) (k0_hw1 : k0_chk1 v2), (k0_dev246 v2) < nD := fun v2 k0_hw1 => k0_hw1.2.2.2.2.2.2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Steps.lean ====
/-
# The body of the call as a composition of ring steps

The printed body is one straight line, unrolled over both loops and cut at positions that have nothing to do
with them. Here the same line is written as the algorithm: a prologue, thirty-one reduce-scatter steps, the
activation and the first stores, thirty-one all-gather steps, and the last two waits. A direction is a Boolean:
`true` is the ring to the right, `false` its mirror image.
-/
module

public import proofs.«01_k».proof.Proof.Gen.KernelIdeal.Points

@[expose] public section

set_option maxRecDepth 16384

noncomputable section

namespace Cert.KernelIdeal.Steps

open Idealize.ShloMosaic Idealize.ShloMosaic.TcCoe
open Idealize.SL Idealize.SL.Sem
open Cert.KernelIdeal Cert.KernelIdeal.Gen

variable {F : FTy → Type} [FloatOps F]

/-! ## Buffers and semaphores by direction and parity -/

/-- The scratch buffers: the local product, the accumulator, and the two landing slots, of each direction. -/
inductive Bf where
  | loc (d : Bool)
  | acc (d : Bool)
  | slot (d : Bool) (p : Bool)
  deriving DecidableEq

/-- The buffer's reference. -/
def Bf.ref : Bf → Ref sig .tc
  | .loc true => cc0_scratch0
  | .acc true => cc0_scratch1
  | .slot true false => cc0_scratch2
  | .slot true true => cc0_scratch3
  | .loc false => cc0_scratch4
  | .acc false => cc0_scratch5
  | .slot false false => cc0_scratch6
  | .slot false true => cc0_scratch7

/-- The buffer as the kernel addresses it. -/
def Bf.mem : Bf → Memref sig .tc .vmem S256x2048 .f32
  | .loc true => Memref.whole cc0_scratch0
  | .acc true => Memref.whole cc0_scratch1
  | .slot true false => Memref.whole cc0_scratch2
  | .slot true true => Memref.whole cc0_scratch3
  | .loc false => Memref.whole cc0_scratch4
  | .acc false => Memref.whole cc0_scratch5
  | .slot false false => Memref.whole cc0_scratch6
  | .slot false true => Memref.whole cc0_scratch7

/-- Each is a whole buffer. -/
theorem Bf.whole (b : Bf) : b.mem.IsWhole := by
  rcases b with (_ | _) | (_ | _) | ⟨_ | _, _ | _⟩ <;> exact Memref.isWhole_whole _

/-- The send semaphore of a direction. -/
def sendS : Bool → DmaSem sig | true => 3 | false => 8
/-- The receive semaphore of a direction's slot. -/
def recvS : Bool → Bool → DmaSem sig
  | true, false => 4 | true, true => 5 | false, false => 9 | false, true => 10
/-- The store semaphore of a direction's slot. -/
def storeS : Bool → Bool → DmaSem sig
  | true, false => 6 | true, true => 7 | false, false => 11 | false, true => 12
/-- The credit semaphore of a direction. -/
def credS : Bool → Sem sig | true => 0 | false => 1

/-- The parity of a step as a Boolean. -/
def odd (s : ℕ) : Bool := s % 2 == 1

/-! ## The offsets the body uses -/

/-- The offsets into the first operand and into the result, with their being in bounds. -/
structure Offs where
  own : {o : Fin 2 → ℕ // ∀ a, o a + S256x256.size a ≤ S8192x256.size a}
  x : Bool → ℕ → {o : Fin 2 → ℕ // ∀ a, o a + S256x256.size a ≤ S8192x256.size a}
  o : Bool → ℕ → {o : Fin 2 → ℕ // ∀ a, o a + S256x2048.size a ≤ S8192x4096.size a}

/-- The offsets as the kernel computes them from the position word. -/
def offsOf (v0 : BitVec 32) (h : k0_chk3 v0) : Offs where
  own := ⟨k0_off1 v0, k0_off1_inb v0 h⟩
  x := fun d s => match d with
    | true => ⟨k0_off2 v0 (BitVec.ofNat 32 (s % 31)), k0_off2_inb v0 h ⟨s % 31, Nat.mod_lt _ (by decide)⟩⟩
    | false => ⟨k0_off3 v0 (BitVec.ofNat 32 (s % 31)), k0_off3_inb v0 h ⟨s % 31, Nat.mod_lt _ (by decide)⟩⟩
  o := fun d u => match d, u with
    | true, 0 => ⟨k0_off4 v0, k0_off4_inb v0 h⟩
    | false, 0 => ⟨k0_off5 v0, k0_off5_inb v0 h⟩
    | true, t + 1 => ⟨k0_off6 v0 (BitVec.ofNat 32 (t % 31)), k0_off6_inb v0 h ⟨t % 31, Nat.mod_lt _ (by decide)⟩⟩
    | false, t + 1 => ⟨k0_off7 v0 (BitVec.ofNat 32 (t % 31)), k0_off7_inb v0 h ⟨t % 31, Nat.mod_lt _ (by decide)⟩⟩

/-- The neighbour a direction sends to, from the two words. -/
def nxOf (v1 v2 : BitVec 32) (h1 : k0_chk2 v1) (h2 : k0_chk1 v2) : Bool → Dev nD
  | true => ⟨k0_dev2 v1, k0_dev2_lt v1 h1⟩
  | false => ⟨k0_dev1 v2, k0_dev1_lt v2 h2⟩

/-- The column offset of a direction's half of the weights. -/
def wOff : Bool → {o : Fin 2 → ℕ // ∀ a, o a + S256x2048.size a ≤ S256x4096.size a}
  | true => ⟨![0, 0], inb_S256x4096_S256x2048_0_0⟩
  | false => ⟨![0, 2048], inb_S256x4096_S256x2048_0_2048⟩

/-! ## The vector operations -/

/-- The product of a chunk of rows and a half of the weights, as the kernel forms it. -/
def dotV (a : Vec F S256x256 .f32) (b : Vec F S256x2048 .f32) : Vec F S256x2048 .f32 :=
  shapeCast S256x2048 (matmul dot_S256x256_S256x2048_S256x2048_1_0_0_1_n_n none
    (shapeCast S256x256 a shapeCasts_S256x256_S256x256)
    (shapeCast S256x2048 b shapeCasts_S256x2048_S256x2048)
    (constant S256x2048 .f32 0x00000000#32 : FVec F S256x2048 .f32)) shapeCasts_S256x2048_S256x2048

/-- The sum of what landed and the local product. -/
def addV (a b : Vec F S256x2048 .f32) : Vec F S256x2048 .f32 :=
  shapeCast S256x2048 (addf (a : FVec F S256x2048 .f32) b) shapeCasts_S256x2048_S256x2048

/-- The activation. -/
def reluV (a : Vec F S256x2048 .f32) : Vec F S256x2048 .f32 :=
  shapeCast S256x2048 (maximumf (a : FVec F S256x2048 .f32)
    (broadcast S256x2048 (FloatOps.ofBits (F := F) .f32 0x00000000#32 : Elt F .f32)))
    shapeCasts_S256x2048_S256x2048

/-! ## The effects -/

/-- A program of the call's body. -/
abbrev Pr (F : FTy → Type) [FloatOps F] (α : Type) := Prog (TpuEff nD τ sig (Elt F) Λ₀ .tc) α

/-- Loads a whole scratch buffer. -/
def ldB (b : Bf) : Pr F (Vec F S256x2048 .f32) :=
  Prog.lift (.load b.mem (Rect.unit (s := S256x2048) ![0, 0] S256x2048.size inb_S256x2048_S256x2048_0_0).toLoadRect
    (View.loadsAt_vmem h_S256x2048))

/-- Stores a whole scratch buffer. -/
def stB (b : Bf) (v : Vec F S256x2048 .f32) : Pr F PUnit :=
  Prog.lift (.store b.mem (Rect.unit (s := S256x2048) ![0, 0] S256x2048.size inb_S256x2048_S256x2048_0_0)
    v Finset.univ (View.stores_vmem_bits_univ h_S256x2048 rfl) (.inl rfl))

/-- Sends a scratch buffer into a neighbour's slot. -/
def sendB (nx : Bool → Dev nD) (d p : Bool) (b : Bf) : Pr F PUnit :=
  Prog.lift (.enqueueDma b.mem (.remote (Dev.tc (nx d)) (Bf.slot d p).mem (.dma (sendS d))) (.dma (recvS d p))
    b.whole.wordExact (Bf.slot d p).whole.wordExact ⟨⟨rfl, Or.inl rfl⟩, trivial⟩)

/-- Waits for the send out of a scratch buffer. -/
def waitSend (d p : Bool) (b : Bf) : Pr F PUnit :=
  Prog.lift (.waitDma2 (sendS d) (Bf.slot d p).mem b.mem (Bf.slot d p).whole.wordExact b.whole.wordExact)

/-- Waits for the landing in a slot. -/
def waitRecv (d p : Bool) (b : Bf) : Pr F PUnit :=
  Prog.lift (.waitDma2 (recvS d p) b.mem (Bf.slot d p).mem b.whole.wordExact (Bf.slot d p).whole.wordExact)

/-- The block of the result at an offset. -/
def oMem (o : {o : Fin 2 → ℕ // ∀ a, o a + S256x2048.size a ≤ S8192x4096.size a}) :
    Memref sig .tc .hbm S256x2048 .f32 :=
  (Memref.whole main_v24).slice (Rect.unit (s := S8192x4096) o.1 S256x2048.size o.2) (fun _ => rfl)

/-- Starts the copy of a scratch buffer into a block of the result. -/
def putB (of : Offs) (d p : Bool) (b : Bf) (u : ℕ) : Pr F PUnit :=
  Prog.lift (.enqueueDma b.mem (.here (oMem (of.o d u))) (.dma (storeS d p))
    b.whole.wordExact (View.wordExact_bits rfl) ⟨Or.inl rfl, trivial⟩)

/-- Waits for such a copy. -/
def waitPut (of : Offs) (d p : Bool) (b : Bf) (u : ℕ) : Pr F PUnit :=
  Prog.lift (.waitDma2 (storeS d p) b.mem (oMem (of.o d u)) b.whole.wordExact (View.wordExact_bits rfl))

/-- Tells the sender of a direction that a slot is free. -/
def sigCred (nx : Bool → Dev nD) (d : Bool) : Pr F PUnit := semSignalWord (nx (!d)) (credS d) 1#32

/-- Waits for a free slot of the neighbour. -/
def waitCred (d : Bool) : Pr F PUnit := semWaitWord (credS d) 1#32

section Body

variable (arg1 : Memref sig .tc .vmem S8192x256 .f32) (arg2 : Memref sig .tc .vmem S256x4096 .f32)

/-- Loads a chunk of the first operand's rows. -/
def ldX (o : {o : Fin 2 → ℕ // ∀ a, o a + S256x256.size a ≤ S8192x256.size a}) : Pr F (Vec F S256x256 .f32) :=
  Prog.lift (.load arg1 (Rect.unit (s := S8192x256) o.1 S256x256.size o.2).toLoadRect
    (View.loadsAt_vmem h_S256x256))

/-- Loads a half of the weights. -/
def ldW (d : Bool) : Pr F (Vec F S256x2048 .f32) :=
  Prog.lift (.load arg2 (Rect.unit (s := S256x4096) (wOff d).1 S256x2048.size (wOff d).2).toLoadRect
    (View.loadsAt_vmem h_S256x2048))

/-- Computes a product into a scratch buffer. -/
def dotB (o : {o : Fin 2 → ℕ // ∀ a, o a + S256x256.size a ≤ S8192x256.size a}) (d : Bool) (b : Bf) : Pr F PUnit :=
  ldX arg1 o >>= fun a => ldW arg2 d >>= fun w => ldB b >>= fun _ => stB b (dotV a w)

/-- Adds the local product to what landed, into the accumulator. -/
def addB (d p : Bool) : Pr F PUnit :=
  ldB (.slot d p) >>= fun a => ldB (.loc d) >>= fun b => ldB (.acc d) >>= fun _ => stB (.acc d) (addV a b)

/-- Applies the activation to the accumulator. -/
def reluB (d : Bool) : Pr F PUnit :=
  ldB (.acc d) >>= fun a => ldB (.acc d) >>= fun _ => stB (.acc d) (reluV a)

/-- Both directions of an effect, the right one first. -/
def both (f : Bool → Pr F PUnit) : Pr F PUnit := f true >>= fun _ => f false

/-- The prologue after the words: the handshake with both neighbours and the device's own products. -/
def pre (nx : Bool → Dev nD) (of : Offs) : Pr F PUnit :=
  semSignalWord (nx false) barrier0 1#32 >>= fun _ =>
  semSignalWord (nx true) barrier0 1#32 >>= fun _ =>
  semWaitWord barrier0 2#32 >>= fun _ =>
  both fun d => dotB arg1 arg2 of.own d (.acc d)

/-- Step `s` of the reduce-scatter. -/
def rsStep (nx : Bool → Dev nD) (of : Offs) (s : ℕ) : Pr F PUnit :=
  (bif Nat.ble 2 s then both waitCred else pure ⟨⟩) >>= fun _ =>
  (both fun d => sendB nx d (odd s) (.acc d)) >>= fun _ =>
  (both fun d => dotB arg1 arg2 (of.x d s) d (.loc d)) >>= fun _ =>
  (both fun d => waitSend d (odd s) (.acc d) >>= fun _ => waitRecv d (odd s) (.acc d)) >>= fun _ =>
  (both fun d => addB d (odd s)) >>= fun _ =>
  (bif Nat.ble s 28 then both (sigCred nx) else pure ⟨⟩)

/-- The activation and the stores of the device's own reduced chunks. -/
def mid (nx : Bool → Dev nD) (of : Offs) : Pr F PUnit :=
  both (sigCred nx) >>= fun _ => both (sigCred nx) >>= fun _ =>
  both reluB >>= fun _ =>
  (both fun d => putB of d false (.acc d) 0) >>= fun _ =>
  (both fun d => waitPut of d false (.acc d) 0)

/-- What step `t` of the all-gather sends: the reduced chunk first, then what landed a step before. -/
def agSrc (d : Bool) (t : ℕ) : Bf := bif Nat.beq t 0 then .acc d else .slot d (!(odd t))

/-- Step `t` of the all-gather. -/
def agStep (nx : Bool → Dev nD) (of : Offs) (t : ℕ) : Pr F PUnit :=
  both waitCred >>= fun _ =>
  (both fun d => sendB nx d (odd t) (agSrc d t)) >>= fun _ =>
  (both fun d => waitRecv d (odd t) (agSrc d t)) >>= fun _ =>
  (both fun d => putB of d (odd t) (.slot d (odd t)) (t + 1)) >>= fun _ =>
  (both fun d => waitSend d (odd t) (agSrc d t)) >>= fun _ =>
  (bif Nat.ble 1 t then both fun d => waitPut of d (!(odd t)) (.slot d (!(odd t))) t else pure ⟨⟩) >>= fun _ =>
  (bif Nat.ble 1 t && Nat.ble t 29 then both (sigCred nx) else pure ⟨⟩)

/-- `n` steps from step `s` on, then a program. -/
def loop (f : ℕ → Pr F PUnit) : (n : ℕ) → (s : ℕ) → Pr F PUnit → Pr F PUnit
  | 0, _, k => k
  | n + 1, s, k => f s >>= fun _ => loop f n (s + 1) k

/-- The body after the words. -/
def main (nx : Bool → Dev nD) (of : Offs) : Pr F PUnit :=
  pre arg1 arg2 nx of >>= fun _ =>
  loop (rsStep arg1 arg2 nx of) 31 0 (mid nx of >>= fun _ =>
  loop (agStep nx of) 31 0 (both fun d => waitPut of d false (.slot d false) 31))

variable (arg0 : Memref sig .tc .smem S3 .i32)

/-- The whole body: the three words, their side conditions, and the rest. -/
def body : Pr F PUnit :=
  smemLoad arg0 (Rect.unit (s := S3) ![0] S1.size inb_S3_S1_0) numel1_S1 rfl >>= fun v0 =>
  Prog.lift (TpuEff.assume (k0_chk3 v0) (k0_chk3.dec v0)) >>= fun h0 =>
  smemLoad arg0 (Rect.unit (s := S3) ![1] S1.size inb_S3_S1_1) numel1_S1 rfl >>= fun v1 =>
  Prog.lift (TpuEff.assume (k0_chk2 v1) (k0_chk2.dec v1)) >>= fun h1 =>
  smemLoad arg0 (Rect.unit (s := S3) ![2] S1.size inb_S3_S1_2) numel1_S1 rfl >>= fun v2 =>
  Prog.lift (TpuEff.assume (k0_chk1 v2) (k0_chk1.dec v2)) >>= fun h2 =>
  main arg1 arg2 (nxOf v1 v2 h1.down h2.down) (offsOf v0 h0.down)

end Body

end Cert.KernelIdeal.Steps

end

end
-- ==== Proof.Proto.lean ====
/-
# The protocol of the call: ring, contents, schedule, dues

The devices form a ring; the right direction sends to the successor, the left one to the predecessor, and every
statement is made once for a direction `d` (`nx d` is the neighbour it sends to). Both phases of a direction are
one sequence of sixty-two transfers: `j < 31` are the reduce-scatter's, `31 ≤ j` the all-gather's.

Cells of a device, thirteen in all:

* the barrier: two units, one of each neighbour, handing over that neighbour's landing slots;
* the credits of a direction: one round of sixty units, all paid by the neighbour the direction sends to. The
  payer may run ahead by more than one, so the units are taken one at a time, and what a unit hands over is the
  monotone count of the slots' releases: after `n` units some unit numbered `n - 1` or later has been taken;
* the send, receive and store cells: one transfer per round.

A landing slot is passed through an invariant: the owner releases it, the sender takes it with the knowledge of
the release, and the transfer brings it back.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

/-! ## The ring -/

/-- The position words, the successors and the predecessors, device by device. -/
def posT : List ℕ := [0, 31, 30, 1, 2, 29, 28, 3, 7, 24, 25, 6, 5, 26, 27, 4, 8, 23, 22, 9, 10, 21, 20, 11, 15, 16, 17, 14,
  13, 18, 19, 12]
def sucT : List ℕ := [3, 0, 1, 4, 7, 2, 5, 15, 16, 10, 13, 8, 11, 14, 6, 12, 19, 9, 17, 20, 23, 18, 21, 31, 25, 26, 29, 24,
  27, 30, 22, 28]
def preT : List ℕ := [1, 2, 5, 0, 3, 6, 14, 4, 11, 17, 9, 12, 15, 10, 13, 7, 8, 18, 21, 16, 19, 22, 30, 20, 27, 24, 25, 28,
  31, 26, 29, 23]

/-- A device's position on the ring. -/
def posN (c : Dev nD) : ℕ := posT.getD c.val 0
/-- A device's position word. -/
def posW (c : Dev nD) : BitVec 32 := BitVec.ofNat 32 (posN c)
/-- The neighbour a direction sends to. -/
def nx (d : Bool) (c : Dev nD) : Dev nD :=
  ⟨(bif d then sucT.getD c.val 0 else preT.getD c.val 0) % 32, Nat.mod_lt _ (by decide)⟩
/-- The neighbour a direction receives from. -/
abbrev pv (d : Bool) (c : Dev nD) : Dev nD := nx (!d) c

theorem nx_pv (d : Bool) (c : Dev nD) : nx d (nx (!d) c) = c := by revert d c; decide +kernel
theorem pv_nx (d : Bool) (c : Dev nD) : nx (!d) (nx d c) = c := by revert d c; decide +kernel
/-- The successor's position is the next one, the predecessor's the one before. -/
theorem pos_nx (d : Bool) (c : Dev nD) : posN (nx d c) = (posN c + bif d then 1 else 31) % 32 := by
  revert d c; decide +kernel
theorem pos_lt (c : Dev nD) : posN c < 32 := by revert c; decide +kernel
theorem pos_inj : ∀ c c' : Dev nD, posN c = posN c' → c = c' := by decide +kernel

/-- The position word's side condition holds of every device. -/
theorem chk3 (c : Dev nD) : k0_chk3 (posW c) := by
  have h : ∀ c : Dev nD, @Decidable.decide (k0_chk3 (posW c)) (k0_chk3.dec _) = true := by decide +kernel
  exact @of_decide_eq_true _ (k0_chk3.dec _) (h c)

/-- A device's offsets. -/
def offs (c : Dev nD) : Offs := offsOf (posW c) (chk3 c)

/-! ## The sequence of transfers -/

/-- The slot transfer `j` lands in. -/
def sl (j : ℕ) : Bool := if j < 31 then odd j else odd (j - 31)
/-- How many of the first `n` transfers land in slot `p`. -/
def cnt (p : Bool) : ℕ → ℕ
  | 0 => 0
  | n + 1 => cnt p n + if sl n = p then 1 else 0
/-- The transfer of round `r` of slot `p`. -/
def jOf (p : Bool) (r : ℕ) : ℕ :=
  bif p then (if r < 15 then 2 * r + 1 else 2 + 2 * r) else (if r < 16 then 2 * r else 2 * r - 1)
/-- How many rounds a slot has. -/
def nRecv (p : Bool) : ℕ := bif p then 30 else 32
/-- The buffer transfer `j` is sent from, and at which share. -/
def srcB (d : Bool) (j : ℕ) : Bf := if j ≤ 31 then .acc d else .slot d (sl (j - 1))
def srcQ (j : ℕ) : PosShare TreeShare := if j ≤ 31 then fullShare else fullShare.right
/-- The store cell of store `u`, its round, and the converse. -/
def stP (u : ℕ) : Bool := if u = 0 then false else odd (u - 1)
def stR (u : ℕ) : ℕ := if u = 0 then 0 else if stP u then (u - 1) / 2 else 1 + (u - 1) / 2
def uOf (p : Bool) (r : ℕ) : ℕ := bif p then 2 * r + 2 else 2 * r - 1
def nStore (p : Bool) : ℕ := bif p then 15 else 17
/-- The buffer store `u` copies from, and at which share. -/
def putSrc (d : Bool) (u : ℕ) : Bf := if u = 0 then .acc d else .slot d (stP u)
def putQ (u : ℕ) : PosShare TreeShare := if u = 0 then fullShare else fullShare.left
/-- The transfer below which all had been taken in when credit `k` was paid. -/
def freed (k : ℕ) : ℕ := if k = 29 then 31 else k + 1
/-- The level of credit `k`. -/
def ci (k : ℕ) : ℕ := if k ≤ 28 then 2 * k + 3 else if k ≤ 30 then 63 else 2 * k + 5

theorem jOf_cnt : ∀ j, j < 62 → jOf (sl j) (cnt (sl j) j) = j := by decide +kernel
theorem cnt_lt : ∀ j, j < 62 → cnt (sl j) j < nRecv (sl j) := by decide +kernel
theorem cnt_end (p : Bool) : cnt p 62 = nRecv p := by revert p; decide +kernel
theorem uOf_st : ∀ u, u < 32 → uOf (stP u) (stR u) = u := by decide +kernel
theorem stR_lt : ∀ u, u < 32 → stR u < nStore (stP u) := by decide +kernel
theorem cnt_mono (p : Bool) {a b : ℕ} (h : a ≤ b) : cnt p a ≤ cnt p b := by
  induction h with
  | refl => exact le_rfl
  | step _ ih => exact ih.trans (by simp only [cnt]; omega)
theorem freed_mono {a b : ℕ} (h : a ≤ b) : freed a ≤ freed b := by unfold freed; split <;> split <;> omega
/-- What credit `k` promises is enough for transfer `k + 2`. -/
theorem cnt_freed : ∀ k, k < 60 → cnt (sl (k + 2)) (k + 2) ≤ cnt (sl (k + 2)) (freed k) := by decide +kernel
theorem ci_mono {a b : ℕ} (h : a ≤ b) : ci a ≤ ci b := by unfold ci; (repeat' split) <;> omega

/-! ## Contents -/

section Contents

variable (X : Dev nD → (cc0_stg1_0 : Ref sig .tc).ty.Contents (Elt F))
  (Wt : Dev nD → (cc0_stg2_0 : Ref sig .tc).ty.Contents (Elt F))

/-- A chunk of rows of the first operand, as the kernel loads it. -/
def xRows (f : (cc0_stg1_0 : Ref sig .tc).ty.Contents (Elt F))
    (o : {o : Fin 2 → ℕ // ∀ a, o a + S256x256.size a ≤ S8192x256.size a}) : Vec F S256x256 .f32 :=
  (Memref.whole cc0_stg1_0 : Memref sig .tc .vmem S8192x256 .f32).view.readAt (Elt F)
    (Rect.unit (s := S8192x256) o.1 S256x256.size o.2).toLoadRect f
/-- A half of the weights, as the kernel loads it. -/
def wHalf (f : (cc0_stg2_0 : Ref sig .tc).ty.Contents (Elt F)) (d : Bool) : Vec F S256x2048 .f32 :=
  (Memref.whole cc0_stg2_0 : Memref sig .tc .vmem S256x4096 .f32).view.readAt (Elt F)
    (Rect.unit (s := S256x4096) (wOff d).1 S256x2048.size (wOff d).2).toLoadRect f

/-- The accumulator of direction `d` after `s` steps of the reduce-scatter. -/
def acc (d : Bool) : ℕ → Dev nD → Vec F S256x2048 .f32
  | 0, c => dotV (xRows (X c) (offs c).own) (wHalf (Wt c) d)
  | s + 1, c => addV (acc d s (pv d c)) (dotV (xRows (X c) ((offs c).x d s)) (wHalf (Wt c) d))
/-- The `u`-th chunk of the result a device stores in direction `d`. -/
def gat (d : Bool) : ℕ → Dev nD → Vec F S256x2048 .f32
  | 0, c => reluV (acc X Wt d 31 c)
  | u + 1, c => gat d u (pv d c)
/-- What transfer `j` carries away from a device. -/
def sent (d : Bool) (j : ℕ) (c : Dev nD) : Vec F S256x2048 .f32 :=
  if j < 31 then acc X Wt d j c else gat X Wt d (j - 31) c

end Contents

/-! ## Cells -/

/-- The cells of a device. -/
inductive Cl where
  | bar
  | cred (d : Bool)
  | send (d : Bool)
  | recv (d : Bool) (p : Bool)
  | store (d : Bool) (p : Bool)
  deriving DecidableEq

/-- The semaphore of a cell. -/
def Cl.sem : Cl → SemLoc sig
  | .bar => .reg barrier0
  | .cred d => .reg (credS d)
  | .send d => .dma (sendS d)
  | .recv d p => .dma (recvS d p)
  | .store d p => .dma (storeS d p)

/-- The cell of a semaphore. -/
def clOf : SemLoc sig → Option Cl
  | .reg s => match s.val with
    | 0 => some (.cred true) | 1 => some (.cred false) | 2 => some .bar | _ => none
  | .dma s => match s.val with
    | 3 => some (.send true) | 4 => some (.recv true false) | 5 => some (.recv true true)
    | 6 => some (.store true false) | 7 => some (.store true true)
    | 8 => some (.send false) | 9 => some (.recv false false) | 10 => some (.recv false true)
    | 11 => some (.store false false) | 12 => some (.store false true) | _ => none

theorem clOf_sem (k : Cl) : clOf k.sem = some k := by
  rcases k with _ | (_ | _) | (_ | _) | ⟨_ | _, _ | _⟩ | ⟨_ | _, _ | _⟩ <;> rfl
theorem sem_inj {k k' : Cl} (h : k.sem = k'.sem) : k = k' :=
  Option.some.inj ((clOf_sem k).symm.trans ((congrArg clOf h).trans (clOf_sem k')))

/-- A cell of a device. -/
abbrev cell (k : Cl) (c : Dev nD) : GSem nD τ sig := ((c : Thread nD τ), k.sem)

theorem cell_inj {k k' : Cl} {c c' : Dev nD} (h : cell k c = cell k' c') : k = k' ∧ c = c' := by
  have h1 : (c : Thread nD τ) = (c' : Thread nD τ) := congrArg Prod.fst h
  exact ⟨sem_inj (congrArg Prod.snd h), congrArg Prod.fst h1⟩

/-- The credit of one transfer. -/
def NN : ℕ := (Bf.slot true false).mem.view.dmaCredit
theorem NN_pos : 0 < NN := View.dmaCredit_pos _ (by decide)

/-! ## The resource algebra -/

/-- A landing slot: its device, direction and parity. -/
abbrev Key : Type := Dev nD × Bool × Bool
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-! ## Assertions on the buffers -/

/-- A scratch buffer of a device at a share and contents. -/
def Bf.pt (b : Bf) (c : Dev nD) (q : PosShare TreeShare) (v : Vec F S256x2048 .f32) : sProp 𝕄 :=
  match b with
  | .loc true => ((c : Thread nD τ).loc cc0_scratch0) ↦{q} v
  | .acc true => ((c : Thread nD τ).loc cc0_scratch1) ↦{q} v
  | .slot true false => ((c : Thread nD τ).loc cc0_scratch2) ↦{q} v
  | .slot true true => ((c : Thread nD τ).loc cc0_scratch3) ↦{q} v
  | .loc false => ((c : Thread nD τ).loc cc0_scratch4) ↦{q} v
  | .acc false => ((c : Thread nD τ).loc cc0_scratch5) ↦{q} v
  | .slot false false => ((c : Thread nD τ).loc cc0_scratch6) ↦{q} v
  | .slot false true => ((c : Thread nD τ).loc cc0_scratch7) ↦{q} v

instance pt_storable (b : Bf) (c : Dev nD) (q) (v : Vec F S256x2048 .f32) :
    Storable (upEmb : UEmb _ 𝕄) (Bf.pt b c q v) := by
  rcases b with (_ | _) | (_ | _) | ⟨_ | _, _ | _⟩ <;> (unfold Bf.pt; infer_instance)

/-- A whole buffer's share is its two halves. -/
theorem pt_halves (b : Bf) (c : Dev nD) (v : Vec F S256x2048 .f32) :
    (Bf.pt b c fullShare v : sProp 𝕄) ⊣⊢ iprop(Bf.pt b c fullShare.left v ∗ Bf.pt b c fullShare.right v) := by
  rcases b with (_ | _) | (_ | _) | ⟨_ | _, _ | _⟩ <;>
    exact pointsTo_share (PosShare.mem_left_op_right fullShare)

/-- A landing slot, whatever it holds. -/
def slotA (k : Key) : sProp 𝕄 := iprop(∃ v : Vec F S256x2048 .f32, Bf.pt (.slot k.2.1 k.2.2) k.1 fullShare v)

instance slotA_storable (k : Key) : Storable (upEmb : UEmb _ 𝕄) (slotA (F := F) k) := by
  unfold slotA; infer_instance

/-- A block of the result at a device. -/
def oPt (d : Bool) (u : ℕ) (c : Dev nD) (f : (main_v24 : Ref sig .tc).ty.Contents (Elt F)) : sProp 𝕄 :=
  (oMem ((offs c).o d u)).view.loc (c : Thread nD τ) ↦[(oMem ((offs c).o d u)).view.set]{fullShare} f

instance oPt_storable (d : Bool) (u : ℕ) (c : Dev nD) (f) : Storable (upEmb : UEmb _ 𝕄) (oPt (F := F) d u c f) := by
  unfold oPt
  have h : ∀ (ℓ : Loc nD τ sig) (I : Finset (Idx ℓ)) (q : PosShare TreeShare) (g : Buf (Elt F) ℓ),
      Storable (upEmb : UEmb _ 𝕄) (ℓ ↦[I]{q} g : sProp 𝕄) := fun _ _ _ _ => inferInstance
  exact h _ _ _ _

/-! ## The schedule -/

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F))

/-- The duties of a round. -/
def dutiesC : Cl → ℕ → Finset ℕ
  | .bar, r => if r = 0 then {0, 1} else ∅
  | .cred _, r => if r = 0 then Finset.range 60 else ∅
  | .send _, r => if r < 62 then {0} else ∅
  | .recv _ p, r => if r < nRecv p then {0} else ∅
  | .store _ p, r => if r < nStore p then {0} else ∅

/-- What a neighbour lets its sender know of its two slots: how far it has released and received. -/
def slotsKnown (d : Bool) (y : Dev nD) (n : ℕ) : sProp 𝕄 :=
  iprop((released ES (y, d, false) (1 + cnt false n) ∗ reached ER (cell (.recv d false) y) (cnt false n))
    ∗ (released ES (y, d, true) (1 + cnt true n) ∗ reached ER (cell (.recv d true) y) (cnt true n)))

instance slotsKnown_storable (d : Bool) (y : Dev nD) (n : ℕ) :
    Storable (upEmb : UEmb _ 𝕄) (slotsKnown (F := F) d y n) := by unfold slotsKnown; infer_instance

/-- The direction of a barrier duty. -/
def dirOf (j : ℕ) : Bool := j == 1
def dutyOf (d : Bool) : ℕ := bif d then 1 else 0

/-- What a duty hands over. -/
def payC : Cl → Dev nD → ℕ → ℕ → sProp 𝕄
  | .bar, c, _, j => iprop(slotsKnown (dirOf j) (nx (dirOf j) c) 0
      ∗ reached ER (cell (.cred (!(dirOf j))) (nx (dirOf j) c)) 0)
  | .cred d, c, _, j => slotsKnown d (nx d c) (freed j)
  | .send d, c, r, _ => Bf.pt (srcB d r) c (srcQ r) (sent X Wt d r c)
  | .recv d p, c, r, _ => Bf.pt (.slot d p) c fullShare (sent X Wt d (jOf p r) (pv d c))
  | .store d p, c, r, _ => iprop(oPt d (uOf p r) c Rf ∗ Bf.pt (putSrc d (uOf p r)) c (putQ (uOf p r)) (gat X Wt d (uOf p r) c))

instance payC_storable (k : Cl) (c : Dev nD) (r j : ℕ) : Storable (upEmb : UEmb _ 𝕄) (payC X Wt Rf k c r j) := by
  cases k <;> (unfold payC; infer_instance)

/-- The units of a duty. -/
def amountC : Cl → ℕ
  | .bar => 1
  | .cred _ => 1
  | .send _ => NN
  | .recv _ _ => NN
  | .store _ _ => NN

theorem amountC_pos (k : Cl) : 0 < amountC k := by
  cases k <;> simp only [amountC] <;> first | exact NN_pos | exact Nat.one_pos

/-- The units a semaphore's duties pay. -/
def amtOf : Option Cl → ℕ
  | some k => amountC k
  | none => 1
theorem amtOf_pos (o : Option Cl) : 0 < amtOf o := by
  cases o <;> simp only [amtOf]
  · exact Nat.one_pos
  · exact amountC_pos _

/-- The schedule. -/
def ringRd : Rounds.Schedule (GSem nD τ sig) ℕ 𝕄 where
  duties g r := if g.1.2 = .tc then (match clOf g.2 with | some k => dutiesC k r | none => ∅) else ∅
  unitless _ := False
  amount g _ _ := amtOf (clOf g.2)
  payload g r j := match clOf g.2 with | some k => payC X Wt Rf k g.1.1 r j | none => iprop(emp)
  amount_pos g _ _ _ := amtOf_pos _

instance ringRd_payload_storable (g : GSem nD τ sig) (r j : ℕ) :
    Storable (upEmb : UEmb _ 𝕄) ((ringRd X Wt Rf).payload g r j) := by
  show Storable upEmb (match clOf g.2 with | some k => payC X Wt Rf k g.1.1 r j | none => iprop(emp))
  cases clOf g.2 <;> infer_instance

theorem duties_eq (k : Cl) (c : Dev nD) (r : ℕ) : (ringRd X Wt Rf).duties (cell k c) r = dutiesC k r := by
  dsimp only [ringRd]; rw [if_pos rfl, clOf_sem]
theorem amount_eq (k : Cl) (c : Dev nD) (r j : ℕ) : (ringRd X Wt Rf).amount (cell k c) r j = amountC k := by
  dsimp only [ringRd]; rw [clOf_sem, amtOf]
theorem payload_eq (k : Cl) (c : Dev nD) (r j : ℕ) :
    (ringRd X Wt Rf).payload (cell k c) r j = payC X Wt Rf k c r j := by
  dsimp only [ringRd]; rw [clOf_sem]
theorem expect_eq (k : Cl) (c : Dev nD) (r : ℕ) :
    (ringRd X Wt Rf).expect (cell k c) r = (dutiesC k r).card * amountC k := by
  unfold Schedule.expect Schedule.amountOf
  rw [duties_eq, Finset.sum_congr rfl fun j _ => amount_eq X Wt Rf k c r j, Finset.sum_const, smul_eq_mul]

/-! ## Dues and levels -/

/-- What is still owed of a direction's transfers from `a` on, and of its credits from `b` on. -/
def sendDue (d : Bool) (c : Dev nD) (a : ℕ) : CellTallies nD τ sig ℕ :=
  ∑ j ∈ Finset.Ico a 62, tallyAt (cell (.recv d (sl j)) (nx d c)) (2 * j + 2) NN
def credDue (d : Bool) (c : Dev nD) (b : ℕ) : CellTallies nD τ sig ℕ :=
  ∑ k ∈ Finset.Ico b 60, tallyAt (cell (.cred d) (pv d c)) (ci k) 1
def due (c : Dev nD) (aR aL bR bL : ℕ) : CellTallies nD τ sig ℕ :=
  (sendDue true c aR + sendDue false c aL) + (credDue true c bR + credDue false c bL)
/-- The units of the handshake: to the predecessor first. -/
def dueB (c : Dev nD) : CellTallies nD τ sig ℕ :=
  due c 0 0 0 0 + tallyAt (cell .bar (nx true c)) 1 1
def due₀ (c : Dev nD) : CellTallies nD τ sig ℕ :=
  dueB c + tallyAt (cell .bar (nx false c)) 1 1

theorem sum_pop {α : Type} [AddCommMonoid α] (f : ℕ → α) {a n : ℕ} (h : a < n) :
    ∑ j ∈ Finset.Ico a n, f j = ∑ j ∈ Finset.Ico (a + 1) n, f j + f a := by
  have e : Finset.Ico a n = insert a (Finset.Ico (a + 1) n) := by ext x; simp only [Finset.mem_insert, Finset.mem_Ico]; omega
  rw [e, Finset.sum_insert (by simp), add_comm]

theorem sendDue_pop (d : Bool) (c : Dev nD) {a : ℕ} (h : a < 62) :
    sendDue d c a = sendDue d c (a + 1) + tallyAt (cell (.recv d (sl a)) (nx d c)) (2 * a + 2) NN := sum_pop _ h
theorem credDue_pop (d : Bool) (c : Dev nD) {b : ℕ} (h : b < 60) :
    credDue d c b = credDue d c (b + 1) + tallyAt (cell (.cred d) (pv d c)) (ci b) 1 := sum_pop _ h

/-- The indices of every core's cells; an index is its own level. -/
def L (g : GSem nD τ sig) : Finset ℕ := if g.1.2 = .tc then Finset.range 200 else ∅
def lv (_ : GSem nD τ sig) (i : ℕ) : ℕ := i
theorem L_tc (c : Dev nD) (sm : SemLoc sig) : L ((c : Thread nD τ), sm) = Finset.range 200 := if_pos rfl
theorem L_of_ne (g : GSem nD τ sig) (h : g.1.2 ≠ .tc) : L g = ∅ := if_neg h

theorem sum_tally_pos {s : Finset ℕ} {G : ℕ → GSem nD τ sig} {I : ℕ → ℕ} {n : ℕ} {g : GSem nD τ sig} {i : ℕ}
    (h : 0 < (∑ j ∈ s, tallyAt (G j) (I j) n : CellTallies nD τ sig ℕ) g i) : ∃ j ∈ s, g = G j ∧ i = I j := by
  by_contra hn
  push Not at hn
  rw [Finset.sum_apply, Finsupp.finsetSum_apply] at h
  rw [Finset.sum_eq_zero fun j hj => by
    rw [tallyAt_apply, if_neg fun hh => hn j hj hh.1 hh.2]] at h
  exact lt_irrefl 0 h

theorem sendDue_pos {d : Bool} {c : Dev nD} {a : ℕ} {g : GSem nD τ sig} {i : ℕ} (h : 0 < sendDue d c a g i) :
    (∃ k y, g = cell k y) ∧ 2 * a + 2 ≤ i ∧ i < 200 := by
  obtain ⟨j, hj, hg, hi⟩ := sum_tally_pos h
  rw [Finset.mem_Ico] at hj
  exact ⟨⟨_, _, hg⟩, by omega, by omega⟩

theorem credDue_pos {d : Bool} {c : Dev nD} {b : ℕ} {g : GSem nD τ sig} {i : ℕ} (h : 0 < credDue d c b g i) :
    (∃ k y, g = cell k y) ∧ b < 60 ∧ ci b ≤ i ∧ i < 200 := by
  obtain ⟨j, hj, hg, hi⟩ := sum_tally_pos h
  rw [Finset.mem_Ico] at hj
  refine ⟨⟨_, _, hg⟩, by omega, hi ▸ ci_mono hj.1, ?_⟩
  have : ci j ≤ ci 59 := ci_mono (by omega)
  have h59 : ci 59 = 123 := rfl
  omega

theorem due_pos {c : Dev nD} {aR aL bR bL : ℕ} {g : GSem nD τ sig} {i : ℕ} (h : 0 < due c aR aL bR bL g i) :
    (∃ k y, g = cell k y) ∧ i < 200 ∧ (2 * aR + 2 ≤ i ∨ 2 * aL + 2 ≤ i ∨ (bR < 60 ∧ ci bR ≤ i) ∨ (bL < 60 ∧ ci bL ≤ i)) := by
  unfold due at h
  simp only [Pi.add_apply, Finsupp.add_apply] at h
  rcases Nat.eq_zero_or_pos (sendDue true c aR g i) with h1 | h1
  · rcases Nat.eq_zero_or_pos (sendDue false c aL g i) with h2 | h2
    · rcases Nat.eq_zero_or_pos (credDue true c bR g i) with h3 | h3
      · obtain ⟨hg, hb, hc, hi⟩ := credDue_pos (d := false) (c := c) (b := bL) (g := g) (i := i) (by omega)
        exact ⟨hg, hi, .inr (.inr (.inr ⟨hb, hc⟩))⟩
      · obtain ⟨hg, hb, hc, hi⟩ := credDue_pos h3
        exact ⟨hg, hi, .inr (.inr (.inl ⟨hb, hc⟩))⟩
    · obtain ⟨hg, hc, hi⟩ := sendDue_pos h2
      exact ⟨hg, hi, .inr (.inl hc)⟩
  · obtain ⟨hg, hc, hi⟩ := sendDue_pos h1
    exact ⟨hg, hi, .inl hc⟩

theorem due₀_pos {c : Dev nD} {g : GSem nD τ sig} {i : ℕ} (h : 0 < due₀ c g i) :
    (∃ k y, g = cell k y) ∧ i < 200 ∧ 1 ≤ i := by
  unfold due₀ dueB at h
  simp only [Pi.add_apply, Finsupp.add_apply, tallyAt_apply] at h
  rcases Nat.eq_zero_or_pos (due c 0 0 0 0 g i) with h1 | h1
  · rw [h1] at h
    by_cases hA : g = cell .bar (nx true c) ∧ i = 1
    · exact ⟨⟨_, _, hA.1⟩, by omega, by omega⟩
    · by_cases hB : g = cell .bar (nx false c) ∧ i = 1
      · exact ⟨⟨_, _, hB.1⟩, by omega, by omega⟩
      · rw [if_neg hA, if_neg hB] at h; omega
  · obtain ⟨hg, hi, hh⟩ := due_pos h1
    have h0 : ci 0 = 3 := rfl
    exact ⟨hg, hi, by omega⟩

/-- A wait below everything still owed is allowed. -/
theorem mayWait (c : Dev nD) (k : Cl) (i : ℕ) {aR aL bR bL : ℕ} (hi : i < 200) (h1 : i < 2 * aR + 2) (h2 : i < 2 * aL + 2)
    (h3 : bR < 60 → i < ci bR) (h4 : bL < 60 → i < ci bL) :
    (levAts L lv : sProp 𝕄) ⊢ MayWait (c : Thread nD τ) k.sem i (due c aR aL bR bL) :=
  MayOwe.of_cut (L := L) (lev := lv) i
    (fun p hp => by rw [Finset.mem_singleton.mp hp, L_tc]; exact Finset.mem_range.mpr hi)
    (fun g u hg => by
      obtain ⟨⟨k, y, rfl⟩, hu, -⟩ := due_pos hg
      rw [L_tc]; exact Finset.mem_range.mpr hu)
    (fun p hp => by rw [Finset.mem_singleton.mp hp]; exact le_rfl)
    (fun g u hg => by
      obtain ⟨-, -, hh⟩ := due_pos hg
      show i < u
      rcases hh with hh | hh | hh | hh
      · omega
      · omega
      · have := h3 hh.1; omega
      · have := h4 hh.1; omega)

end Cert.KernelIdeal.Proto

end

end
-- ==== Proof.Effects.lean ====
/-
# The rules of the body's effects

One rule per kind of effect, at a symbolic device, direction and step. Each is stated with its continuation: what it
takes, then what it gives back to whatever follows.
-/
module

public import proofs.«01_k».proof.Proof.Proto

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

abbrev 𝒱₀ : Variants := Variants.none

/-- The weakest precondition of a stretch of the body on device `c`. -/
abbrev WP (c : Dev nD) {α : Type} (p : Pr F α) (Q : α → sProp 𝕄) : sProp 𝕄 :=
  wp frame (wpE (defs₀ (F := F)) 𝒱₀ (c : Thread nD τ) none) Set.univ p Q

/-- What a core owes, whatever waits it has recorded. -/
def owing (c : Dev nD) (O : CellTallies nD τ sig ℕ) : sProp 𝕄 := iprop(∃ W, owes (c : Thread nD τ) O W)

theorem hz2 : (![0, 0] : Fin 2 → Nat) = fun _ => 0 := funext fun a => by fin_cases a <;> rfl

/-! ## Loads and stores -/

theorem whole_view (r : Ref sig .tc) (c : Dev nD) (q : PosShare TreeShare) (v : Buf (Elt F) ((c : Thread nD τ).loc r)) :
    (((c : Thread nD τ).loc r) ↦{q} v : sProp 𝕄)
      = ((Memref.whole r).view.loc (c : Thread nD τ) ↦[(Memref.whole r : Memref sig .tc _ _ _).view.set]{q} v) := by
  rw [View.set_whole]

theorem intro_view (m : Memref sig .tc .vmem S256x2048 .f32) (c : Dev nD) (q : PosShare TreeShare) (f : Buf (Elt F) (m.view.loc (c : Thread nD τ))) :
    (m.view.loc (c : Thread nD τ) ↦[m.view.set]{q} f : sProp 𝕄)
      ⊢ iprop(∃ g, ⌜m.view.read (Elt F) g = m.view.read (Elt F) f⌝ ∗ (m.view.loc (c : Thread nD τ) ↦[m.view.set]{q} g)) := by
  iintro H
  iexists f
  isplitr; · ipureintro; rfl
  iexact H

/-- A buffer's contents seen through its view. -/
theorem pt_view (b : Bf) (c : Dev nD) (q : PosShare TreeShare) (v : Vec F S256x2048 .f32) :
    (Bf.pt b c q v : sProp 𝕄) ⊢ iprop(∃ f, ⌜b.mem.view.read (Elt F) f = v⌝ ∗ (b.mem.view.loc (c : Thread nD τ) ↦[b.mem.view.set]{q} f)) := by
  have h := whole_view (F := F) b.ref c q
  have h2 := fun f => intro_view (F := F) b.mem c q f
  rcases b with (_ | _) | (_ | _) | ⟨_ | _, _ | _⟩ <;>
    exact (Entails.of_eq (h v)).trans (h2 v)

theorem view_pt (b : Bf) (c : Dev nD) (q : PosShare TreeShare) (f : Buf (Elt F) (b.mem.view.loc (c : Thread nD τ))) :
    (b.mem.view.loc (c : Thread nD τ) ↦[b.mem.view.set]{q} f : sProp 𝕄) ⊢ Bf.pt b c q (b.mem.view.read (Elt F) f) := by
  have h := whole_view (F := F) b.ref c q
  rcases b with (_ | _) | (_ | _) | ⟨_ | _, _ | _⟩ <;>
    exact Entails.of_eq (h f).symm

abbrev rB : Rect S256x2048 := Rect.unit (s := S256x2048) ![0, 0] S256x2048.size inb_S256x2048_S256x2048_0_0

theorem readAt_full (b : Bf) (c : Dev nD) (f : Buf (Elt F) (b.mem.view.loc (c : Thread nD τ))) :
    b.mem.view.readAt (Elt F) rB.toLoadRect f = b.mem.view.read (Elt F) f := by
  rcases b with (_ | _) | (_ | _) | ⟨_ | _, _ | _⟩ <;>
    exact Memref.readAt_unit_zero (Elt F) _ hz2 _ _

theorem write_full (b : Bf) (c : Dev nD) (f : Buf (Elt F) (b.mem.view.loc (c : Thread nD τ))) (w : Vec F S256x2048 .f32) :
    b.mem.view.read (Elt F) ((b.mem.access rB).write (Elt F) f w Finset.univ) = w :=
  (readAt_full b c _).symm.trans (View.read_write_univ (v := b.mem.access rB) f w)

theorem full_set (b : Bf) : b.mem.view.set = Finset.univ := by
  rcases b with (_ | _) | (_ | _) | ⟨_ | _, _ | _⟩ <;> exact View.set_whole _

/-- A whole buffer loaded. -/
theorem e_ld (b : Bf) (c : Dev nD) (q : PosShare TreeShare) (v : Vec F S256x2048 .f32) (Q : Vec F S256x2048 .f32 → sProp 𝕄) :
    (Bf.pt b c q v : sProp 𝕄) ⊢ iprop((Bf.pt b c q v -∗ Q v) -∗ WP c (ldB b) Q) := by
  unfold WP ldB Prog.lift
  iintro H Hk
  ihave H := (pt_view b c q v) $$ H
  icases H with ⟨%f, %hf, H⟩
  iapply (wp_load 𝒱₀ (c : Thread nD τ) none Set.univ (m := b.mem) (r := rB.toLoadRect) (S := b.mem.view.set) (by rw [full_set]; exact Finset.subset_univ _)) $$ H
  iintro H
  rw [wp_ret]; imodintro
  rw [readAt_full b c, hf]
  iapply Hk
  rw [← hf]
  iapply (view_pt b c q f); iexact H

/-- A whole buffer stored. -/
theorem e_st (b : Bf) (c : Dev nD) (v w : Vec F S256x2048 .f32) (Q : PUnit → sProp 𝕄) :
    (Bf.pt b c fullShare v : sProp 𝕄) ⊢ iprop((Bf.pt b c fullShare w -∗ Q ⟨⟩) -∗ WP c (stB b w) Q) := by
  unfold WP stB Prog.lift
  iintro H Hk
  ihave H := (pt_view b c fullShare v) $$ H
  icases H with ⟨%f, %hf, H⟩
  iapply (wp_store 𝒱₀ (c : Thread nD τ) none Set.univ (m := b.mem) (r := rB) (w := w) (Mk := Finset.univ) (f := f) (S := b.mem.view.set) (by rw [full_set]; exact Finset.subset_univ _)) $$ H
  iintro H
  rw [wp_ret]; imodintro
  iapply Hk
  have e := write_full b c f w
  ihave H := (view_pt b c fullShare ((b.mem.access rB).write (Elt F) f w Finset.univ)) $$ H
  rw [e]
  iexact H

/-- A staged operand at some share. -/
def xPt (c : Dev nD) (f : (cc0_stg1_0 : Ref sig .tc).ty.Contents (Elt F)) : sProp 𝕄 :=
  ((c : Thread nD τ).loc cc0_stg1_0) ↦{fullShare} f
def wPt (c : Dev nD) (f : (cc0_stg2_0 : Ref sig .tc).ty.Contents (Elt F)) : sProp 𝕄 :=
  ((c : Thread nD τ).loc cc0_stg2_0) ↦{fullShare} f

abbrev xM : Memref sig .tc .vmem S8192x256 .f32 := Memref.whole cc0_stg1_0
abbrev wM : Memref sig .tc .vmem S256x4096 .f32 := Memref.whole cc0_stg2_0

/-- A product formed into a scratch buffer. -/
theorem e_dot (o) (d : Bool) (b : Bf) (c : Dev nD) (v : Vec F S256x2048 .f32) (x w) (Q : PUnit → sProp 𝕄) :
    iprop(xPt c x ∗ wPt c w ∗ Bf.pt b c fullShare v : sProp 𝕄)
      ⊢ iprop((xPt c x ∗ wPt c w ∗ Bf.pt b c fullShare (dotV (xRows x o) (wHalf w d)) -∗ Q ⟨⟩) -∗ WP c (dotB xM wM o d b) Q) := by
  unfold dotB
  iintro ⟨Hx, Hw, Hb⟩ Hk
  unfold WP
  rw [wp_bind]
  unfold ldX Prog.lift xPt
  iapply (wp_load 𝒱₀ (c : Thread nD τ) none Set.univ (m := xM) (Finset.subset_univ _)) $$ Hx
  iintro Hx
  rw [wp_ret]; imodintro
  rw [wp_bind]
  unfold ldW Prog.lift wPt
  iapply (wp_load 𝒱₀ (c : Thread nD τ) none Set.univ (m := wM) (Finset.subset_univ _)) $$ Hw
  iintro Hw
  rw [wp_ret]; imodintro
  rw [wp_bind]
  iapply (e_ld b c fullShare v) $$ Hb
  iintro Hb
  iapply (e_st b c v) $$ Hb
  iintro Hb
  iapply Hk
  isplitl [Hx]; · iexact Hx
  isplitl [Hw]; · iexact Hw
  iexact Hb

/-- What landed and the local product added into the accumulator. -/
theorem e_add (d p : Bool) (c : Dev nD) (a b v : Vec F S256x2048 .f32) (q q') (Q : PUnit → sProp 𝕄) :
    iprop(Bf.pt (.slot d p) c q a ∗ Bf.pt (.loc d) c q' b ∗ Bf.pt (.acc d) c fullShare v : sProp 𝕄)
      ⊢ iprop((Bf.pt (.slot d p) c q a ∗ Bf.pt (.loc d) c q' b ∗ Bf.pt (.acc d) c fullShare (addV a b) -∗ Q ⟨⟩) -∗ WP c (addB d p) Q) := by
  unfold addB WP
  iintro ⟨Ha, Hb, Hv⟩ Hk
  rw [wp_bind]
  iapply (e_ld (.slot d p) c q a) $$ Ha; iintro Ha
  rw [wp_bind]
  iapply (e_ld (.loc d) c q' b) $$ Hb; iintro Hb
  rw [wp_bind]
  iapply (e_ld (.acc d) c fullShare v) $$ Hv; iintro Hv
  iapply (e_st (.acc d) c v) $$ Hv; iintro Hv
  iapply Hk
  isplitl [Ha]; · iexact Ha
  isplitl [Hb]; · iexact Hb
  iexact Hv

/-- The activation of the accumulator. -/
theorem e_relu (d : Bool) (c : Dev nD) (v : Vec F S256x2048 .f32) (Q : PUnit → sProp 𝕄) :
    (Bf.pt (.acc d) c fullShare v : sProp 𝕄)
      ⊢ iprop((Bf.pt (.acc d) c fullShare (reluV v) -∗ Q ⟨⟩) -∗ WP c (reluB d) Q) := by
  unfold reluB WP
  iintro Hv Hk
  rw [wp_bind]
  iapply (e_ld (.acc d) c fullShare v) $$ Hv; iintro Hv
  rw [wp_bind]
  iapply (e_ld (.acc d) c fullShare v) $$ Hv; iintro Hv
  iapply (e_st (.acc d) c v) $$ Hv; iintro Hv
  iapply Hk; iexact Hv

/-! ## What every device knows -/

instance : Fintype Cl where
  elems := {.bar, .cred true, .cred false, .send true, .send false, .recv true true, .recv true false, .recv false true,
    .recv false false, .store true true, .store true false, .store false true, .store false false}
  complete k := by rcases k with _ | (_ | _) | (_ | _) | ⟨_ | _, _ | _⟩ | ⟨_ | _, _ | _⟩ <;> decide

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F)) (κ : Cl × Dev nD → ℕ) (ιs : Key → ℕ)

/-- The invariants of all cells and slots, and the levels. -/
def ctx : sProp 𝕄 :=
  iprop(bigSep Finset.univ (fun x : Cl × Dev nD => cellInv ER (ringRd X Wt Rf) (κ x) (cell x.1 x.2))
    ∗ bigSep Finset.univ (fun k : Key => slotInv ES (ιs k) k (slotA (F := F) k)) ∗ levAts L lv)

instance ctx_persistent : BI.Persistent (ctx X Wt Rf κ ιs : sProp 𝕄) := by unfold ctx; infer_instance

theorem ctx_cell (k : Cl) (c : Dev nD) : (ctx X Wt Rf κ ιs : sProp 𝕄) ⊢ cellInv ER (ringRd X Wt Rf) (κ (k, c)) (cell k c) := by
  unfold ctx
  exact sep_elim_left.trans (bigSep_elim (i := (k, c)) (Finset.mem_univ _)
    (Φ := fun x : Cl × Dev nD => cellInv ER (ringRd X Wt Rf) (κ x) (cell x.1 x.2)))
theorem ctx_slot (k : Key) : (ctx X Wt Rf κ ιs : sProp 𝕄) ⊢ slotInv ES (ιs k) k (slotA (F := F) k) := by
  unfold ctx
  exact sep_elim_right.trans (sep_elim_left.trans
    (bigSep_elim (i := k) (Finset.mem_univ _) (Φ := fun k : Key => slotInv ES (ιs k) k (slotA (F := F) k))))
theorem ctx_lev : (ctx X Wt Rf κ ιs : sProp 𝕄) ⊢ levAts L lv := by
  unfold ctx
  iintro ⟨-, -, H⟩
  iexact H

/-! ## Transfers to a neighbour -/

theorem send_amount (d p : Bool) : (Bf.slot d p).mem.view.dmaCredit = NN := by
  rcases d <;> rcases p <;> rfl
theorem src_amount (b : Bf) : b.mem.view.dmaCredit = NN := by
  rcases b with (_ | _) | (_ | _) | ⟨_ | _, _ | _⟩ <;> rfl

theorem sent_ok {j : ℕ} (hj : j < 62) (d : Bool) (c : Dev nD) :
    sent X Wt d (jOf (sl j) (cnt (sl j) j)) (pv d (nx d c)) = sent X Wt d j c := by
  rw [jOf_cnt j hj, show pv d (nx d c) = c from pv_nx d c]

theorem mem_duties (k : Cl) (c : Dev nD) (r j : ℕ) (h : j ∈ dutiesC k r) : j ∈ (ringRd X Wt Rf).duties (cell k c) r := by
  rw [duties_eq]; exact h
theorem mem_one {n r : ℕ} (h : r < n) : 0 ∈ (if r < n then ({0} : Finset ℕ) else ∅) := by
  rw [if_pos h]; exact Finset.mem_singleton_self _
theorem to_payload (k : Cl) (c : Dev nD) (r j : ℕ) : (payC X Wt Rf k c r j : sProp 𝕄) ⊢ (ringRd X Wt Rf).payload (cell k c) r j :=
  Entails.of_eq (payload_eq X Wt Rf k c r j).symm

/-- Transfer `j` of direction `d`: the slot is taken, the source share and the dues handed in. -/
theorem e_send (d : Bool) (j : ℕ) (hj : j < 62) (c : Dev nD) (b : Bf) (hb : b = srcB d j) (p : Bool) (hp : p = sl j)
    (O : CellTallies nD τ sig ℕ) (Q : PUnit → sProp 𝕄) :
    iprop(ctx X Wt Rf κ ιs ∗ Bf.pt b c (srcQ j) (sent X Wt d j c)
        ∗ owing c (O + tallyAt (cell (.recv d p) (nx d c)) (2 * j + 2) NN)
        ∗ writeTok ES (nx d c, d, p) (1 + cnt p j) ∗ released ES (nx d c, d, p) (1 + cnt p j)
        ∗ dutyTok ER (cell (.send d) c) j 0 ∗ reached ER (cell (.send d) c) j
        ∗ dutyTok ER (cell (.recv d p) (nx d c)) (cnt p j) 0 ∗ reached ER (cell (.recv d p) (nx d c)) (cnt p j) : sProp 𝕄)
      ⊢ iprop((cred (tallyAt (cell (.send d) c) 0 NN) ∗ owing c O -∗ Q ⟨⟩) -∗ WP c (sendB (fun d => nx d c) d p b) Q) := by
  unfold WP sendB Prog.lift owing
  iintro ⟨#Hctx, Hsrc, ⟨%W, HO⟩, Hw, #Hrel, Ht1, #Hr1, Ht2, #Hr2⟩ Hk
  ihave #Hsl := (ctx_slot X Wt Rf κ ιs (nx d c, d, p)) $$ Hctx
  iapply fupd_wp
  imod (slot_take ES (Set.mem_univ (ιs (nx d c, d, p))) (1 + cnt p j)) $$ [Hw] with HS
  · isplitr; · iexact Hsl
    isplitr; · iexact Hrel
    iexact Hw
  imodintro
  unfold slotA
  icases HS with ⟨%u, HS⟩
  ihave HS := (pt_view (.slot d p) (nx d c) fullShare u) $$ HS
  icases HS with ⟨%fd, -, HS⟩
  ihave Hsrc := (pt_view b c (srcQ j) _) $$ Hsrc
  icases Hsrc with ⟨%fs, %hfs, Hsrc⟩
  iapply (Rounds.wp_send_pointsTo 𝒱₀ ER (ringRd X Wt Rf) (c : Thread nD τ) none (c' := (nx d c : Thread nD τ))
      (κ₁ := κ (.send d, c)) (κ₂ := κ (.recv d p, nx d c)) (r₁ := j) (r₂ := cnt p j) (d₁ := 0) (d₂ := 0) (fs := fs) (fd := fd) (q := srcQ j)
      (src := b.mem) (dst := (Bf.slot d p).mem) (sS := .dma (sendS d)) (sem := .dma (recvS d p))
      (mem_duties X Wt Rf (.send d) c j 0 (mem_one hj))
      (mem_duties X Wt Rf (.recv d p) (nx d c) (cnt p j) 0 (mem_one (hp ▸ cnt_lt j hj)))
      (2 * j + 2) 0 NN (send_amount d p) (amount_eq X Wt Rf (.send d) c j 0) (amount_eq X Wt Rf (.recv d p) (nx d c) (cnt p j) 0)
      O rfl (W := W)
      (by
        refine BI.Entails.trans ?_ (to_payload X Wt Rf (.send d) c j 0)
        simp only [payC]
        rw [← hb, ← hfs]
        exact view_pt b c (srcQ j) fs)
      (by
        refine BI.Entails.trans ?_ (to_payload X Wt Rf (.recv d p) (nx d c) (cnt p j) 0)
        simp only [payC]
        subst hp
        rw [sent_ok X Wt hj d c, ← hfs]
        refine (view_pt (.slot d (sl j)) (nx d c) fullShare _).trans ?_
        rw [View.read_write_univ])) $$ [Hsrc HS HO Ht1 Ht2]
  · isplitr; · iapply (ctx_cell X Wt Rf κ ιs (.send d) c); iexact Hctx
    isplitr; · iapply (ctx_cell X Wt Rf κ ιs (.recv d p) (nx d c)); iexact Hctx
    isplitl [Hsrc]; · iexact Hsrc
    isplitl [HS]; · iexact HS
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hc]; · iexact Hc
  iexists W; iexact HO

/-! ## Waits -/

/-- The payload of a one-duty round. -/
theorem rest_one (k : Cl) (c : Dev nD) (r : ℕ) (h : dutiesC k r = {0}) :
    bigSep ((ringRd X Wt Rf).duties (cell k c) r \ ∅) (fun d => (ringRd X Wt Rf).payload (cell k c) r d) = payC X Wt Rf k c r 0 := by
  rw [duties_eq, h, Finset.sdiff_empty, bigSep_singleton, payload_eq]

theorem expect_one (k : Cl) (c : Dev nD) (r : ℕ) (h : dutiesC k r = {0}) : (ringRd X Wt Rf).expect (cell k c) r = amountC k := by
  rw [expect_eq, h, Finset.card_singleton, Nat.one_mul]

/-- A wait for a whole transfer on one of the device's own cells. -/
theorem e_wait (k : Cl) (q : DmaSem sig) (hq : k.sem = .dma q) (c : Dev nD) (r : ℕ) (h : dutiesC k r = {0}) (hN : amountC k = NN) (i : ℕ)
    (O : CellTallies nD τ sig ℕ) {sp sp' : Space} {src : Memref sig .tc sp S256x2048 .f32} {dst : Memref sig .tc sp' S256x2048 .f32}
    {hsrc : src.view.WordExact} {hdst : dst.view.WordExact} (hdN : dst.view.dmaCredit = NN) (Q : PUnit → sProp 𝕄) :
    iprop(ctx X Wt Rf κ ιs ∗ cred (tallyAt (cell k c) i NN) ∗ owing c O ∗ MayWait (c : Thread nD τ) k.sem i O
        ∗ atPos ER (cell k c) r ∅ 0 : sProp 𝕄)
      ⊢ iprop((owing c O ∗ atPos ER (cell k c) (r + 1) ∅ 0 ∗ reached ER (cell k c) (r + 1) ∗ payC X Wt Rf k c r 0 -∗ Q ⟨⟩)
          -∗ WP c (Prog.lift (.waitDma2 q src dst hsrc hdst)) Q) := by
  unfold WP Prog.lift owing
  iintro ⟨#Hctx, Hc, ⟨%W, HO⟩, HM, Hat⟩ Hk
  have hg : cell k c = ((c : Thread nD τ), SemLoc.dma q) := by rw [cell, hq]
  ihave #HI := (ctx_cell X Wt Rf κ ιs k c) $$ Hctx
  have hex := expect_one X Wt Rf k c r h
  have hre := rest_one X Wt Rf k c r h
  rw [hq]
  rw [hg] at hex hre ⊢
  iapply (Rounds.wp_wait_rest_token 𝒱₀ ER (ringRd X Wt Rf) (c : Thread nD τ) none (κ := κ (k, c))
      (wpE_waitDma2_eq 𝒱₀ (c : Thread nD τ) none Set.univ) (Set.mem_univ _) i (O := O) (W := W) (R := r) (m := 0) (T := ∅)
      (by rw [hex, hN, Nat.zero_add]; exact hdN)) $$ [Hc HO HM Hat]
  · isplitr; · iexact HI
    isplitl [Hc]; · rw [hdN]; iexact Hc
    isplitl [HO]; · iexact HO
    isplitl [HM]; · iexact HM
    iexact Hat
  iintro ⟨HO, Hat, Hr, Hpay⟩
  rw [wp_ret]; imodintro
  iapply Hk
  isplitl [HO]; · iexists _; iexact HO
  isplitl [Hat]; · iexact Hat
  isplitl [Hr]; · iexact Hr
  iapply (Entails.of_eq hre); iexact Hpay

/-! ## Stores into the result -/

/-- The result's block as the stores leave it. -/
def ResOk : Prop := ∀ (d : Bool) (u : ℕ) (c : Dev nD), u < 32 →
  (oMem ((offs c).o d u)).view.read (Elt F) Rf = gat X Wt d u c

/-- A store of a chunk into the result, started. -/
theorem e_put (hR : ResOk X Wt Rf) (d : Bool) (u : ℕ) (hu : u < 32) (c : Dev nD) (b : Bf) (hb : b = putSrc d u) (p : Bool) (hp : p = stP u)
    (f : (main_v24 : Ref sig .tc).ty.Contents (Elt F)) (Q : PUnit → sProp 𝕄) :
    iprop(ctx X Wt Rf κ ιs ∗ Bf.pt b c (putQ u) (gat X Wt d u c) ∗ oPt d u c f
        ∗ dutyTok ER (cell (.store d p) c) (stR u) 0 ∗ reached ER (cell (.store d p) c) (stR u) : sProp 𝕄)
      ⊢ iprop((cred (tallyAt (cell (.store d p) c) 0 NN) -∗ Q ⟨⟩) -∗ WP c (putB (offs c) d p b u) Q) := by
  unfold WP putB Prog.lift oPt
  iintro ⟨#Hctx, Hsrc, Ho, Ht, #Hr⟩ Hk
  ihave Hsrc := (pt_view b c (putQ u) _) $$ Hsrc
  icases Hsrc with ⟨%fs, %hfs, Hsrc⟩
  iapply (Rounds.wp_copy_pointsTo 𝒱₀ ER (ringRd X Wt Rf) (c : Thread nD τ) none
      (κ := κ (.store d p, c)) (r := stR u) (d := 0) (fs := fs) (fd := f) (q := putQ u)
      (src := b.mem) (dst := oMem ((offs c).o d u)) (sem := .dma (storeS d p))
      (mem_duties X Wt Rf (.store d p) c (stR u) 0 (mem_one (hp ▸ stR_lt u hu)))
      0 NN rfl (amount_eq X Wt Rf (.store d p) c (stR u) 0)
      (by
        refine BI.Entails.trans ?_ (to_payload X Wt Rf (.store d p) c (stR u) 0)
        simp only [payC]
        subst hp
        rw [uOf_st u hu, ← hb, ← hfs]
        refine BI.sep_mono ?_ (view_pt b c (putQ u) fs)
        rw [hfs, ← hR d u c hu]
        unfold oPt
        refine Entails.of_eq (pointsTo_congr fun i hi => ?_)
        exact (congrFun (View.write_read_eq_piecewise (v := (oMem ((offs c).o d u)).view) f Rf Finset.univ) i).trans
          (Finset.piecewise_eq_of_mem _ _ _ (by rw [View.setOn_univ]; exact hi)))) $$ [Hsrc Ho Ht]
  · isplitr; · iapply (ctx_cell X Wt Rf κ ιs (.store d p) c); iexact Hctx
    isplitl [Hsrc]; · iexact Hsrc
    isplitl [Ho]; · iexact Ho
    isplitl [Ht]; · iexact Ht
    iexact Hr
  iintro Hc
  rw [wp_ret]; imodintro
  iapply Hk; iexact Hc

/-! ## Credits and the handshake -/

theorem pay_cred (d : Bool) (k : ℕ) (c : Dev nD) :
    (slotsKnown d c (freed k) : sProp 𝕄) ⊢ (ringRd X Wt Rf).payload ((pv d c : Thread nD τ), SemLoc.reg (credS d)) 0 k := by
  refine (Entails.of_eq ?_).trans (to_payload X Wt Rf (.cred d) (pv d c) 0 k)
  simp only [payC]
  rw [show nx d (pv d c) = c from nx_pv d c]

theorem pay_bar (d : Bool) (c : Dev nD) :
    (iprop(slotsKnown d c 0 ∗ reached ER (cell (.cred (!d)) c) 0) : sProp 𝕄)
      ⊢ (ringRd X Wt Rf).payload ((pv d c : Thread nD τ), SemLoc.reg barrier0) 0 (dutyOf d) := by
  refine (Entails.of_eq ?_).trans (to_payload X Wt Rf .bar (pv d c) 0 (dutyOf d))
  simp only [payC]
  rw [show dirOf (dutyOf d) = d by cases d <;> rfl, show nx d (pv d c) = c from nx_pv d c]

theorem duties_cred (d : Bool) : dutiesC (.cred d) 0 = Finset.range 60 := by rw [dutiesC, if_pos rfl]
theorem duties_bar : dutiesC .bar 0 = {0, 1} := by rw [dutiesC, if_pos rfl]

/-- A credit paid to the device that sends to this one. -/
theorem e_sig (d : Bool) (k : ℕ) (hk60 : k < 60) (c : Dev nD) (O : CellTallies nD τ sig ℕ) (Q : PUnit → sProp 𝕄) :
    iprop(ctx X Wt Rf κ ιs ∗ owing c (O + tallyAt (cell (.cred d) (pv d c)) (ci k) 1)
        ∗ dutyTok ER (cell (.cred d) (pv d c)) 0 k ∗ slotsKnown d c (freed k)
        ∗ reached ER (cell (.cred d) (pv d c)) 0 : sProp 𝕄)
      ⊢ iprop((owing c O -∗ Q ⟨⟩) -∗ WP c (sigCred (fun d => nx d c) d) Q) := by
  unfold WP sigCred semSignalWord owing
  iintro ⟨#Hctx, ⟨%W, HO⟩, Ht, Hp, #Hr⟩ Hk
  iapply (Rounds.wp_signal 𝒱₀ ER (ringRd X Wt Rf) (c : Thread nD τ) none (dst := (pv d c : Thread nD τ)) (sem := credS d)
      (κ := κ (.cred d, pv d c)) (r := 0) (d := k) (k' := 1)
      (mem_duties X Wt Rf (.cred d) (pv d c) 0 k (by rw [duties_cred]; exact Finset.mem_range.mpr hk60))
      (amount_eq X Wt Rf (.cred d) (pv d c) 0 k) (ci k) O rfl (W := W)) $$ [HO Ht Hp]
  · isplitr; · iapply (ctx_cell X Wt Rf κ ιs (.cred d) (pv d c)); iexact Hctx
    isplitl [HO]; · iexact HO
    isplitl [Ht]; · iexact Ht
    isplitl [Hp]
    · iapply (pay_cred X Wt Rf d k c); iexact Hp
    iexact Hr
  iintro HO
  rw [wp_ret]; imodintro
  iapply Hk; iexists W; iexact HO

/-- What the taken credits of a direction hand over grows with their number. -/
theorem known_mono (d : Bool) (y : Dev nD) {n n' : ℕ} (h : n ≤ n') : (slotsKnown d y n' : sProp 𝕄) ⊢ slotsKnown d y n := by
  unfold slotsKnown
  exact BI.sep_mono (BI.sep_mono (released_mono ES (by have := cnt_mono false h; omega)) (reached_mono ER (cnt_mono false h)))
    (BI.sep_mono (released_mono ES (by have := cnt_mono true h; omega)) (reached_mono ER (cnt_mono true h)))

instance known_persistent (d : Bool) (y : Dev nD) (n : ℕ) : BI.Persistent (slotsKnown d y n : sProp 𝕄) := by
  unfold slotsKnown; infer_instance

/-- The credits of a direction, `n` of them taken: the position and what they handed over. -/
def credPos (d : Bool) (c : Dev nD) (n : ℕ) : sProp 𝕄 :=
  iprop(∃ S : Finset ℕ, ⌜S ⊆ Finset.range 60 ∧ n ≤ S.card⌝ ∗ atPos ER (cell (.cred d) c) 0 S n ∗ bigSep S (fun k => slotsKnown d (nx d c) (freed k)))

/-- One more credit taken: the neighbour's slots are free for transfer `n + 2`. -/
theorem e_cred (d : Bool) (n : ℕ) (hn : n < 60) (c : Dev nD) (O : CellTallies nD τ sig ℕ) (Q : PUnit → sProp 𝕄) :
    iprop(ctx X Wt Rf κ ιs ∗ cred (tallyAt (cell (.cred d) c) (ci n) 1) ∗ owing c O
        ∗ MayWait (c : Thread nD τ) (Cl.cred d).sem (ci n) O ∗ credPos d c n : sProp 𝕄)
      ⊢ iprop((owing c O ∗ credPos d c (n + 1) ∗ slotsKnown d (nx d c) (freed n) -∗ Q ⟨⟩) -∗ WP c (waitCred d) Q) := by
  unfold WP waitCred semWaitWord owing credPos
  iintro ⟨#Hctx, Hc, ⟨%W, HO⟩, HM, ⟨%T, %hT, Hat, #HT⟩⟩ Hk
  iapply (Rounds.wp_wait 𝒱₀ ER (ringRd X Wt Rf) (c : Thread nD τ) none (κ := κ (.cred d, c)) (k' := 1)
      (wpE_semWait_eq 𝒱₀ (c : Thread nD τ) none Set.univ) (Set.mem_univ _) (cr := Finsupp.single (ci n) 1) (O := O) (W := W)
      {((Cl.cred d).sem, ci n)} (R := 0) (m := n) (T := T)
      (by rw [Util.total_single]) (image_single_subset _ _ _)) $$ [Hc HO HM Hat]
  · isplitr; · iapply (ctx_cell X Wt Rf κ ιs (.cred d) c); iexact Hctx
    isplitl [Hc]; · iexact Hc
    isplitl [HO]; · iexact HO
    isplitl [HM]; · iexact HM
    iexact Hat
  iintro %S ⟨%hS, HO, Hat, HS⟩
  rw [wp_ret]; imodintro
  have hd : (ringRd (F := F) X Wt Rf).duties ((c : Thread nD τ), SemLoc.reg (credS d)) 0 = Finset.range 60 :=
    (duties_eq X Wt Rf (.cred d) c 0).trans (duties_cred d)
  have he : (ringRd (F := F) X Wt Rf).expect ((c : Thread nD τ), SemLoc.reg (credS d)) 0 = 60 := by
    have h := expect_eq X Wt Rf (.cred d) c 0
    rw [duties_cred, Finset.card_range] at h
    exact h
  rw [hd, he] at hS
  have hcard : n + 1 ≤ S.card := by
    have h1 := Finset.card_sdiff_add_card_eq_card hS.2.1
    rw [Finset.card_range] at h1
    omega
  obtain ⟨k, hkS, hkn⟩ : ∃ k ∈ S, n ≤ k := by
    by_contra hh
    push Not at hh
    have : S ⊆ Finset.range n := fun x hx => Finset.mem_range.mpr (hh x hx)
    have := Finset.card_le_card this
    rw [Finset.card_range] at this
    omega
  have hpay : bigSep (S \ T) (fun k => (ringRd (F := F) X Wt Rf).payload ((c : Thread nD τ), SemLoc.reg (credS d)) 0 k)
      = bigSep (S \ T) (fun k => slotsKnown d (nx d c) (freed k)) :=
    bigSep_congr fun k _ => payload_eq X Wt Rf (.cred d) c 0 k
  have hall : bigSep S (fun k => (slotsKnown d (nx d c) (freed k) : sProp 𝕄))
      = iprop(bigSep T (fun k => slotsKnown d (nx d c) (freed k)) ∗ bigSep (S \ T) (fun k => slotsKnown d (nx d c) (freed k))) :=
    bigSep_sdiff_split hS.1
  ihave #HS := (Entails.of_eq hpay) $$ HS
  ihave #Hall := (Entails.of_eq hall.symm) $$ [HT HS]
  · isplitr; · iexact HT
    iexact HS
  iapply Hk
  isplitl [HO]; · iexists _; iexact HO
  isplitl [Hat]
  · iexists S
    isplitr; · ipureintro; exact ⟨hS.2.1, hcard⟩
    isplitl [Hat]; · iexact Hat
    iexact Hall
  iapply (known_mono d (nx d c) (freed_mono hkn))
  iapply (show (bigSep S (fun k => (slotsKnown d (nx d c) (freed k) : sProp 𝕄)) : sProp 𝕄) ⊢ slotsKnown d (nx d c) (freed k) from
    bigSep_elim hkS)
  iexact Hall

/-- A landing slot given back by its reader. -/
theorem slot_excl (k : Key) : iprop(slotA k ∗ slotA k) ⊢ (False : sProp 𝕄) := by
  obtain ⟨c, d, p⟩ := k
  unfold slotA
  iintro ⟨⟨%v, H1⟩, ⟨%w, H2⟩⟩
  have h : ∀ r : Ref sig .tc, (∀ a, 0 < r.ty.shape.size a) → ∀ f g : Buf (Elt F) ((c : Thread nD τ).loc r),
      (iprop((((c : Thread nD τ).loc r) ↦{fullShare} f) ∗ (((c : Thread nD τ).loc r) ↦{fullShare} g)) ⊢ (False : sProp 𝕄)) :=
    fun r hr f g => pointsTo_overlap_false (ℓ := (c : Thread nD τ).loc r) (i := fun a => ⟨0, hr a⟩) (Finset.mem_univ _) (Finset.mem_univ _)
  iapply (show iprop(Bf.pt (.slot d p) c fullShare v ∗ Bf.pt (.slot d p) c fullShare w) ⊢ (False : sProp 𝕄) from by
    rcases d <;> rcases p
    · exact h cc0_scratch6 (fun a => by fin_cases a <;> decide) v w
    · exact h cc0_scratch7 (fun a => by fin_cases a <;> decide) v w
    · exact h cc0_scratch2 (fun a => by fin_cases a <;> decide) v w
    · exact h cc0_scratch3 (fun a => by fin_cases a <;> decide) v w)
  isplitl [H1]; · iexact H1
  iexact H2

theorem e_release (d p : Bool) (c : Dev nD) (v : Vec F S256x2048 .f32) (n : ℕ) :
    iprop(ctx X Wt Rf κ ιs ∗ readerAt ES (c, d, p) n ∗ Bf.pt (.slot d p) c fullShare v : sProp 𝕄)
      ⊢ iprop(|={Set.univ}=> (readerAt ES (c, d, p) (n + 1) ∗ released ES (c, d, p) (n + 1))) := by
  iintro ⟨#Hctx, Hr, Hp⟩
  iapply (slot_release ES (Set.mem_univ (ιs (c, d, p))) (slot_excl (c, d, p)) n)
  isplitr; · iapply (ctx_slot X Wt Rf κ ιs (c, d, p)); iexact Hctx
  isplitl [Hr]; · iexact Hr
  unfold slotA; iexists v; iexact Hp

/-- A signal of the handshake, with which the device tells its neighbour that its slots are there. -/
theorem e_bar (d : Bool) (c : Dev nD) (O : CellTallies nD τ sig ℕ) (Q : PUnit → sProp 𝕄) :
    iprop(ctx X Wt Rf κ ιs ∗ owing c (O + tallyAt (cell .bar (pv d c)) 1 1)
        ∗ dutyTok ER (cell .bar (pv d c)) 0 (dutyOf d) ∗ slotsKnown d c 0 ∗ reached ER (cell (.cred (!d)) c) 0
        ∗ reached ER (cell .bar (pv d c)) 0 : sProp 𝕄)
      ⊢ iprop((owing c O -∗ Q ⟨⟩) -∗ WP c (semSignalWord (pv d c) barrier0 1#32) Q) := by
  unfold WP semSignalWord owing
  iintro ⟨#Hctx, ⟨%W, HO⟩, Ht, Hp, Hp2, #Hr⟩ Hk
  iapply (Rounds.wp_signal 𝒱₀ ER (ringRd X Wt Rf) (c : Thread nD τ) none (dst := (pv d c : Thread nD τ)) (sem := barrier0)
      (κ := κ (.bar, pv d c)) (r := 0) (d := dutyOf d) (k' := 1)
      (mem_duties X Wt Rf .bar (pv d c) 0 (dutyOf d) (by cases d <;> decide))
      (amount_eq X Wt Rf .bar (pv d c) 0 (dutyOf d)) 1 O rfl (W := W)) $$ [HO Ht Hp Hp2]
  · isplitr; · iapply (ctx_cell X Wt Rf κ ιs .bar (pv d c)); iexact Hctx
    isplitl [HO]; · iexact HO
    isplitl [Ht]; · iexact Ht
    isplitl [Hp Hp2]
    · iapply (pay_bar X Wt Rf d c)
      isplitl [Hp]; · iexact Hp
      iexact Hp2
    iexact Hr
  iintro HO
  rw [wp_ret]; imodintro
  iapply Hk; iexists W; iexact HO

/-- The handshake's wait. -/
theorem e_barwait (c : Dev nD) (O : CellTallies nD τ sig ℕ) (Q : PUnit → sProp 𝕄) :
    iprop(ctx X Wt Rf κ ιs ∗ cred (tallyAt (cell .bar c) 1 2) ∗ owing c O
        ∗ MayWait (c : Thread nD τ) Cl.bar.sem 1 O ∗ atPos ER (cell .bar c) 0 ∅ 0 : sProp 𝕄)
      ⊢ iprop((owing c O ∗ atPos ER (cell .bar c) 1 ∅ 0
            ∗ (slotsKnown false (nx false c) 0 ∗ reached ER (cell (.cred true) (nx false c)) 0)
            ∗ (slotsKnown true (nx true c) 0 ∗ reached ER (cell (.cred false) (nx true c)) 0) -∗ Q ⟨⟩)
          -∗ WP c (semWaitWord barrier0 2#32) Q) := by
  unfold WP semWaitWord owing
  iintro ⟨#Hctx, Hc, ⟨%W, HO⟩, HM, Hat⟩ Hk
  have hd := duties_bar
  iapply (Rounds.wp_wait_rest_token 𝒱₀ ER (ringRd X Wt Rf) (c : Thread nD τ) none (κ := κ (.bar, c)) (k' := 2)
      (wpE_semWait_eq 𝒱₀ (c : Thread nD τ) none Set.univ) (Set.mem_univ _) 1 (O := O) (W := W) (R := 0) (m := 0) (T := ∅)
      (by refine Eq.trans ?_ (expect_eq X Wt Rf .bar c 0).symm; rw [hd]; rfl)) $$ [Hc HO HM Hat]
  · isplitr; · iapply (ctx_cell X Wt Rf κ ιs .bar c); iexact Hctx
    isplitl [Hc]; · iexact Hc
    isplitl [HO]; · iexact HO
    isplitl [HM]; · iexact HM
    iexact Hat
  iintro ⟨HO, Hat, -, Hpay⟩
  have hpay : bigSep ((ringRd (F := F) X Wt Rf).duties ((c : Thread nD τ), SemLoc.reg barrier0) 0 \ ∅)
        (fun k => (ringRd (F := F) X Wt Rf).payload ((c : Thread nD τ), SemLoc.reg barrier0) 0 k)
      = iprop(payC X Wt Rf .bar c 0 0 ∗ payC X Wt Rf .bar c 0 1) := by
    rw [show (ringRd (F := F) X Wt Rf).duties ((c : Thread nD τ), SemLoc.reg barrier0) 0 = {0, 1} from
      (duties_eq X Wt Rf .bar c 0).trans hd, Finset.sdiff_empty, bigSep_insert (by decide), bigSep_singleton]
    rw [show (ringRd (F := F) X Wt Rf).payload ((c : Thread nD τ), SemLoc.reg barrier0) 0 0 = payC X Wt Rf .bar c 0 0 from
        payload_eq X Wt Rf .bar c 0 0,
      show (ringRd (F := F) X Wt Rf).payload ((c : Thread nD τ), SemLoc.reg barrier0) 0 1 = payC X Wt Rf .bar c 0 1 from
        payload_eq X Wt Rf .bar c 0 1]
    rfl
  ihave Hpay := (Entails.of_eq hpay) $$ Hpay
  rw [wp_ret]; imodintro
  iapply Hk
  isplitl [HO]; · iexists _; iexact HO
  isplitl [Hat]; · iexact Hat
  iexact Hpay

end Cert.KernelIdeal.Proto

end

end
-- ==== Proof.Stage.lean ====
/-
# One direction's resources, and the rules on them

What a device holds for one direction of the ring is kept in one assertion, indexed by how far each of its counters has
come; the rules of the effects are restated on it.
-/
module

public import proofs.«01_k».proof.Proof.Effects
public import Idealize.SL.BI.BigOpNat

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

/-! ## The parts -/

/-- The tokens of the transfers from `a` on. -/
def Tok (d : Bool) (c : Dev nD) (a : ℕ) : sProp 𝕄 :=
  bigSep (Finset.Ico a 62) fun j => iprop(writeTok ES (nx d c, d, sl j) (1 + cnt (sl j) j)
    ∗ dutyTok ER (cell (.send d) c) j 0 ∗ dutyTok ER (cell (.recv d (sl j)) (nx d c)) (cnt (sl j) j) 0)
/-- The position of the send cell. -/
def SendPos (d : Bool) (c : Dev nD) (s : ℕ) : sProp 𝕄 :=
  iprop(atPos ER (cell (.send d) c) s ∅ 0 ∗ reached ER (cell (.send d) c) s)
/-- The credits of the landings from `r` on, and the positions of the receive cells. -/
def RecvPos (d : Bool) (c : Dev nD) (r : ℕ) : sProp 𝕄 :=
  iprop((bigSep (Finset.Ico r 62) fun j => cred (tallyAt (cell (.recv d (sl j)) c) (2 * j + 2) NN))
    ∗ (atPos ER (cell (.recv d false) c) (cnt false r) ∅ 0 ∗ reached ER (cell (.recv d false) c) (cnt false r))
    ∗ (atPos ER (cell (.recv d true) c) (cnt true r) ∅ 0 ∗ reached ER (cell (.recv d true) c) (cnt true r)))
/-- How far the device has released its slots. -/
def ReadPos (d : Bool) (c : Dev nD) (n : ℕ) : sProp 𝕄 :=
  iprop((readerAt ES (c, d, false) (1 + cnt false n) ∗ released ES (c, d, false) (1 + cnt false n))
    ∗ (readerAt ES (c, d, true) (1 + cnt true n) ∗ released ES (c, d, true) (1 + cnt true n)))
/-- The tokens of the credits it pays from `b` on. -/
def Ctok (d : Bool) (c : Dev nD) (b : ℕ) : sProp 𝕄 :=
  iprop((bigSep (Finset.Ico b 60) fun k => dutyTok ER (cell (.cred d) (pv d c)) 0 k) ∗ reached ER (cell (.cred d) (pv d c)) 0)
/-- The credits it is paid from `n` on, and the position of their cell. -/
def Ccr (d : Bool) (c : Dev nD) (n : ℕ) : sProp 𝕄 :=
  iprop((bigSep (Finset.Ico n 60) fun k => cred (tallyAt (cell (.cred d) c) (ci k) 1)) ∗ credPos d c n)

/-- Everything of a direction: transfers started, sends waited for, landings taken in, slots released, credits paid and
credits taken. -/
def Core (d : Bool) (c : Dev nD) (a s r n b m : ℕ) : sProp 𝕄 :=
  iprop(Tok d c a ∗ SendPos d c s ∗ RecvPos d c r ∗ ReadPos d c n ∗ Ctok d c b ∗ Ccr d c m)

/-- How many of the first `u` stores go to cell `p`. -/
def scnt (p : Bool) : ℕ → ℕ
  | 0 => 0
  | u + 1 => scnt p u + if stP u = p then 1 else 0

theorem stR_scnt : ∀ u, u < 32 → scnt (stP u) u = stR u := by decide +kernel
theorem scnt_end (p : Bool) : scnt p 32 = nStore p := by revert p; decide +kernel
theorem scnt_skip : ∀ t, t < 31 → 1 ≤ t → scnt (stP (t + 1)) t = stR (t + 1) := by decide +kernel

/-- The tokens of the stores from `u` on, with the blocks they go to. -/
def Stok (d : Bool) (c : Dev nD) (u : ℕ) : sProp 𝕄 :=
  bigSep (Finset.Ico u 32) fun u => iprop(dutyTok ER (cell (.store d (stP u)) c) (stR u) 0 ∗ ∃ f, oPt d u c f)
/-- The positions of the store cells. -/
def StorePos (d : Bool) (c : Dev nD) (w : ℕ) : sProp 𝕄 :=
  iprop((atPos ER (cell (.store d false) c) (scnt false w) ∅ 0 ∗ reached ER (cell (.store d false) c) (scnt false w))
    ∗ (atPos ER (cell (.store d true) c) (scnt true w) ∅ 0 ∗ reached ER (cell (.store d true) c) (scnt true w)))
/-- The blocks stored so far. -/
def Sdone (Rf : (main_v24 : Ref sig .tc).ty.Contents (Elt F)) (d : Bool) (c : Dev nD) (w : ℕ) : sProp 𝕄 :=
  bigSep (Finset.range w) fun u => oPt d u c Rf

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F)) (κ : Cl × Dev nD → ℕ) (ιs : Key → ℕ)

/-! ## The rules -/

theorem o_amount (o) : (oMem o).view.dmaCredit = NN := rfl

/-- A transfer started. -/
theorem c_send (d : Bool) (a : ℕ) (ha : a < 62) (c : Dev nD) {r n b m : ℕ} (k : ℕ) (hk : cnt (sl a) a ≤ cnt (sl a) k)
    (B : Bf) (hB : B = srcB d a) (p : Bool) (hp : p = sl a) (q) (hq : q = srcQ a) (v : Vec F S256x2048 .f32) (hv : v = sent X Wt d a c)
    (O O' : CellTallies nD τ sig ℕ) (hO : O = O' + tallyAt (cell (.recv d (sl a)) (nx d c)) (2 * a + 2) NN) (Q : PUnit → sProp 𝕄) :
    iprop(ctx X Wt Rf κ ιs ∗ Core d c a a r n b m ∗ slotsKnown d (nx d c) k ∗ Bf.pt B c q v ∗ owing c O : sProp 𝕄)
      ⊢ iprop((Core d c (a + 1) a r n b m ∗ cred (tallyAt (cell (.send d) c) 0 NN) ∗ owing c O' -∗ Q ⟨⟩)
          -∗ WP c (sendB (fun d => nx d c) d p B) Q) := by
  have hkn : (slotsKnown d (nx d c) k : sProp 𝕄) ⊢ iprop(released ES (nx d c, d, sl a) (1 + cnt (sl a) a)
      ∗ reached ER (cell (.recv d (sl a)) (nx d c)) (cnt (sl a) a)) := by
    have h : (slotsKnown d (nx d c) k : sProp 𝕄) ⊢ iprop(released ES (nx d c, d, sl a) (1 + cnt (sl a) k)
      ∗ reached ER (cell (.recv d (sl a)) (nx d c)) (cnt (sl a) k)) := by
      unfold slotsKnown
      rcases sl a
      · exact sep_elim_left
      · exact sep_elim_right
    exact h.trans (BI.sep_mono (released_mono ES (by omega)) (reached_mono ER hk))
  subst hp hq hv hO
  unfold Core Tok SendPos
  rw [bigSep_Ico_succ_bot ha]
  iintro ⟨#Hctx, ⟨⟨⟨Hw, Ht1, Ht2⟩, HT⟩, ⟨Hat, #Hr1⟩, HR⟩, Hkn, Hsrc, HO⟩ Hk
  ihave Hkn := hkn $$ Hkn
  icases Hkn with ⟨#Hrel, #Hr2⟩
  iapply (e_send X Wt Rf κ ιs d a ha c B hB (sl a) rfl O' Q) $$ [Hsrc HO Hw Ht1 Ht2]
  · isplitr; · iexact Hctx
    isplitl [Hsrc]; · iexact Hsrc
    isplitl [HO]; · iexact HO
    isplitl [Hw]; · iexact Hw
    isplitr; · iexact Hrel
    isplitl [Ht1]; · iexact Ht1
    isplitr; · iexact Hr1
    isplitl [Ht2]; · iexact Ht2
    iexact Hr2
  iintro ⟨Hc, HO⟩
  iapply Hk
  isplitl [HT Hat HR]
  · isplitl [HT]; · iexact HT
    isplitl [Hat]
    · isplitl [Hat]; · iexact Hat
      iexact Hr1
    iexact HR
  isplitl [Hc]; · iexact Hc
  iexact HO

/-- A send waited for. -/
theorem c_waitSend (d : Bool) (s : ℕ) (hs : s < 62) (c : Dev nD) {a r n b m : ℕ}
    (B : Bf) (hB : B = srcB d s) (p : Bool) (q) (hq : q = srcQ s) (v : Vec F S256x2048 .f32) (hv : v = sent X Wt d s c)
    (O : CellTallies nD τ sig ℕ) (hm : (levAts L lv : sProp 𝕄) ⊢ MayWait (c : Thread nD τ) (Cl.send d).sem 0 O) (Q : PUnit → sProp 𝕄) :
    iprop(ctx X Wt Rf κ ιs ∗ Core d c a s r n b m ∗ cred (tallyAt (cell (.send d) c) 0 NN) ∗ owing c O : sProp 𝕄)
      ⊢ iprop((Core d c a (s + 1) r n b m ∗ Bf.pt B c q v ∗ owing c O -∗ Q ⟨⟩) -∗ WP c (waitSend d p B) Q) := by
  subst hq hv
  unfold Core SendPos
  iintro ⟨#Hctx, ⟨HT, ⟨Hat, #Hr1⟩, HR⟩, Hc, HO⟩ Hk
  ihave HM := ((ctx_lev X Wt Rf κ ιs).trans hm) $$ Hctx
  unfold waitSend
  iapply (e_wait X Wt Rf κ ιs (.send d) (sendS d) rfl c s (if_pos hs) rfl 0 O (src_amount B) Q) $$ [Hat Hc HO HM]
  · isplitr; · iexact Hctx
    isplitl [Hc]; · iexact Hc
    isplitl [HO]; · iexact HO
    isplitl [HM]; · iexact HM
    iexact Hat
  iintro ⟨HO, Hat, Hr, Hp⟩
  iapply Hk
  isplitl [HT Hat Hr HR]
  · isplitl [HT]; · iexact HT
    isplitl [Hat Hr]
    · isplitl [Hat]; · iexact Hat
      iexact Hr
    iexact HR
  isplitl [Hp]
  · simp only [payC]
    rw [hB]; iexact Hp
  iexact HO

/-- Of two counted families, the one that moves. -/
theorem two_pick (A : Bool → ℕ → sProp 𝕄) (f : Bool → ℕ → ℕ) (s : ℕ → Bool) (hf : ∀ p n, f p (n + 1) = f p n + if s n = p then 1 else 0)
    (n : ℕ) : iprop(A false (f false n) ∗ A true (f true n))
      ⊢ iprop(A (s n) (f (s n) n) ∗ (A (s n) (f (s n) n + 1) -∗ (A false (f false (n + 1)) ∗ A true (f true (n + 1))))) := by
  rw [hf false n, hf true n]
  rcases s n
  · rw [if_pos rfl, if_neg (by decide), Nat.add_zero]
    iintro ⟨H1, H2⟩
    isplitl [H1]; · iexact H1
    iintro H1
    isplitl [H1]; · iexact H1
    iexact H2
  · rw [if_neg (by decide), if_pos rfl, Nat.add_zero]
    iintro ⟨H1, H2⟩
    isplitl [H2]; · iexact H2
    iintro H2
    isplitl [H1]; · iexact H1
    iexact H2

/-- A landing waited for. -/
theorem c_waitRecv (d : Bool) (r : ℕ) (hr : r < 62) (c : Dev nD) {a s n b m : ℕ}
    (B : Bf) (p : Bool) (hp : p = sl r) (v : Vec F S256x2048 .f32) (hv : v = sent X Wt d r (pv d c))
    (O : CellTallies nD τ sig ℕ) (hm : (levAts L lv : sProp 𝕄) ⊢ MayWait (c : Thread nD τ) (Cl.recv d p).sem (2 * r + 2) O) (Q : PUnit → sProp 𝕄) :
    iprop(ctx X Wt Rf κ ιs ∗ Core d c a s r n b m ∗ owing c O : sProp 𝕄)
      ⊢ iprop((Core d c a s (r + 1) n b m ∗ Bf.pt (.slot d p) c fullShare v ∗ owing c O -∗ Q ⟨⟩) -∗ WP c (waitRecv d p B) Q) := by
  subst hp hv
  have hpk := two_pick (F := F) (fun p k => iprop(atPos ER (cell (.recv d p) c) k ∅ 0 ∗ reached ER (cell (.recv d p) c) k)) cnt sl
    (fun _ _ => rfl) r
  unfold Core RecvPos
  rw [bigSep_Ico_succ_bot hr]
  iintro ⟨#Hctx, ⟨HT, HS, ⟨⟨Hc, HC⟩, HP⟩, HR⟩, HO⟩ Hk
  ihave HM := ((ctx_lev X Wt Rf κ ιs).trans hm) $$ Hctx
  ihave HP := hpk $$ HP
  icases HP with ⟨⟨Hat, -⟩, HP⟩
  unfold waitRecv
  iapply (e_wait X Wt Rf κ ιs (.recv d (sl r)) (recvS d (sl r)) rfl c (cnt (sl r) r) (if_pos (cnt_lt r hr)) rfl (2 * r + 2) O (send_amount d (sl r)) Q) $$ [Hat Hc HO HM]
  · isplitr; · iexact Hctx
    isplitl [Hc]; · iexact Hc
    isplitl [HO]; · iexact HO
    isplitl [HM]; · iexact HM
    iexact Hat
  iintro ⟨HO, Hat, Hr, Hp⟩
  iapply Hk
  isplitl [HT HS HC HP Hat Hr HR]
  · isplitl [HT]; · iexact HT
    isplitl [HS]; · iexact HS
    isplitl [HC HP Hat Hr]
    · isplitl [HC]; · iexact HC
      iapply HP
      isplitl [Hat]; · iexact Hat
      iexact Hr
    iexact HR
  isplitl [Hp]
  · simp only [payC]
    rw [jOf_cnt r hr]; iexact Hp
  iexact HO

/-- A credit taken. -/
theorem c_cred (d : Bool) (m : ℕ) (hm : m < 60) (c : Dev nD) {a s r n b : ℕ}
    (O : CellTallies nD τ sig ℕ) (hM : (levAts L lv : sProp 𝕄) ⊢ MayWait (c : Thread nD τ) (Cl.cred d).sem (ci m) O) (Q : PUnit → sProp 𝕄) :
    iprop(ctx X Wt Rf κ ιs ∗ Core d c a s r n b m ∗ owing c O : sProp 𝕄)
      ⊢ iprop((Core d c a s r n b (m + 1) ∗ slotsKnown d (nx d c) (freed m) ∗ owing c O -∗ Q ⟨⟩) -∗ WP c (waitCred d) Q) := by
  unfold Core Ccr
  rw [bigSep_Ico_succ_bot hm]
  iintro ⟨#Hctx, ⟨HT, HS, HR, HN, HB, ⟨Hc, HC⟩, HP⟩, HO⟩ Hk
  ihave HM := ((ctx_lev X Wt Rf κ ιs).trans hM) $$ Hctx
  iapply (e_cred X Wt Rf κ ιs d m hm c O Q) $$ [Hc HO HM HP]
  · isplitr; · iexact Hctx
    isplitl [Hc]; · iexact Hc
    isplitl [HO]; · iexact HO
    isplitl [HM]; · iexact HM
    iexact HP
  iintro ⟨HO, HP, HK⟩
  iapply Hk
  isplitl [HT HS HR HN HB HC HP]
  · isplitl [HT]; · iexact HT
    isplitl [HS]; · iexact HS
    isplitl [HR]; · iexact HR
    isplitl [HN]; · iexact HN
    isplitl [HB]; · iexact HB
    isplitl [HC]; · iexact HC
    iexact HP
  isplitl [HK]; · iexact HK
  iexact HO

/-- A credit paid. -/
theorem c_sig (d : Bool) (b : ℕ) (hb : b < 60) (c : Dev nD) {a s r n m : ℕ} (hr : freed b ≤ r) (hn : freed b ≤ n)
    (O O' : CellTallies nD τ sig ℕ) (hO : O = O' + tallyAt (cell (.cred d) (pv d c)) (ci b) 1) (Q : PUnit → sProp 𝕄) :
    iprop(ctx X Wt Rf κ ιs ∗ Core d c a s r n b m ∗ owing c O : sProp 𝕄)
      ⊢ iprop((Core d c a s r n (b + 1) m ∗ owing c O' -∗ Q ⟨⟩) -∗ WP c (sigCred (fun d => nx d c) d) Q) := by
  subst hO
  have hkn : (iprop(((released ES (c, d, false) (1 + cnt false n) ∗ reached ER (cell (.recv d false) c) (cnt false r))
    ∗ (released ES (c, d, true) (1 + cnt true n) ∗ reached ER (cell (.recv d true) c) (cnt true r)))) : sProp 𝕄) ⊢ slotsKnown d c (freed b) := by
    unfold slotsKnown
    exact BI.sep_mono (BI.sep_mono (released_mono ES (by have := cnt_mono false hn; omega)) (reached_mono ER (cnt_mono false hr)))
      (BI.sep_mono (released_mono ES (by have := cnt_mono true hn; omega)) (reached_mono ER (cnt_mono true hr)))
  unfold Core Ctok RecvPos ReadPos
  rw [bigSep_Ico_succ_bot hb]
  iintro ⟨#Hctx, ⟨HT, HS, ⟨HC, ⟨Ha1, #Hr1⟩, ⟨Ha2, #Hr2⟩⟩, ⟨⟨Hb1, #Hd1⟩, ⟨Hb2, #Hd2⟩⟩, ⟨⟨Ht, HB⟩, #Hcr⟩, HX⟩, HO⟩ Hk
  iapply (e_sig X Wt Rf κ ιs d b hb c O' Q) $$ [HO Ht]
  · isplitr; · iexact Hctx
    isplitl [HO]; · iexact HO
    isplitl [Ht]; · iexact Ht
    isplitr
    · iapply hkn
      isplitr
      · isplitr; · iexact Hd1
        iexact Hr1
      isplitr; · iexact Hd2
      iexact Hr2
    iexact Hcr
  iintro HO
  iapply Hk
  isplitl [HT HS HC Ha1 Ha2 Hb1 Hb2 HB HX]
  · isplitl [HT]; · iexact HT
    isplitl [HS]; · iexact HS
    isplitl [HC Ha1 Ha2]
    · isplitl [HC]; · iexact HC
      isplitl [Ha1]
      · isplitl [Ha1]; · iexact Ha1
        iexact Hr1
      isplitl [Ha2]; · iexact Ha2
      iexact Hr2
    isplitl [Hb1 Hb2]
    · isplitl [Hb1]
      · isplitl [Hb1]; · iexact Hb1
        iexact Hd1
      isplitl [Hb2]; · iexact Hb2
      iexact Hd2
    isplitl [HB]
    · isplitl [HB]; · iexact HB
      iexact Hcr
    iexact HX
  iexact HO

/-- A slot released. -/
theorem c_release (d : Bool) (n : ℕ) (c : Dev nD) {a s r b m : ℕ} (p : Bool) (hp : p = sl n) (v : Vec F S256x2048 .f32) :
    iprop(ctx X Wt Rf κ ιs ∗ Core d c a s r n b m ∗ Bf.pt (.slot d p) c fullShare v : sProp 𝕄)
      ⊢ iprop(|={Set.univ}=> Core d c a s r (n + 1) b m) := by
  subst hp
  have hpk := two_pick (F := F) (fun p k => iprop(readerAt ES (c, d, p) (1 + k) ∗ released ES (c, d, p) (1 + k))) cnt sl
    (fun _ _ => rfl) n
  unfold Core ReadPos
  iintro ⟨#Hctx, ⟨HT, HS, HR, HP, HX⟩, Hp⟩
  ihave HP := hpk $$ HP
  icases HP with ⟨⟨Hat, -⟩, HP⟩
  imod (e_release X Wt Rf κ ιs d (sl n) c v (1 + cnt (sl n) n)) $$ [Hat Hp] with ⟨Hat, Hr⟩
  · isplitr; · iexact Hctx
    isplitl [Hat]; · iexact Hat
    iexact Hp
  imodintro
  isplitl [HT]; · iexact HT
  isplitl [HS]; · iexact HS
  isplitl [HR]; · iexact HR
  isplitl [HP Hat Hr]
  · iapply HP
    isplitl [Hat]; · iexact Hat
    iexact Hr
  iexact HX

/-- A chunk's store started; `w` stores have been waited for. -/
theorem c_put (hR : ResOk X Wt Rf) (d : Bool) (u : ℕ) (hu : u < 32) (c : Dev nD) (w : ℕ) (hw : scnt (stP u) w = stR u)
    (B : Bf) (hB : B = putSrc d u) (p : Bool) (hp : p = stP u) (q) (hq : q = putQ u) (v : Vec F S256x2048 .f32) (hv : v = gat X Wt d u c)
    (Q : PUnit → sProp 𝕄) :
    iprop(ctx X Wt Rf κ ιs ∗ Stok d c u ∗ StorePos d c w ∗ Bf.pt B c q v : sProp 𝕄)
      ⊢ iprop((Stok d c (u + 1) ∗ StorePos d c w ∗ cred (tallyAt (cell (.store d p) c) 0 NN) -∗ Q ⟨⟩) -∗ WP c (putB (offs c) d p B u) Q) := by
  subst hp hq hv
  have hrd : (StorePos d c w : sProp 𝕄) ⊢ iprop(StorePos d c w ∗ reached ER (cell (.store d (stP u)) c) (stR u)) := by
    rw [← hw]
    unfold StorePos
    iintro ⟨⟨H1, #R1⟩, ⟨H2, #R2⟩⟩
    isplitl [H1 H2]
    · isplitl [H1]
      · isplitl [H1]; · iexact H1
        iexact R1
      isplitl [H2]; · iexact H2
      iexact R2
    rcases stP u
    · iexact R1
    · iexact R2
  unfold Stok
  rw [bigSep_Ico_succ_bot hu]
  iintro ⟨#Hctx, ⟨⟨Ht, ⟨%f, Ho⟩⟩, HT⟩, HS, Hp⟩ Hk
  ihave HS := hrd $$ HS
  icases HS with ⟨HS, #Hr⟩
  iapply (e_put X Wt Rf κ ιs hR d u hu c B hB (stP u) rfl f Q) $$ [Ht Ho Hp]
  · isplitr; · iexact Hctx
    isplitl [Hp]; · iexact Hp
    isplitl [Ho]; · iexact Ho
    isplitl [Ht]; · iexact Ht
    iexact Hr
  iintro Hc
  iapply Hk
  isplitl [HT]; · iexact HT
  isplitl [HS]; · iexact HS
  iexact Hc

/-- A chunk's store waited for. -/
theorem c_waitPut (d : Bool) (u : ℕ) (hu : u < 32) (c : Dev nD)
    (B : Bf) (hB : B = putSrc d u) (p : Bool) (hp : p = stP u) (q) (hq : q = putQ u) (v : Vec F S256x2048 .f32) (hv : v = gat X Wt d u c)
    (O : CellTallies nD τ sig ℕ) (hM : (levAts L lv : sProp 𝕄) ⊢ MayWait (c : Thread nD τ) (Cl.store d p).sem 0 O) (Q : PUnit → sProp 𝕄) :
    iprop(ctx X Wt Rf κ ιs ∗ StorePos d c u ∗ Sdone Rf d c u ∗ cred (tallyAt (cell (.store d p) c) 0 NN) ∗ owing c O : sProp 𝕄)
      ⊢ iprop((StorePos d c (u + 1) ∗ Sdone Rf d c (u + 1) ∗ Bf.pt B c q v ∗ owing c O -∗ Q ⟨⟩) -∗ WP c (waitPut (offs c) d p B u) Q) := by
  subst hp hq hv
  have hpk := two_pick (F := F) (fun p k => iprop(atPos ER (cell (.store d p) c) k ∅ 0 ∗ reached ER (cell (.store d p) c) k)) scnt stP
    (fun _ _ => rfl) u
  unfold StorePos Sdone
  rw [bigSep_range_succ]
  iintro ⟨#Hctx, HP, HD, Hc, HO⟩ Hk
  ihave HM := ((ctx_lev X Wt Rf κ ιs).trans hM) $$ Hctx
  ihave HP := hpk $$ HP
  icases HP with ⟨⟨Hat, -⟩, HP⟩
  unfold waitPut
  iapply (e_wait X Wt Rf κ ιs (.store d (stP u)) (storeS d (stP u)) rfl c (scnt (stP u) u)
    (if_pos (by rw [stR_scnt u hu]; exact stR_lt u hu)) rfl 0 O (o_amount _) Q) $$ [Hat Hc HO HM]
  · isplitr; · iexact Hctx
    isplitl [Hc]; · iexact Hc
    isplitl [HO]; · iexact HO
    isplitl [HM]; · iexact HM
    iexact Hat
  iintro ⟨HO, Hat, Hr, Hp⟩
  iapply Hk
  isplitl [HP Hat Hr]
  · iapply HP
    isplitl [Hat]; · iexact Hat
    iexact Hr
  simp only [payC]
  rw [stR_scnt u hu, uOf_st u hu]
  icases Hp with ⟨Ho, Hp⟩
  isplitl [HD Ho]
  · isplitl [Ho]; · iexact Ho
    iexact HD
  isplitl [Hp]
  · rw [hB]; iexact Hp
  iexact HO

end Cert.KernelIdeal.Proto

end

end
-- ==== Proof.Scatter.lean ====
/-
# The reduce-scatter

One step of the reduce-scatter at a symbolic device and step, and the thirty-one of them.
-/
module

public import proofs.«01_k».proof.Proof.Stage

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F)) (κ : Cl × Dev nD → ℕ) (ιs : Key → ℕ)

/-! ## Sequencing -/

theorem wp_seq (c : Dev nD) {α : Type} (p : Pr F α) (k : α → Pr F PUnit) (Q : PUnit → sProp 𝕄) :
    WP c (p >>= k) Q = WP c p (fun x => WP c (k x) Q) := wp_bind ..
theorem wp_both (c : Dev nD) (f : Bool → Pr F PUnit) (Q : PUnit → sProp 𝕄) :
    WP c (both f) Q = WP c (f true) (fun _ => WP c (f false) Q) := wp_bind ..
theorem wp_pure (c : Dev nD) (Q : PUnit → sProp 𝕄) : (Q ⟨⟩ : sProp 𝕄) ⊢ WP c (pure ⟨⟩) Q := by
  show _ ⊢ wp frame (wpE (defs₀ (F := F)) 𝒱₀ (c : Thread nD τ) none) Set.univ (Prog.ret PUnit.unit) Q
  rw [wp_ret]
  iintro H
  imodintro; iexact H

/-! ## Dues taken one at a time -/

section Move
variable {α : Type} [AddCommMonoid α] (a b c d t : α)
theorem mv1 : a + t + b + (c + d) = a + b + (c + d) + t := by simp only [add_comm, add_left_comm, add_assoc]
theorem mv2 : a + (b + t) + (c + d) = a + b + (c + d) + t := by simp only [add_comm, add_left_comm, add_assoc]
theorem mv3 : a + b + (c + t + d) = a + b + (c + d) + t := by simp only [add_comm, add_left_comm, add_assoc]
theorem mv4 : a + b + (c + (d + t)) = a + b + (c + d) + t := by simp only [add_comm, add_left_comm, add_assoc]
end Move

theorem due_sR (c : Dev nD) {aR aL bR bL : ℕ} (h : aR < 62) : due c aR aL bR bL
    = due c (aR + 1) aL bR bL + tallyAt (cell (.recv true (sl aR)) (nx true c)) (2 * aR + 2) NN := by
  unfold due; rw [sendDue_pop true c h]; exact mv1 _ _ _ _ _
theorem due_sL (c : Dev nD) {aR aL bR bL : ℕ} (h : aL < 62) : due c aR aL bR bL
    = due c aR (aL + 1) bR bL + tallyAt (cell (.recv false (sl aL)) (nx false c)) (2 * aL + 2) NN := by
  unfold due; rw [sendDue_pop false c h]; exact mv2 _ _ _ _ _
theorem due_cR (c : Dev nD) {aR aL bR bL : ℕ} (h : bR < 60) : due c aR aL bR bL
    = due c aR aL (bR + 1) bL + tallyAt (cell (.cred true) (pv true c)) (ci bR) 1 := by
  unfold due; rw [credDue_pop true c h]; exact mv3 _ _ _ _ _
theorem due_cL (c : Dev nD) {aR aL bR bL : ℕ} (h : bL < 60) : due c aR aL bR bL
    = due c aR aL bR (bL + 1) + tallyAt (cell (.cred false) (pv false c)) (ci bL) 1 := by
  unfold due; rw [credDue_pop false c h]; exact mv4 _ _ _ _ _

theorem ci_pos (b : ℕ) : 0 < ci b := by unfold ci; (repeat' split) <;> omega

/-- A wait for one of the device's own completions is always allowed. -/
theorem mayWait0 (c : Dev nD) (k : Cl) {aR aL bR bL : ℕ} :
    (levAts L lv : sProp 𝕄) ⊢ MayWait (c : Thread nD τ) k.sem 0 (due c aR aL bR bL) :=
  mayWait c k 0 (by omega) (by omega) (by omega) (fun _ => ci_pos _) (fun _ => ci_pos _)

/-- How far the neighbour is known to be when transfer `j` starts. -/
def kn (j : ℕ) : ℕ := if j < 2 then 0 else freed (j - 2)
theorem kn_ok : ∀ j, j < 62 → cnt (sl j) j ≤ cnt (sl j) (kn j) := by decide +kernel

/-! ## The reduce-scatter -/

/-- A direction before step `s`. -/
def RS (d : Bool) (c : Dev nD) (s : ℕ) : sProp 𝕄 :=
  iprop(Core d c s s s s (min s 29) (s - 2) ∗ slotsKnown d (nx d c) 0 ∗ Bf.pt (.acc d) c fullShare (acc X Wt d s c)
    ∗ ∃ l, Bf.pt (.loc d) c fullShare l)

/-- The device before step `s`. -/
def RSs (c : Dev nD) (s : ℕ) : sProp 𝕄 :=
  iprop(xPt c (X c) ∗ wPt c (Wt c) ∗ RS X Wt true c s ∗ RS X Wt false c s ∗ owing c (due c s s (min s 29) (min s 29)))

/-- The credits a step waits for. -/
theorem rs_cred (s : ℕ) (hs : s < 31) (c : Dev nD) (Q : PUnit → sProp 𝕄) :
    iprop(ctx X Wt Rf κ ιs ∗ (Core true c s s s s (min s 29) (s - 2) ∗ slotsKnown true (nx true c) 0)
        ∗ (Core false c s s s s (min s 29) (s - 2) ∗ slotsKnown false (nx false c) 0)
        ∗ owing c (due c s s (min s 29) (min s 29)) : sProp 𝕄)
      ⊢ iprop(((Core true c s s s s (min s 29) (s + 1 - 2) ∗ slotsKnown true (nx true c) (kn s))
          ∗ (Core false c s s s s (min s 29) (s + 1 - 2) ∗ slotsKnown false (nx false c) (kn s))
          ∗ owing c (due c s s (min s 29) (min s 29)) -∗ Q ⟨⟩)
        -∗ WP c (bif Nat.ble 2 s then both waitCred else pure ⟨⟩) Q) := by
  rcases Nat.lt_or_ge s 2 with h | h
  · rw [show Nat.ble 2 s = false by rw [← Bool.not_eq_true, Nat.ble_eq]; omega, show kn s = 0 from if_pos h,
      show s + 1 - 2 = s - 2 by omega]
    iintro ⟨#Hctx, HR, HL, HO⟩ Hk
    dsimp only [cond_false]
    iapply (wp_pure c Q)
    iapply Hk
    isplitl [HR]; · iexact HR
    isplitl [HL]; · iexact HL
    iexact HO
  · rw [show Nat.ble 2 s = true by simpa using h, show kn s = freed (s - 2) from if_neg (by omega),
      show s + 1 - 2 = s - 2 + 1 by omega]
    have hci : ci (s - 2) = 2 * s - 1 := by unfold ci; rw [if_pos (by omega)]; omega
    have hM : ∀ k : Cl, (levAts L lv : sProp 𝕄) ⊢ MayWait (c : Thread nD τ) k.sem (ci (s - 2)) (due c s s (min s 29) (min s 29)) := by
      intro k
      have : ci (s - 2) < ci (min s 29) := by rw [hci]; unfold ci; (repeat' split) <;> omega
      exact mayWait c k _ (by omega) (by omega) (by omega) (fun _ => this) (fun _ => this)
    dsimp only [cond_true]
    rw [wp_both]
    iintro ⟨#Hctx, ⟨HR, -⟩, ⟨HL, -⟩, HO⟩ Hk
    iapply (c_cred X Wt Rf κ ιs true (s - 2) (by omega) c _ (hM _)) $$ [HR HO]
    · isplitr; · iexact Hctx
      isplitl [HR]; · iexact HR
      iexact HO
    iintro ⟨HR, #KR, HO⟩
    iapply (c_cred X Wt Rf κ ιs false (s - 2) (by omega) c _ (hM _)) $$ [HL HO]
    · isplitr; · iexact Hctx
      isplitl [HL]; · iexact HL
      iexact HO
    iintro ⟨HL, #KL, HO⟩
    iapply Hk
    isplitl [HR]
    · isplitl [HR]; · iexact HR
      iexact KR
    isplitl [HL]
    · isplitl [HL]; · iexact HL
      iexact KL
    iexact HO

/-- The credits a step pays. -/
theorem rs_sig (s : ℕ) (hs : s < 31) (c : Dev nD) (Q : PUnit → sProp 𝕄) :
    iprop(ctx X Wt Rf κ ιs ∗ Core true c (s + 1) (s + 1) (s + 1) (s + 1) (min s 29) (s + 1 - 2)
        ∗ Core false c (s + 1) (s + 1) (s + 1) (s + 1) (min s 29) (s + 1 - 2)
        ∗ owing c (due c (s + 1) (s + 1) (min s 29) (min s 29)) : sProp 𝕄)
      ⊢ iprop((Core true c (s + 1) (s + 1) (s + 1) (s + 1) (min (s + 1) 29) (s + 1 - 2)
          ∗ Core false c (s + 1) (s + 1) (s + 1) (s + 1) (min (s + 1) 29) (s + 1 - 2)
          ∗ owing c (due c (s + 1) (s + 1) (min (s + 1) 29) (min (s + 1) 29)) -∗ Q ⟨⟩)
        -∗ WP c (bif Nat.ble s 28 then both (sigCred (fun d => nx d c)) else pure ⟨⟩) Q) := by
  rcases Nat.lt_or_ge 28 s with h | h
  · rw [show Nat.ble s 28 = false by rw [← Bool.not_eq_true, Nat.ble_eq]; omega, show min (s + 1) 29 = min s 29 by omega]
    iintro ⟨#Hctx, HR, HL, HO⟩ Hk
    dsimp only [cond_false]
    iapply (wp_pure c Q)
    iapply Hk
    isplitl [HR]; · iexact HR
    isplitl [HL]; · iexact HL
    iexact HO
  · rw [show Nat.ble s 28 = true by simpa using h, show min (s + 1) 29 = s + 1 by omega, show min s 29 = s by omega]
    have hf : freed s ≤ s + 1 := by unfold freed; rw [if_neg (by omega)]
    dsimp only [cond_true]
    rw [wp_both]
    iintro ⟨#Hctx, HR, HL, HO⟩ Hk
    iapply (c_sig X Wt Rf κ ιs true s (by omega) c hf hf _ _ (due_cR c (by omega))) $$ [HR HO]
    · isplitr; · iexact Hctx
      isplitl [HR]; · iexact HR
      iexact HO
    iintro ⟨HR, HO⟩
    iapply (c_sig X Wt Rf κ ιs false s (by omega) c hf hf _ _ (due_cL c (by omega))) $$ [HL HO]
    · isplitr; · iexact Hctx
      isplitl [HL]; · iexact HL
      iexact HO
    iintro ⟨HL, HO⟩
    iapply Hk
    isplitl [HR]; · iexact HR
    isplitl [HL]; · iexact HL
    iexact HO

/-- One step. -/
theorem rs_step (s : ℕ) (hs : s < 31) (c : Dev nD) (Q : PUnit → sProp 𝕄) :
    iprop(ctx X Wt Rf κ ιs ∗ RSs X Wt c s : sProp 𝕄)
      ⊢ iprop((RSs X Wt c (s + 1) -∗ Q ⟨⟩) -∗ WP c (rsStep xM wM (fun d => nx d c) (offs c) s) Q) := by
  have hsl : odd s = sl s := (if_pos hs).symm
  have hsB : ∀ d, Bf.acc d = srcB d s := fun d => (if_pos (by omega)).symm
  have hsQ : fullShare = srcQ s := (if_pos (by omega)).symm
  have hv : ∀ d y, acc X Wt d s y = sent X Wt d s y := fun d y => (if_pos hs).symm
  have hci : ∀ b, min s 29 ≤ b → b < 60 → 2 * s + 2 < ci b := by
    intro b h1 h2; unfold ci; (repeat' split) <;> omega
  have hMr : ∀ k : Cl, (levAts L lv : sProp 𝕄) ⊢ MayWait (c : Thread nD τ) k.sem (2 * s + 2) (due c (s + 1) (s + 1) (min s 29) (min s 29)) :=
    fun k => mayWait c k _ (by omega) (by omega) (by omega) (hci _ le_rfl) (hci _ le_rfl)
  unfold RSs RS rsStep
  iintro ⟨#Hctx, Hx, Hw, ⟨HR, #KR0, HaR, ⟨%lR, HlR⟩⟩, ⟨HL, #KL0, HaL, ⟨%lL, HlL⟩⟩, HO⟩ Hk
  rw [wp_seq]
  iapply (rs_cred X Wt Rf κ ιs s hs c) $$ [HR HL HO]
  · isplitr; · iexact Hctx
    isplitl [HR]
    · isplitl [HR]; · iexact HR
      iexact KR0
    isplitl [HL]
    · isplitl [HL]; · iexact HL
      iexact KL0
    iexact HO
  iintro ⟨⟨HR, #KR⟩, ⟨HL, #KL⟩, HO⟩
  rw [wp_seq, wp_both]
  iapply (c_send X Wt Rf κ ιs true s (by omega) c (kn s) (kn_ok s (by omega)) (.acc true) (hsB true) (odd s) hsl _ hsQ _ (hv true c) _ _
    (due_sR c (by omega))) $$ [HR HaR HO]
  · isplitr; · iexact Hctx
    isplitl [HR]; · iexact HR
    isplitr; · iexact KR
    isplitl [HaR]; · iexact HaR
    iexact HO
  iintro ⟨HR, HcR, HO⟩
  iapply (c_send X Wt Rf κ ιs false s (by omega) c (kn s) (kn_ok s (by omega)) (.acc false) (hsB false) (odd s) hsl _ hsQ _ (hv false c) _ _
    (due_sL c (by omega))) $$ [HL HaL HO]
  · isplitr; · iexact Hctx
    isplitl [HL]; · iexact HL
    isplitr; · iexact KL
    isplitl [HaL]; · iexact HaL
    iexact HO
  iintro ⟨HL, HcL, HO⟩
  rw [wp_seq, wp_both]
  iapply (e_dot ((offs c).x true s) true (.loc true) c lR (X c) (Wt c)) $$ [Hx Hw HlR]
  · isplitl [Hx]; · iexact Hx
    isplitl [Hw]; · iexact Hw
    iexact HlR
  iintro ⟨Hx, Hw, HlR⟩
  iapply (e_dot ((offs c).x false s) false (.loc false) c lL (X c) (Wt c)) $$ [Hx Hw HlL]
  · isplitl [Hx]; · iexact Hx
    isplitl [Hw]; · iexact Hw
    iexact HlL
  iintro ⟨Hx, Hw, HlL⟩
  rw [wp_seq, wp_both, wp_seq]
  iapply (c_waitSend X Wt Rf κ ιs true s (by omega) c (.acc true) (hsB true) (odd s) _ hsQ _ (hv true c) _ (mayWait0 c _)) $$ [HR HcR HO]
  · isplitr; · iexact Hctx
    isplitl [HR]; · iexact HR
    isplitl [HcR]; · iexact HcR
    iexact HO
  iintro ⟨HR, HaR, HO⟩
  iapply (c_waitRecv X Wt Rf κ ιs true s (by omega) c (.acc true) (odd s) hsl _ (hv true _) _ (hMr _)) $$ [HR HO]
  · isplitr; · iexact Hctx
    isplitl [HR]; · iexact HR
    iexact HO
  iintro ⟨HR, HsR, HO⟩
  rw [wp_seq]
  iapply (c_waitSend X Wt Rf κ ιs false s (by omega) c (.acc false) (hsB false) (odd s) _ hsQ _ (hv false c) _ (mayWait0 c _)) $$ [HL HcL HO]
  · isplitr; · iexact Hctx
    isplitl [HL]; · iexact HL
    isplitl [HcL]; · iexact HcL
    iexact HO
  iintro ⟨HL, HaL, HO⟩
  iapply (c_waitRecv X Wt Rf κ ιs false s (by omega) c (.acc false) (odd s) hsl _ (hv false _) _ (hMr _)) $$ [HL HO]
  · isplitr; · iexact Hctx
    isplitl [HL]; · iexact HL
    iexact HO
  iintro ⟨HL, HsL, HO⟩
  rw [wp_seq, wp_both]
  iapply (e_add true (odd s) c _ _ _ _ _) $$ [HsR HlR HaR]
  · isplitl [HsR]; · iexact HsR
    isplitl [HlR]; · iexact HlR
    iexact HaR
  iintro ⟨HsR, HlR, HaR⟩
  iapply (e_add false (odd s) c _ _ _ _ _) $$ [HsL HlL HaL]
  · isplitl [HsL]; · iexact HsL
    isplitl [HlL]; · iexact HlL
    iexact HaL
  iintro ⟨HsL, HlL, HaL⟩
  iapply fupd_wp
  imod (c_release X Wt Rf κ ιs true s c (odd s) hsl _) $$ [HR HsR] with HR
  · isplitr; · iexact Hctx
    isplitl [HR]; · iexact HR
    iexact HsR
  imod (c_release X Wt Rf κ ιs false s c (odd s) hsl _) $$ [HL HsL] with HL
  · isplitr; · iexact Hctx
    isplitl [HL]; · iexact HL
    iexact HsL
  imodintro
  iapply (rs_sig X Wt Rf κ ιs s hs c) $$ [HR HL HO]
  · isplitr; · iexact Hctx
    isplitl [HR]; · iexact HR
    isplitl [HL]; · iexact HL
    iexact HO
  iintro ⟨HR, HL, HO⟩
  iapply Hk
  isplitl [Hx]; · iexact Hx
  isplitl [Hw]; · iexact Hw
  isplitl [HR HaR HlR]
  · isplitl [HR]; · iexact HR
    isplitr; · iexact KR0
    isplitl [HaR]; · iexact HaR
    iexists _; iexact HlR
  isplitl [HL HaL HlL]
  · isplitl [HL]; · iexact HL
    isplitr; · iexact KL0
    isplitl [HaL]; · iexact HaL
    iexists _; iexact HlL
  iexact HO

/-- A number of steps in a row, from one that is proved. -/
theorem wp_loop (c : Dev nD) (f : ℕ → Pr F PUnit) (I : ℕ → sProp 𝕄) (P : sProp 𝕄) [BI.Persistent P] (N : ℕ)
    (h : ∀ s, s < N → ∀ Q : PUnit → sProp 𝕄, iprop(P ∗ I s) ⊢ iprop((I (s + 1) -∗ Q ⟨⟩) -∗ WP c (f s) Q))
    (k : Pr F PUnit) (Q : PUnit → sProp 𝕄) (n : ℕ) : ∀ s, s + n = N →
      iprop(P ∗ I s) ⊢ iprop((I N -∗ WP c k Q) -∗ WP c (loop f n s k) Q) := by
  induction n with
  | zero =>
    intro s hs
    rw [Nat.add_zero] at hs
    subst hs
    iintro ⟨#HP, HI⟩ Hk
    unfold loop
    iapply Hk; iexact HI
  | succ n ih =>
    intro s hs
    unfold loop
    rw [wp_seq]
    iintro ⟨#HP, HI⟩ Hk
    iapply (h s (by omega)) $$ [HI]
    · isplitr; · iexact HP
      iexact HI
    iintro HI
    iapply (ih (s + 1) (by omega)) $$ [HI]
    · isplitr; · iexact HP
      iexact HI
    iexact Hk

end Cert.KernelIdeal.Proto

end

end
-- ==== Proof.Gather.lean ====
/-
# The all-gather

The activation with the first stores, and one step of the all-gather at a symbolic device and step.
-/
module

public import proofs.«01_k».proof.Proof.Scatter

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F)) (κ : Cl × Dev nD → ℕ) (ιs : Key → ℕ)

/-- Credits paid, and slots released, before step `t`. -/
def bb (t : ℕ) : ℕ := min 60 (max 31 (30 + t))

/-- The two slots of a direction's last landings: the one that is not stored last. -/
def Ex (d : Bool) (c : Dev nD) (t : ℕ) : sProp 𝕄 :=
  if t = 31 then iprop(∃ v : Vec F S256x2048 .f32, Bf.pt (.slot d true) c fullShare v) else iprop(emp)

/-- What is in flight or in hand before step `t`: nothing but the device's own chunk at first, afterwards the half of the
slot that is to be sent, the other half being in the store. -/
def Hand (d : Bool) (c : Dev nD) (t : ℕ) : sProp 𝕄 :=
  if t = 0 then iprop(emp) else
    iprop(Bf.pt (.slot d (!(odd t))) c fullShare.right (gat X Wt d t c) ∗ cred (tallyAt (cell (.store d (!(odd t))) c) 0 NN))

/-- A direction before step `t` of the all-gather. -/
def AG (d : Bool) (c : Dev nD) (t : ℕ) : sProp 𝕄 :=
  iprop(Core d c (31 + t) (31 + t) (31 + t) (bb t) (bb t) (29 + t) ∗ Stok d c (t + 1) ∗ StorePos d c (max t 1)
    ∗ Sdone Rf d c (max t 1) ∗ Bf.pt (.acc d) c fullShare (gat X Wt d 0 c) ∗ Hand X Wt d c t ∗ Ex d c t)

/-- The device before step `t` of the all-gather. -/
def AGs (c : Dev nD) (t : ℕ) : sProp 𝕄 :=
  iprop(AG X Wt Rf true c t ∗ AG X Wt Rf false c t ∗ owing c (due c (31 + t) (31 + t) (bb t) (bb t)))

/-- The activation and the stores of the device's own chunks. -/
theorem mid_step (hR : ResOk X Wt Rf) (c : Dev nD) (Q : PUnit → sProp 𝕄) :
    iprop(ctx X Wt Rf κ ιs ∗ ((Core true c 31 31 31 31 29 29 ∗ Bf.pt (.acc true) c fullShare (acc X Wt true 31 c))
        ∗ Stok true c 0 ∗ StorePos true c 0 ∗ Sdone Rf true c 0)
        ∗ ((Core false c 31 31 31 31 29 29 ∗ Bf.pt (.acc false) c fullShare (acc X Wt false 31 c))
        ∗ Stok false c 0 ∗ StorePos false c 0 ∗ Sdone Rf false c 0) ∗ owing c (due c 31 31 29 29) : sProp 𝕄)
      ⊢ iprop((AGs X Wt Rf c 0 -∗ Q ⟨⟩) -∗ WP c (mid (fun d => nx d c) (offs c)) Q) := by
  unfold mid
  rw [wp_seq, wp_both]
  iintro ⟨#Hctx, ⟨⟨HR, HaR⟩, HtR, HpR, HdR⟩, ⟨⟨HL, HaL⟩, HtL, HpL, HdL⟩, HO⟩ Hk
  iapply (c_sig X Wt Rf κ ιs true 29 (by omega) c (r := 31) (n := 31) (by decide) (by decide) _ _ (due_cR c (by omega))) $$ [HR HO]
  · isplitr; · iexact Hctx
    isplitl [HR]; · iexact HR
    iexact HO
  iintro ⟨HR, HO⟩
  iapply (c_sig X Wt Rf κ ιs false 29 (by omega) c (r := 31) (n := 31) (by decide) (by decide) _ _ (due_cL c (by omega))) $$ [HL HO]
  · isplitr; · iexact Hctx
    isplitl [HL]; · iexact HL
    iexact HO
  iintro ⟨HL, HO⟩
  rw [wp_seq, wp_both]
  iapply (c_sig X Wt Rf κ ιs true 30 (by omega) c (r := 31) (n := 31) (by decide) (by decide) _ _ (due_cR c (by omega))) $$ [HR HO]
  · isplitr; · iexact Hctx
    isplitl [HR]; · iexact HR
    iexact HO
  iintro ⟨HR, HO⟩
  iapply (c_sig X Wt Rf κ ιs false 30 (by omega) c (r := 31) (n := 31) (by decide) (by decide) _ _ (due_cL c (by omega))) $$ [HL HO]
  · isplitr; · iexact Hctx
    isplitl [HL]; · iexact HL
    iexact HO
  iintro ⟨HL, HO⟩
  rw [wp_seq, wp_both]
  iapply (e_relu true c _) $$ HaR
  iintro HaR
  iapply (e_relu false c _) $$ HaL
  iintro HaL
  rw [wp_seq, wp_both]
  iapply (c_put X Wt Rf κ ιs hR true 0 (by omega) c 0 rfl (.acc true) rfl false rfl fullShare rfl _ rfl) $$ [HtR HpR HaR]
  · isplitr; · iexact Hctx
    isplitl [HtR]; · iexact HtR
    isplitl [HpR]; · iexact HpR
    iexact HaR
  iintro ⟨HtR, HpR, HcR⟩
  iapply (c_put X Wt Rf κ ιs hR false 0 (by omega) c 0 rfl (.acc false) rfl false rfl fullShare rfl _ rfl) $$ [HtL HpL HaL]
  · isplitr; · iexact Hctx
    isplitl [HtL]; · iexact HtL
    isplitl [HpL]; · iexact HpL
    iexact HaL
  iintro ⟨HtL, HpL, HcL⟩
  rw [wp_both]
  iapply (c_waitPut X Wt Rf κ ιs true 0 (by omega) c (.acc true) rfl false rfl fullShare rfl _ rfl _ (mayWait0 c _)) $$ [HpR HdR HcR HO]
  · isplitr; · iexact Hctx
    isplitl [HpR]; · iexact HpR
    isplitl [HdR]; · iexact HdR
    isplitl [HcR]; · iexact HcR
    iexact HO
  iintro ⟨HpR, HdR, HaR, HO⟩
  iapply (c_waitPut X Wt Rf κ ιs false 0 (by omega) c (.acc false) rfl false rfl fullShare rfl _ rfl _ (mayWait0 c _)) $$ [HpL HdL HcL HO]
  · isplitr; · iexact Hctx
    isplitl [HpL]; · iexact HpL
    isplitl [HdL]; · iexact HdL
    isplitl [HcL]; · iexact HcL
    iexact HO
  iintro ⟨HpL, HdL, HaL, HO⟩
  iapply Hk
  unfold AGs AG Hand Ex
  rw [if_pos rfl, if_pos rfl, if_neg (by decide), if_neg (by decide)]
  isplitl [HR HtR HpR HdR HaR]
  · isplitl [HR]; · iexact HR
    isplitl [HtR]; · iexact HtR
    isplitl [HpR]; · iexact HpR
    isplitl [HdR]; · iexact HdR
    isplitl [HaR]; · iexact HaR
    isplitr; · iempintro
    iempintro
  isplitl [HL HtL HpL HdL HaL]
  · isplitl [HL]; · iexact HL
    isplitl [HtL]; · iexact HtL
    isplitl [HpL]; · iexact HpL
    isplitl [HdL]; · iexact HdL
    isplitl [HaL]; · iexact HaL
    isplitr; · iempintro
    iempintro
  iexact HO

theorem agSrc_eq (d : Bool) : ∀ t, t < 31 → agSrc d t = srcB d (31 + t) := by revert d; decide +kernel
theorem odd_sl : ∀ t, t < 31 → odd t = sl (31 + t) := by decide +kernel
theorem odd_st : ∀ t, t < 31 → odd t = stP (t + 1) := by decide +kernel
theorem not_odd_sl : ∀ t, t < 31 → 1 ≤ t → (!(odd t)) = sl (30 + t) := by decide +kernel
theorem not_odd_st : ∀ t, t < 31 → 1 ≤ t → (!(odd t)) = stP t := by decide +kernel
theorem not_odd (t : ℕ) : (!(odd (t + 1))) = odd t := by
  unfold odd
  rcases Nat.mod_two_eq_zero_or_one t with h | h
  · rw [h, show (t + 1) % 2 = 1 by omega]; rfl
  · rw [h, show (t + 1) % 2 = 0 by omega]; rfl
theorem scnt_w : ∀ t, t < 31 → scnt (stP (t + 1)) (max t 1) = stR (t + 1) := by decide +kernel

/-- The part of a step up to its last send. -/
theorem ag_pre (hR : ResOk X Wt Rf) (t : ℕ) (ht : t < 31) (c : Dev nD) {n b : ℕ} (q) (hq : q = srcQ (31 + t)) (hb : b < 60 → 64 + 2 * t < ci b)
    (rest : Pr F PUnit) (Q : PUnit → sProp 𝕄) :
    iprop(ctx X Wt Rf κ ιs
        ∗ (Core true c (31 + t) (31 + t) (31 + t) n b (29 + t) ∗ Stok true c (t + 1) ∗ StorePos true c (max t 1)
          ∗ Bf.pt (agSrc true t) c q (gat X Wt true t c))
        ∗ (Core false c (31 + t) (31 + t) (31 + t) n b (29 + t) ∗ Stok false c (t + 1) ∗ StorePos false c (max t 1)
          ∗ Bf.pt (agSrc false t) c q (gat X Wt false t c))
        ∗ owing c (due c (31 + t) (31 + t) b b) : sProp 𝕄)
      ⊢ iprop(((Core true c (31 + t + 1) (31 + t + 1) (31 + t + 1) n b (29 + t + 1) ∗ Stok true c (t + 1 + 1) ∗ StorePos true c (max t 1)
            ∗ Bf.pt (agSrc true t) c q (gat X Wt true t c)
            ∗ Bf.pt (.slot true (odd t)) c fullShare.right (gat X Wt true (t + 1) c) ∗ cred (tallyAt (cell (.store true (odd t)) c) 0 NN))
          ∗ (Core false c (31 + t + 1) (31 + t + 1) (31 + t + 1) n b (29 + t + 1) ∗ Stok false c (t + 1 + 1) ∗ StorePos false c (max t 1)
            ∗ Bf.pt (agSrc false t) c q (gat X Wt false t c)
            ∗ Bf.pt (.slot false (odd t)) c fullShare.right (gat X Wt false (t + 1) c) ∗ cred (tallyAt (cell (.store false (odd t)) c) 0 NN))
          ∗ owing c (due c (31 + t + 1) (31 + t + 1) b b) -∗ WP c rest Q)
        -∗ WP c (both waitCred >>= fun _ =>
          (both fun d => sendB (fun d => nx d c) d (odd t) (agSrc d t)) >>= fun _ =>
          (both fun d => waitRecv d (odd t) (agSrc d t)) >>= fun _ =>
          (both fun d => putB (offs c) d (odd t) (.slot d (odd t)) (t + 1)) >>= fun _ =>
          (both fun d => waitSend d (odd t) (agSrc d t)) >>= fun _ => rest) Q) := by
  have hsl := odd_sl t ht
  have hst := odd_st t ht
  have hv : ∀ d y, gat X Wt d t y = sent X Wt d (31 + t) y := fun d y => by
    unfold sent; rw [if_neg (by omega), show 31 + t - 31 = t by omega]
  have hv' : ∀ d, gat X Wt d (t + 1) c = sent X Wt d (31 + t) (pv d c) := fun d => by
    rw [← hv]; rfl
  have hkn : freed (29 + t) = kn (31 + t) := by unfold kn; rw [if_neg (by omega), show 31 + t - 2 = 29 + t by omega]
  have hci : ci (29 + t) < 64 + 2 * t := by unfold ci; (repeat' split) <;> omega
  have hMc : ∀ k : Cl, (levAts L lv : sProp 𝕄) ⊢ MayWait (c : Thread nD τ) k.sem (ci (29 + t)) (due c (31 + t) (31 + t) b b) :=
    fun k => mayWait c k _ (by omega) (by omega) (by omega) (fun h => by have := hb h; omega) (fun h => by have := hb h; omega)
  have hMr : ∀ k : Cl, (levAts L lv : sProp 𝕄) ⊢ MayWait (c : Thread nD τ) k.sem (2 * (31 + t) + 2) (due c (31 + t + 1) (31 + t + 1) b b) :=
    fun k => mayWait c k _ (by omega) (by omega) (by omega) (fun h => by have := hb h; omega) (fun h => by have := hb h; omega)
  have hpS : ∀ d, Bf.slot d (odd t) = putSrc d (t + 1) := fun d => by unfold putSrc; rw [if_neg (by omega), ← hst]
  have hpQ : fullShare.left = putQ (t + 1) := by unfold putQ; rw [if_neg (by omega)]
  rw [wp_seq, wp_both]
  iintro ⟨#Hctx, ⟨HR, HtR, HpR, HaR⟩, ⟨HL, HtL, HpL, HaL⟩, HO⟩ Hk
  iapply (c_cred X Wt Rf κ ιs true (29 + t) (by omega) c _ (hMc _)) $$ [HR HO]
  · isplitr; · iexact Hctx
    isplitl [HR]; · iexact HR
    iexact HO
  iintro ⟨HR, #KR, HO⟩
  iapply (c_cred X Wt Rf κ ιs false (29 + t) (by omega) c _ (hMc _)) $$ [HL HO]
  · isplitr; · iexact Hctx
    isplitl [HL]; · iexact HL
    iexact HO
  iintro ⟨HL, #KL, HO⟩
  rw [wp_seq, wp_both]
  iapply (c_send X Wt Rf κ ιs true (31 + t) (by omega) c (freed (29 + t)) (hkn ▸ kn_ok (31 + t) (by omega)) _ (agSrc_eq true t ht) (odd t) hsl _ hq _ (hv true c) _ _
    (due_sR c (by omega))) $$ [HR HaR HO]
  · isplitr; · iexact Hctx
    isplitl [HR]; · iexact HR
    isplitr; · iexact KR
    isplitl [HaR]; · iexact HaR
    iexact HO
  iintro ⟨HR, HcR, HO⟩
  iapply (c_send X Wt Rf κ ιs false (31 + t) (by omega) c (freed (29 + t)) (hkn ▸ kn_ok (31 + t) (by omega)) _ (agSrc_eq false t ht) (odd t) hsl _ hq _ (hv false c) _ _
    (due_sL c (by omega))) $$ [HL HaL HO]
  · isplitr; · iexact Hctx
    isplitl [HL]; · iexact HL
    isplitr; · iexact KL
    isplitl [HaL]; · iexact HaL
    iexact HO
  iintro ⟨HL, HcL, HO⟩
  rw [wp_seq, wp_both]
  iapply (c_waitRecv X Wt Rf κ ιs true (31 + t) (by omega) c _ (odd t) hsl _ (hv' true) _ (hMr _)) $$ [HR HO]
  · isplitr; · iexact Hctx
    isplitl [HR]; · iexact HR
    iexact HO
  iintro ⟨HR, HsR, HO⟩
  iapply (c_waitRecv X Wt Rf κ ιs false (31 + t) (by omega) c _ (odd t) hsl _ (hv' false) _ (hMr _)) $$ [HL HO]
  · isplitr; · iexact Hctx
    isplitl [HL]; · iexact HL
    iexact HO
  iintro ⟨HL, HsL, HO⟩
  ihave HsR := (pt_halves _ c _).1 $$ HsR
  ihave HsL := (pt_halves _ c _).1 $$ HsL
  icases HsR with ⟨HsR, HqR⟩
  icases HsL with ⟨HsL, HqL⟩
  rw [wp_seq, wp_both]
  iapply (c_put X Wt Rf κ ιs hR true (t + 1) (by omega) c (max t 1) (scnt_w t ht) _ (hpS true) (odd t) hst _ hpQ _ rfl) $$ [HtR HpR HsR]
  · isplitr; · iexact Hctx
    isplitl [HtR]; · iexact HtR
    isplitl [HpR]; · iexact HpR
    iexact HsR
  iintro ⟨HtR, HpR, HuR⟩
  iapply (c_put X Wt Rf κ ιs hR false (t + 1) (by omega) c (max t 1) (scnt_w t ht) _ (hpS false) (odd t) hst _ hpQ _ rfl) $$ [HtL HpL HsL]
  · isplitr; · iexact Hctx
    isplitl [HtL]; · iexact HtL
    isplitl [HpL]; · iexact HpL
    iexact HsL
  iintro ⟨HtL, HpL, HuL⟩
  rw [wp_seq, wp_both]
  iapply (c_waitSend X Wt Rf κ ιs true (31 + t) (by omega) c _ (agSrc_eq true t ht) (odd t) _ hq _ (hv true c) _ (mayWait0 c _)) $$ [HR HcR HO]
  · isplitr; · iexact Hctx
    isplitl [HR]; · iexact HR
    isplitl [HcR]; · iexact HcR
    iexact HO
  iintro ⟨HR, HaR, HO⟩
  iapply (c_waitSend X Wt Rf κ ιs false (31 + t) (by omega) c _ (agSrc_eq false t ht) (odd t) _ hq _ (hv false c) _ (mayWait0 c _)) $$ [HL HcL HO]
  · isplitr; · iexact Hctx
    isplitl [HL]; · iexact HL
    isplitl [HcL]; · iexact HcL
    iexact HO
  iintro ⟨HL, HaL, HO⟩
  iapply Hk
  isplitl [HR HtR HpR HaR HqR HuR]
  · isplitl [HR]; · iexact HR
    isplitl [HtR]; · iexact HtR
    isplitl [HpR]; · iexact HpR
    isplitl [HaR]; · iexact HaR
    isplitl [HqR]; · iexact HqR
    iexact HuR
  isplitl [HL HtL HpL HaL HqL HuL]
  · isplitl [HL]; · iexact HL
    isplitl [HtL]; · iexact HtL
    isplitl [HpL]; · iexact HpL
    isplitl [HaL]; · iexact HaL
    isplitl [HqL]; · iexact HqL
    iexact HuL
  iexact HO

/-- The slot that has been sent and stored is released, but for the last. -/
theorem ag_rel (d : Bool) (t : ℕ) (ht : t < 31) (h1 : 1 ≤ t) (c : Dev nD) {a s r m : ℕ} (v : Vec F S256x2048 .f32) :
    iprop(ctx X Wt Rf κ ιs ∗ Core d c a s r (bb t) (bb t) m ∗ Bf.pt (.slot d (!(odd t))) c fullShare v : sProp 𝕄)
      ⊢ iprop(|={Set.univ}=> (Core d c a s r (bb (t + 1)) (bb t) m ∗ Ex d c (t + 1))) := by
  rcases Nat.lt_or_ge t 30 with h | h
  · unfold Ex
    rw [if_neg (by omega), show bb t = 30 + t by unfold bb; omega, show bb (t + 1) = 30 + t + 1 by unfold bb; omega]
    iintro ⟨#Hctx, HR, HS⟩
    imod (c_release X Wt Rf κ ιs d (30 + t) c _ (not_odd_sl t ht h1) v) $$ [HR HS] with HR
    · isplitr; · iexact Hctx
      isplitl [HR]; · iexact HR
      iexact HS
    imodintro
    isplitl [HR]; · iexact HR
    iempintro
  · obtain rfl : t = 30 := by omega
    unfold Ex
    rw [if_pos rfl]
    iintro ⟨#Hctx, HR, HS⟩
    imodintro
    isplitl [HR]; · iexact HR
    iexists v; iexact HS

/-- The credits a step pays at its end. -/
theorem ag_sig (t : ℕ) (ht : t < 31) (c : Dev nD) (Q : PUnit → sProp 𝕄) :
    iprop(ctx X Wt Rf κ ιs ∗ Core true c (31 + t + 1) (31 + t + 1) (31 + t + 1) (bb (t + 1)) (bb t) (29 + t + 1)
        ∗ Core false c (31 + t + 1) (31 + t + 1) (31 + t + 1) (bb (t + 1)) (bb t) (29 + t + 1)
        ∗ owing c (due c (31 + t + 1) (31 + t + 1) (bb t) (bb t)) : sProp 𝕄)
      ⊢ iprop((Core true c (31 + t + 1) (31 + t + 1) (31 + t + 1) (bb (t + 1)) (bb (t + 1)) (29 + t + 1)
          ∗ Core false c (31 + t + 1) (31 + t + 1) (31 + t + 1) (bb (t + 1)) (bb (t + 1)) (29 + t + 1)
          ∗ owing c (due c (31 + t + 1) (31 + t + 1) (bb (t + 1)) (bb (t + 1))) -∗ Q ⟨⟩)
        -∗ WP c (bif Nat.ble 1 t && Nat.ble t 29 then both (sigCred (fun d => nx d c)) else pure ⟨⟩) Q) := by
  by_cases h : 1 ≤ t ∧ t ≤ 29
  · rw [show (Nat.ble 1 t && Nat.ble t 29) = true by rw [Bool.and_eq_true, Nat.ble_eq, Nat.ble_eq]; exact h,
      show bb t = 30 + t by unfold bb; omega, show bb (t + 1) = 30 + t + 1 by unfold bb; omega]
    have hn : freed (30 + t) ≤ 30 + t + 1 := by unfold freed; rw [if_neg (by omega)]
    have hr : freed (30 + t) ≤ 31 + t + 1 := hn.trans (by omega)
    dsimp only [cond_true]
    rw [wp_both]
    iintro ⟨#Hctx, HR, HL, HO⟩ Hk
    iapply (c_sig X Wt Rf κ ιs true (30 + t) (by omega) c hr hn _ _ (due_cR c (by omega))) $$ [HR HO]
    · isplitr; · iexact Hctx
      isplitl [HR]; · iexact HR
      iexact HO
    iintro ⟨HR, HO⟩
    iapply (c_sig X Wt Rf κ ιs false (30 + t) (by omega) c hr hn _ _ (due_cL c (by omega))) $$ [HL HO]
    · isplitr; · iexact Hctx
      isplitl [HL]; · iexact HL
      iexact HO
    iintro ⟨HL, HO⟩
    iapply Hk
    isplitl [HR]; · iexact HR
    isplitl [HL]; · iexact HL
    iexact HO
  · rw [show (Nat.ble 1 t && Nat.ble t 29) = false by rw [← Bool.not_eq_true, Bool.and_eq_true, Nat.ble_eq, Nat.ble_eq]; exact h,
      show bb (t + 1) = bb t by unfold bb; omega]
    iintro ⟨#Hctx, HR, HL, HO⟩ Hk
    dsimp only [cond_false]
    iapply (wp_pure c Q)
    iapply Hk
    isplitl [HR]; · iexact HR
    isplitl [HL]; · iexact HL
    iexact HO

theorem bb_ci (t : ℕ) (ht : t < 31) (h : bb t < 60) : 64 + 2 * t < ci (bb t) := by
  unfold bb at h ⊢
  unfold ci; (repeat' split) <;> omega

/-- One step. -/
theorem ag_step (hR : ResOk X Wt Rf) (t : ℕ) (ht : t < 31) (c : Dev nD) (Q : PUnit → sProp 𝕄) :
    iprop(ctx X Wt Rf κ ιs ∗ AGs X Wt Rf c t : sProp 𝕄)
      ⊢ iprop((AGs X Wt Rf c (t + 1) -∗ Q ⟨⟩) -∗ WP c (agStep (fun d => nx d c) (offs c) t) Q) := by
  rcases Nat.eq_zero_or_pos t with h0 | h0
  · subst h0
    unfold AGs AG Hand Ex agStep
    rw [if_pos rfl, if_pos rfl, if_neg (by decide), if_neg (by decide), if_neg (by decide), if_neg (by decide), if_neg (by decide), if_neg (by decide)]
    iintro ⟨#Hctx, ⟨HR, HtR, HpR, HdR, HaR, -, -⟩, ⟨HL, HtL, HpL, HdL, HaL, -, -⟩, HO⟩ Hk
    iapply (ag_pre X Wt Rf κ ιs hR 0 (by omega) c fullShare rfl (bb_ci 0 (by omega))) $$ [HR HtR HpR HaR HL HtL HpL HaL HO]
    · isplitr; · iexact Hctx
      isplitl [HR HtR HpR HaR]
      · isplitl [HR]; · iexact HR
        isplitl [HtR]; · iexact HtR
        isplitl [HpR]; · iexact HpR
        iexact HaR
      isplitl [HL HtL HpL HaL]
      · isplitl [HL]; · iexact HL
        isplitl [HtL]; · iexact HtL
        isplitl [HpL]; · iexact HpL
        iexact HaL
      iexact HO
    iintro ⟨⟨HR, HtR, HpR, HaR, HqR, HuR⟩, ⟨HL, HtL, HpL, HaL, HqL, HuL⟩, HO⟩
    rw [wp_seq]
    iapply (wp_pure c)
    iapply (ag_sig X Wt Rf κ ιs 0 (by omega) c) $$ [HR HL HO]
    · isplitr; · iexact Hctx
      isplitl [HR]; · iexact HR
      isplitl [HL]; · iexact HL
      iexact HO
    iintro ⟨HR, HL, HO⟩
    iapply Hk
    isplitl [HR HtR HpR HdR HaR HqR HuR]
    · isplitl [HR]; · iexact HR
      isplitl [HtR]; · iexact HtR
      isplitl [HpR]; · iexact HpR
      isplitl [HdR]; · iexact HdR
      isplitl [HaR]; · iexact HaR
      isplitl [HqR HuR]
      · isplitl [HqR]; · iexact HqR
        iexact HuR
      iempintro
    isplitl [HL HtL HpL HdL HaL HqL HuL]
    · isplitl [HL]; · iexact HL
      isplitl [HtL]; · iexact HtL
      isplitl [HpL]; · iexact HpL
      isplitl [HdL]; · iexact HdL
      isplitl [HaL]; · iexact HaL
      isplitl [HqL HuL]
      · isplitl [HqL]; · iexact HqL
        iexact HuL
      iempintro
    iexact HO
  · have hsrc : ∀ d, agSrc d t = .slot d (!(odd t)) := fun d => by
      unfold agSrc
      rw [show Nat.beq t 0 = false by cases t with | zero => omega | succ => rfl]; rfl
    have hq : fullShare.right = srcQ (31 + t) := by unfold srcQ; rw [if_neg (by omega)]
    have hst := not_odd_st t ht h0
    have hpS : ∀ d, Bf.slot d (!(odd t)) = putSrc d t := fun d => by unfold putSrc; rw [if_neg (by omega), ← hst]
    have hpQ : fullShare.left = putQ t := by unfold putQ; rw [if_neg (by omega)]
    unfold AGs AG Hand agStep
    rw [if_neg (by omega), if_neg (by omega), if_neg (by omega), if_neg (by omega), Nat.max_eq_left h0, Nat.max_eq_left (show 1 ≤ t + 1 by omega), not_odd t]
    have he : Ex (F := F) true c t = iprop(emp) ∧ Ex (F := F) false c t = iprop(emp) :=
      ⟨if_neg (by omega), if_neg (by omega)⟩
    rw [he.1, he.2]
    have hp := ag_pre X Wt Rf κ ιs hR t ht c fullShare.right hq (n := bb t) (bb_ci t ht)
    rw [hsrc true, hsrc false, Nat.max_eq_left h0] at hp
    iintro ⟨#Hctx, ⟨HR, HtR, HpR, HdR, HaR, ⟨HqR, HuR⟩, -⟩, ⟨HL, HtL, HpL, HdL, HaL, ⟨HqL, HuL⟩, -⟩, HO⟩ Hk
    iapply (hp _ Q) $$ [HR HtR HpR HqR HL HtL HpL HqL HO]
    · isplitr; · iexact Hctx
      isplitl [HR HtR HpR HqR]
      · isplitl [HR]; · iexact HR
        isplitl [HtR]; · iexact HtR
        isplitl [HpR]; · iexact HpR
        iexact HqR
      isplitl [HL HtL HpL HqL]
      · isplitl [HL]; · iexact HL
        isplitl [HtL]; · iexact HtL
        isplitl [HpL]; · iexact HpL
        iexact HqL
      iexact HO
    iintro ⟨⟨HR, HtR, HpR, HqR, HxR, HyR⟩, ⟨HL, HtL, HpL, HqL, HxL, HyL⟩, HO⟩
    rw [show Nat.ble 1 t = true by rw [Nat.ble_eq]; exact h0]
    rw [wp_seq]
    dsimp only [cond_true]
    rw [wp_both]
    iapply (c_waitPut X Wt Rf κ ιs true t (by omega) c _ (hpS true) _ hst _ hpQ _ rfl _ (mayWait0 c _)) $$ [HpR HdR HuR HO]
    · isplitr; · iexact Hctx
      isplitl [HpR]; · iexact HpR
      isplitl [HdR]; · iexact HdR
      isplitl [HuR]; · iexact HuR
      iexact HO
    iintro ⟨HpR, HdR, HzR, HO⟩
    iapply (c_waitPut X Wt Rf κ ιs false t (by omega) c _ (hpS false) _ hst _ hpQ _ rfl _ (mayWait0 c _)) $$ [HpL HdL HuL HO]
    · isplitr; · iexact Hctx
      isplitl [HpL]; · iexact HpL
      isplitl [HdL]; · iexact HdL
      isplitl [HuL]; · iexact HuL
      iexact HO
    iintro ⟨HpL, HdL, HzL, HO⟩
    ihave HzR := (pt_halves _ c _).2 $$ [HzR HqR]
    · isplitl [HzR]; · iexact HzR
      iexact HqR
    ihave HzL := (pt_halves _ c _).2 $$ [HzL HqL]
    · isplitl [HzL]; · iexact HzL
      iexact HqL
    iapply fupd_wp
    imod (ag_rel X Wt Rf κ ιs true t ht h0 c _) $$ [HR HzR] with ⟨HR, HeR⟩
    · isplitr; · iexact Hctx
      isplitl [HR]; · iexact HR
      iexact HzR
    imod (ag_rel X Wt Rf κ ιs false t ht h0 c _) $$ [HL HzL] with ⟨HL, HeL⟩
    · isplitr; · iexact Hctx
      isplitl [HL]; · iexact HL
      iexact HzL
    imodintro
    have hs := ag_sig X Wt Rf κ ιs t ht c Q
    rw [show Nat.ble 1 t = true by rw [Nat.ble_eq]; exact h0] at hs
    iapply hs $$ [HR HL HO]
    · isplitr; · iexact Hctx
      isplitl [HR]; · iexact HR
      isplitl [HL]; · iexact HL
      iexact HO
    iintro ⟨HR, HL, HO⟩
    iapply Hk
    isplitl [HR HtR HpR HdR HaR HxR HyR HeR]
    · isplitl [HR]; · iexact HR
      isplitl [HtR]; · iexact HtR
      isplitl [HpR]; · iexact HpR
      isplitl [HdR]; · iexact HdR
      isplitl [HaR]; · iexact HaR
      isplitl [HxR HyR]
      · isplitl [HxR]; · iexact HxR
        iexact HyR
      iexact HeR
    isplitl [HL HtL HpL HdL HaL HxL HyL HeL]
    · isplitl [HL]; · iexact HL
      isplitl [HtL]; · iexact HtL
      isplitl [HpL]; · iexact HpL
      isplitl [HdL]; · iexact HdL
      isplitl [HaL]; · iexact HaL
      isplitl [HxL HyL]
      · isplitl [HxL]; · iexact HxL
        iexact HyL
      iexact HeL
    iexact HO

end Cert.KernelIdeal.Proto

end

end
-- ==== Proof.Whole.lean ====
/-
# The whole body

The handshake, both loops and the last two waits of one device, from what it is given at launch to all its counters back at zero.
-/
module

public import proofs.«01_k».proof.Proof.Gather

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F)) (κ : Cl × Dev nD → ℕ) (ιs : Key → ℕ)

/-- A direction before the handshake. -/
def Pre (d : Bool) (c : Dev nD) : sProp 𝕄 :=
  iprop((Tok d c 0 ∗ SendPos d c 0 ∗ RecvPos d c 0 ∗ ReadPos d c 0
      ∗ (bigSep (Finset.Ico 0 60) fun k => dutyTok ER (cell (.cred d) (pv d c)) 0 k) ∗ Ccr d c 0)
    ∗ (Stok d c 0 ∗ StorePos d c 0 ∗ Sdone Rf d c 0)
    ∗ (slotsKnown d c 0 ∗ reached ER (cell (.cred d) c) 0) ∗ dutyTok ER (cell .bar (pv d c)) 0 (dutyOf d)
    ∗ (∃ v, Bf.pt (.acc d) c fullShare v) ∗ (∃ v, Bf.pt (.loc d) c fullShare v))

/-- A direction after the last wait. -/
def Done (d : Bool) (c : Dev nD) : sProp 𝕄 :=
  iprop(Core d c 62 62 62 60 60 60 ∗ StorePos d c 32 ∗ Sdone Rf d c 32
    ∗ (∃ v, Bf.pt (.acc d) c fullShare v) ∗ (∃ v, Bf.pt (.loc d) c fullShare v)
    ∗ (∃ v, Bf.pt (.slot d false) c fullShare v) ∗ (∃ v, Bf.pt (.slot d true) c fullShare v))

/-- A device before the first step of the reduce-scatter, with what the stores will want. -/
def Met (c : Dev nD) : sProp 𝕄 :=
  iprop(RSs X Wt c 0 ∗ (Stok true c 0 ∗ StorePos true c 0 ∗ Sdone Rf true c 0)
    ∗ (Stok false c 0 ∗ StorePos false c 0 ∗ Sdone Rf false c 0) ∗ atPos ER (cell .bar c) 1 ∅ 0)

/-- The handshake and the device's own products. -/
theorem pre_run (c : Dev nD) (Q : PUnit → sProp 𝕄) :
    iprop(ctx X Wt Rf κ ιs ∗ (reached ER (cell .bar (pv true c)) 0 ∗ reached ER (cell .bar (pv false c)) 0)
        ∗ Pre Rf true c ∗ Pre Rf false c ∗ atPos ER (cell .bar c) 0 ∅ 0 ∗ cred (tallyAt (cell .bar c) 1 2)
        ∗ xPt c (X c) ∗ wPt c (Wt c) ∗ owing c (due₀ c) : sProp 𝕄)
      ⊢ iprop((Met X Wt Rf c -∗ Q ⟨⟩) -∗ WP c (pre xM wM (fun d => nx d c) (offs c)) Q) := by
  have hM : (levAts L lv : sProp 𝕄) ⊢ MayWait (c : Thread nD τ) Cl.bar.sem 1 (due c 0 0 0 0) :=
    mayWait c .bar 1 (by omega) (by omega) (by omega) (fun _ => by decide) (fun _ => by decide)
  unfold pre Pre
  rw [wp_seq]
  iintro ⟨#Hctx, ⟨#HbR, #HbL⟩, ⟨⟨HtR, HsR, HrR, HnR, HcR, HqR⟩, HuR, ⟨#HkR, #HeR⟩, HdR, ⟨%aR, HaR⟩, HlR⟩,
    ⟨⟨HtL, HsL, HrL, HnL, HcL, HqL⟩, HuL, ⟨#HkL, #HeL⟩, HdL, ⟨%aL, HaL⟩, HlL⟩, Hat, Hcr, Hx, Hw, HO⟩ Hk
  iapply (e_bar X Wt Rf κ ιs true c (dueB c) _) $$ [HdR HO]
  · isplitr; · iexact Hctx
    isplitl [HO]; · iexact HO
    isplitl [HdR]; · iexact HdR
    isplitr; · iexact HkR
    isplitr; · iexact HeL
    iexact HbR
  iintro HO
  rw [wp_seq]
  iapply (e_bar X Wt Rf κ ιs false c (due c 0 0 0 0) _) $$ [HdL HO]
  · isplitr; · iexact Hctx
    isplitl [HO]; · iexact HO
    isplitl [HdL]; · iexact HdL
    isplitr; · iexact HkL
    isplitr; · iexact HeR
    iexact HbL
  iintro HO
  rw [wp_seq]
  ihave HM := ((ctx_lev X Wt Rf κ ιs).trans hM) $$ Hctx
  iapply (e_barwait X Wt Rf κ ιs c (due c 0 0 0 0) _) $$ [Hcr HO HM Hat]
  · isplitr; · iexact Hctx
    isplitl [Hcr]; · iexact Hcr
    isplitl [HO]; · iexact HO
    isplitl [HM]; · iexact HM
    iexact Hat
  iintro ⟨HO, Hat, ⟨#HyL, #HzR⟩, ⟨#HyR, #HzL⟩⟩
  rw [wp_both]
  iapply (e_dot (offs c).own true (.acc true) c aR (X c) (Wt c) _) $$ [Hx Hw HaR]
  · isplitl [Hx]; · iexact Hx
    isplitl [Hw]; · iexact Hw
    iexact HaR
  iintro ⟨Hx, Hw, HaR⟩
  iapply (e_dot (offs c).own false (.acc false) c aL (X c) (Wt c) _) $$ [Hx Hw HaL]
  · isplitl [Hx]; · iexact Hx
    isplitl [Hw]; · iexact Hw
    iexact HaL
  iintro ⟨Hx, Hw, HaL⟩
  iapply Hk
  unfold Met RSs RS Core Ctok
  isplitl [Hx Hw HtR HsR HrR HnR HcR HqR HaR HlR HtL HsL HrL HnL HcL HqL HaL HlL HO]
  · isplitl [Hx]; · iexact Hx
    isplitl [Hw]; · iexact Hw
    isplitl [HtR HsR HrR HnR HcR HqR HaR HlR]
    · isplitl [HtR HsR HrR HnR HcR HqR]
      · isplitl [HtR]; · iexact HtR
        isplitl [HsR]; · iexact HsR
        isplitl [HrR]; · iexact HrR
        isplitl [HnR]; · iexact HnR
        isplitl [HcR]
        · isplitl [HcR]; · iexact HcR
          iexact HzR
        iexact HqR
      isplitr; · iexact HyR
      isplitl [HaR]; · iexact HaR
      iexact HlR
    isplitl [HtL HsL HrL HnL HcL HqL HaL HlL]
    · isplitl [HtL HsL HrL HnL HcL HqL]
      · isplitl [HtL]; · iexact HtL
        isplitl [HsL]; · iexact HsL
        isplitl [HrL]; · iexact HrL
        isplitl [HnL]; · iexact HnL
        isplitl [HcL]
        · isplitl [HcL]; · iexact HcL
          iexact HzL
        iexact HqL
      isplitr; · iexact HyL
      isplitl [HaL]; · iexact HaL
      iexact HlL
    iexact HO
  isplitl [HuR]; · iexact HuR
  isplitl [HuL]; · iexact HuL
  iexact Hat

/-- Nothing is owed at the end. -/
theorem due_end (c : Dev nD) : due c 62 62 60 60 = 0 := by
  have h1 : ∀ d, sendDue d c 62 = 0 := fun d => by unfold sendDue; rw [Finset.Ico_self, Finset.sum_empty]
  have h2 : ∀ d, credDue d c 60 = 0 := fun d => by unfold credDue; rw [Finset.Ico_self, Finset.sum_empty]
  unfold due
  rw [h1, h1, h2, h2, add_zero, add_zero]

/-- The body after the words. -/
theorem main_run (hR : ResOk X Wt Rf) (c : Dev nD) (Q : PUnit → sProp 𝕄) :
    iprop(ctx X Wt Rf κ ιs ∗ (reached ER (cell .bar (pv true c)) 0 ∗ reached ER (cell .bar (pv false c)) 0)
        ∗ Pre Rf true c ∗ Pre Rf false c ∗ atPos ER (cell .bar c) 0 ∅ 0 ∗ cred (tallyAt (cell .bar c) 1 2)
        ∗ xPt c (X c) ∗ wPt c (Wt c) ∗ owing c (due₀ c) : sProp 𝕄)
      ⊢ iprop((Done Rf true c ∗ Done Rf false c ∗ atPos ER (cell .bar c) 1 ∅ 0 ∗ xPt c (X c) ∗ wPt c (Wt c) ∗ owing c 0 -∗ Q ⟨⟩)
          -∗ WP c (Steps.main xM wM (fun d => nx d c) (offs c)) Q) := by
  unfold Steps.main
  rw [wp_seq]
  iintro ⟨#Hctx, H⟩ Hk
  iapply (pre_run X Wt Rf κ ιs c _) $$ [H]
  · isplitr; · iexact Hctx
    iexact H
  unfold Met
  iintro ⟨H, HuR, HuL, Hat⟩
  iapply (wp_loop c _ (RSs X Wt c) (ctx X Wt Rf κ ιs) 31 (fun s hs Q => rs_step X Wt Rf κ ιs s hs c Q) _ _ 31 0 rfl) $$ [H]
  · isplitr; · iexact Hctx
    iexact H
  unfold RSs RS
  iintro ⟨Hx, Hw, ⟨HR, -, HaR, HlR⟩, ⟨HL, -, HaL, HlL⟩, HO⟩
  rw [wp_seq]
  iapply (mid_step X Wt Rf κ ιs hR c _) $$ [HR HaR HuR HL HaL HuL HO]
  · isplitr; · iexact Hctx
    isplitl [HR HaR HuR]
    · isplitl [HR HaR]
      · isplitl [HR]; · iexact HR
        iexact HaR
      iexact HuR
    isplitl [HL HaL HuL]
    · isplitl [HL HaL]
      · isplitl [HL]; · iexact HL
        iexact HaL
      iexact HuL
    iexact HO
  iintro H
  iapply (wp_loop c _ (AGs X Wt Rf c) (ctx X Wt Rf κ ιs) 31 (fun t ht Q => ag_step X Wt Rf κ ιs hR t ht c Q) _ _ 31 0 rfl) $$ [H]
  · isplitr; · iexact Hctx
    iexact H
  unfold AGs AG Hand Ex
  rw [if_neg (by decide), if_pos rfl, if_neg (by decide), if_pos rfl]
  iintro ⟨⟨HR, -, HpR, HdR, HaR, ⟨HqR, HzR⟩, HeR⟩, ⟨HL, -, HpL, HdL, HaL, ⟨HqL, HzL⟩, HeL⟩, HO⟩
  rw [wp_both]
  iapply (c_waitPut X Wt Rf κ ιs true 31 (by omega) c (.slot true false) rfl false rfl fullShare.left rfl _ rfl _ (mayWait0 c _)) $$ [HpR HdR HzR HO]
  · isplitr; · iexact Hctx
    isplitl [HpR]; · iexact HpR
    isplitl [HdR]; · iexact HdR
    isplitl [HzR]; · iexact HzR
    iexact HO
  iintro ⟨HpR, HdR, HzR, HO⟩
  iapply (c_waitPut X Wt Rf κ ιs false 31 (by omega) c (.slot false false) rfl false rfl fullShare.left rfl _ rfl _ (mayWait0 c _)) $$ [HpL HdL HzL HO]
  · isplitr; · iexact Hctx
    isplitl [HpL]; · iexact HpL
    isplitl [HdL]; · iexact HdL
    isplitl [HzL]; · iexact HzL
    iexact HO
  iintro ⟨HpL, HdL, HzL, HO⟩
  ihave HzR := (pt_halves _ c _).2 $$ [HzR HqR]
  · isplitl [HzR]; · iexact HzR
    iexact HqR
  ihave HzL := (pt_halves _ c _).2 $$ [HzL HqL]
  · isplitl [HzL]; · iexact HzL
    iexact HqL
  rw [show due c (31 + 31) (31 + 31) (bb 31) (bb 31) = 0 from due_end c]
  iapply Hk
  unfold Done
  isplitl [HR HpR HdR HaR HlR HzR HeR]
  · isplitl [HR]; · iexact HR
    isplitl [HpR]; · iexact HpR
    isplitl [HdR]; · iexact HdR
    isplitl [HaR]; · iexists _; iexact HaR
    isplitl [HlR]; · iexact HlR
    isplitl [HzR]; · iexists _; iexact HzR
    iexact HeR
  isplitl [HL HpL HdL HaL HlL HzL HeL]
  · isplitl [HL]; · iexact HL
    isplitl [HpL]; · iexact HpL
    isplitl [HdL]; · iexact HdL
    isplitl [HaL]; · iexists _; iexact HaL
    isplitl [HlL]; · iexact HlL
    isplitl [HzL]; · iexists _; iexact HzL
    iexact HeL
  isplitl [Hat]; · iexact Hat
  isplitl [Hx]; · iexact Hx
  isplitl [Hw]; · iexact Hw
  iexact HO

end Cert.KernelIdeal.Proto

end

end
-- ==== Proof.Edges.lean ====
/-
# The edges of the body

What a device is given at launch and at the call's entry makes up its first state; its last state gives the counters back at zero.
-/
module

public import proofs.«01_k».proof.Proof.Whole

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (X : Dev nD → (cc0_stg1_0 : Ref sig .tc).ty.Contents (Elt F))
  (Wt : Dev nD → (cc0_stg2_0 : Ref sig .tc).ty.Contents (Elt F))
  (Rf : (main_v24 : Ref sig .tc).ty.Contents (Elt F)) (κ : Cl × Dev nD → ℕ) (ιs : Key → ℕ)

/-- What the launch deals a device for a direction. -/
def StartD (d : Bool) (c : Dev nD) : sProp 𝕄 :=
  iprop(Tok d c 0 ∗ (bigSep (Finset.Ico 0 62) fun j => cred (tallyAt (cell (.recv d (sl j)) c) (2 * j + 2) NN))
    ∗ (readerAt ES (c, d, false) 0 ∗ readerAt ES (c, d, true) 0)
    ∗ (bigSep (Finset.Ico 0 60) fun k => dutyTok ER (cell (.cred d) (pv d c)) 0 k)
    ∗ (bigSep (Finset.Ico 0 60) fun k => cred (tallyAt (cell (.cred d) c) (ci k) 1))
    ∗ (bigSep (Finset.Ico 0 32) fun u => dutyTok ER (cell (.store d (stP u)) c) (stR u) 0)
    ∗ dutyTok ER (cell .bar (pv d c)) 0 (dutyOf d))

/-- A cell just opened. -/
def posn (k : Cl) (c : Dev nD) : sProp 𝕄 := iprop(atPos ER (cell k c) 0 ∅ 0 ∗ reached ER (cell k c) 0)
/-- A direction's cells just opened. -/
def Posn (d : Bool) (c : Dev nD) : sProp 𝕄 :=
  iprop(posn (.cred d) c ∗ posn (.send d) c ∗ posn (.recv d false) c ∗ posn (.recv d true) c
    ∗ posn (.store d false) c ∗ posn (.store d true) c)
/-- A direction's counters at zero. -/
def Zero (d : Bool) (c : Dev nD) : sProp 𝕄 :=
  iprop(semVal (cell (.cred d) c) 0 ∗ semVal (cell (.send d) c) 0 ∗ semVal (cell (.recv d false) c) 0
    ∗ semVal (cell (.recv d true) c) 0 ∗ semVal (cell (.store d false) c) 0 ∗ semVal (cell (.store d true) c) 0)
/-- A direction's scratch buffers, whatever they hold. -/
def Bufs (d : Bool) (c : Dev nD) : sProp 𝕄 :=
  iprop((∃ v, Bf.pt (.loc d) c fullShare v) ∗ (∃ v, Bf.pt (.acc d) c fullShare v)
    ∗ (∃ v, Bf.pt (.slot d false) c fullShare v) ∗ (∃ v, Bf.pt (.slot d true) c fullShare v))
/-- A direction's blocks of the result, whatever they hold. -/
def Outb (d : Bool) (c : Dev nD) : sProp 𝕄 := bigSep (Finset.Ico 0 32) fun u => iprop(∃ f, oPt d u c f)

/-- A direction's first state, its slots given to the neighbour. -/
theorem start_dir (d : Bool) (c : Dev nD) :
    iprop(ctx X Wt Rf κ ιs ∗ StartD d c ∗ Posn d c ∗ Bufs d c ∗ Outb d c : sProp 𝕄) ⊢ iprop(|={Set.univ}=> Pre Rf d c) := by
  unfold StartD Posn posn Bufs Outb
  iintro ⟨#Hctx, ⟨Ht, Hr, ⟨HnF, HnT⟩, Hct, Hcc, Hst, Hb⟩, ⟨⟨HaC, #HeC⟩, ⟨HaS, #HeS⟩, ⟨HaF, #HeF⟩, ⟨HaT, #HeT⟩, ⟨HsF, #HfF⟩, ⟨HsT, #HfT⟩⟩,
    ⟨Hl, Ha, ⟨%vF, HvF⟩, ⟨%vT, HvT⟩⟩, Ho⟩
  imod (e_release X Wt Rf κ ιs d false c vF 0) $$ [HnF HvF] with ⟨HnF, #HkF⟩
  · isplitr; · iexact Hctx
    isplitl [HnF]; · iexact HnF
    iexact HvF
  imod (e_release X Wt Rf κ ιs d true c vT 0) $$ [HnT HvT] with ⟨HnT, #HkT⟩
  · isplitr; · iexact Hctx
    isplitl [HnT]; · iexact HnT
    iexact HvT
  imodintro
  unfold Pre SendPos RecvPos ReadPos Ccr credPos Stok StorePos Sdone slotsKnown
  isplitl [Ht Hr HnF HnT Hct Hcc HaC HaS HaF HaT]
  · isplitl [Ht]; · iexact Ht
    isplitl [HaS]
    · isplitl [HaS]; · iexact HaS
      iexact HeS
    isplitl [Hr HaF HaT]
    · isplitl [Hr]; · iexact Hr
      isplitl [HaF]
      · isplitl [HaF]; · iexact HaF
        iexact HeF
      isplitl [HaT]; · iexact HaT
      iexact HeT
    isplitl [HnF HnT]
    · isplitl [HnF]
      · isplitl [HnF]; · iexact HnF
        iexact HkF
      isplitl [HnT]; · iexact HnT
      iexact HkT
    isplitl [Hct]; · iexact Hct
    isplitl [Hcc]; · iexact Hcc
    iexists ∅
    isplitr; · ipureintro; exact ⟨Finset.empty_subset _, Nat.zero_le _⟩
    isplitl [HaC]; · iexact HaC
    rw [bigSep_empty]; iempintro
  isplitl [Hst HsF HsT Ho]
  · isplitl [Hst Ho]
    · rw [bigSep_sep']
      isplitl [Hst]; · iexact Hst
      iexact Ho
    isplitl [HsF HsT]
    · isplitl [HsF]
      · isplitl [HsF]; · iexact HsF
        iexact HfF
      isplitl [HsT]; · iexact HsT
      iexact HfT
    rw [Finset.range_zero, bigSep_empty]; iempintro
  isplitr
  · isplitr
    · isplitr
      · isplitr; · iexact HkF
        iexact HeF
      isplitr; · iexact HkT
      iexact HeT
    iexact HeC
  isplitl [Hb]; · iexact Hb
  isplitl [Ha]; · iexact Ha
  iexact Hl

/-- A cell past its last round gives its counter back. -/
theorem close (k : Cl) (c : Dev nD) (R : ℕ) (h : ∀ r, R ≤ r → dutiesC k r = ∅) :
    iprop(ctx X Wt Rf κ ιs ∗ atPos ER (cell k c) R ∅ 0 : sProp 𝕄) ⊢ iprop(|={Set.univ}=> semVal (cell k c) 0) := by
  iintro ⟨#Hctx, Hat⟩
  iapply (Rounds.cell_close ER (ringRd X Wt Rf) (g := cell k c) (κ := κ (k, c)) (Set.mem_univ _) id (R := R)
    (fun r hr => (duties_eq X Wt Rf k c r).trans (h r hr)))
  isplitr; · iapply (ctx_cell X Wt Rf κ ιs k c); iexact Hctx
  iexact Hat

/-- The credit cell, all its credits taken, gives its counter back. -/
theorem close_cred (d : Bool) (c : Dev nD) :
    iprop(ctx X Wt Rf κ ιs ∗ credPos d c 60 : sProp 𝕄) ⊢ iprop(|={Set.univ}=> semVal (cell (.cred d) c) 0) := by
  unfold credPos
  iintro ⟨#Hctx, ⟨%S, %hS, Hat, -⟩⟩
  have hSe : S = Finset.range 60 := Finset.eq_of_subset_of_card_le hS.1 (by rw [Finset.card_range]; exact hS.2)
  have hd : (ringRd (F := F) X Wt Rf).duties (cell (.cred d) c) 0 = Finset.range 60 :=
    (duties_eq X Wt Rf (.cred d) c 0).trans (duties_cred d)
  have he : (ringRd (F := F) X Wt Rf).expect (cell (.cred d) c) 0 = 60 := by
    have h := expect_eq X Wt Rf (.cred d) c 0
    rw [duties_cred, Finset.card_range] at h
    exact h
  imod (Rounds.fupd_skip ER (ringRd X Wt Rf) (g := cell (.cred d) c) (κ := κ (.cred d, c)) (R := 0) (m := 60) (T := S)
    (by rw [hd, hSe]) he.symm (Set.mem_univ _)) $$ [Hat] with ⟨Hat, -⟩
  · isplitr; · iapply (ctx_cell X Wt Rf κ ιs (.cred d) c); iexact Hctx
    iexact Hat
  iapply (close X Wt Rf κ ιs (.cred d) c 1 (fun r hr => by rw [dutiesC, if_neg (by omega)]))
  isplitr; · iexact Hctx
  iexact Hat

/-- A direction's last state gives back its buffers and its counters. -/
theorem end_dir (d : Bool) (c : Dev nD) :
    iprop(ctx X Wt Rf κ ιs ∗ Done Rf d c : sProp 𝕄) ⊢ iprop(|={Set.univ}=> (Bufs d c ∗ Sdone Rf d c 32 ∗ Zero d c)) := by
  unfold Done Core SendPos RecvPos Ccr StorePos Bufs Zero
  iintro ⟨#Hctx, ⟨-, ⟨HaS, -⟩, ⟨-, ⟨HaF, -⟩, ⟨HaT, -⟩⟩, -, -, -, HaC⟩, ⟨⟨HsF, -⟩, ⟨HsT, -⟩⟩, Hd, Ha, Hl, HvF, HvT⟩
  imod (close_cred X Wt Rf κ ιs d c) $$ [HaC] with HaC
  · isplitr; · iexact Hctx
    iexact HaC
  imod (close X Wt Rf κ ιs (.send d) c 62 (fun r hr => by rw [dutiesC, if_neg (by omega)])) $$ [HaS] with HaS
  · isplitr; · iexact Hctx
    iexact HaS
  imod (close X Wt Rf κ ιs (.recv d false) c (cnt false 62) (fun r hr => by rw [cnt_end] at hr; rw [dutiesC, if_neg (by omega)])) $$ [HaF] with HaF
  · isplitr; · iexact Hctx
    iexact HaF
  imod (close X Wt Rf κ ιs (.recv d true) c (cnt true 62) (fun r hr => by rw [cnt_end] at hr; rw [dutiesC, if_neg (by omega)])) $$ [HaT] with HaT
  · isplitr; · iexact Hctx
    iexact HaT
  imod (close X Wt Rf κ ιs (.store d false) c (scnt false 32) (fun r hr => by rw [scnt_end] at hr; rw [dutiesC, if_neg (by omega)])) $$ [HsF] with HsF
  · isplitr; · iexact Hctx
    iexact HsF
  imod (close X Wt Rf κ ιs (.store d true) c (scnt true 32) (fun r hr => by rw [scnt_end] at hr; rw [dutiesC, if_neg (by omega)])) $$ [HsT] with HsT
  · isplitr; · iexact Hctx
    iexact HsT
  imodintro
  isplitl [Ha Hl HvF HvT]
  · isplitl [Hl]; · iexact Hl
    isplitl [Ha]; · iexact Ha
    isplitl [HvF]; · iexact HvF
    iexact HvT
  isplitl [Hd]; · iexact Hd
  isplitl [HaC]; · iexact HaC
  isplitl [HaS]; · iexact HaS
  isplitl [HaF]; · iexact HaF
  isplitl [HaT]; · iexact HaT
  isplitl [HsF]; · iexact HsF
  iexact HsT

end Cert.KernelIdeal.Proto

end

end
-- ==== Proof.Tiles.lean ====
/-
# The result as sixty-four blocks

Which rows and columns a device's blocks are, that they cut the result into disjoint pieces, and what the result
holds: the block of direction `d` and chunk `k` is the reduced chunk of one device, the same from wherever it is read.
-/
module

public import proofs.«01_k».proof.Proof.Edges
public import Idealize.ShloMosaic.Lib.Pipeline.ValueKit.Geometry

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

/-! ## Chunks -/

/-- The step back along a direction, as a number of positions. -/
def back (d : Bool) : ℕ := bif d then 31 else 1
/-- The chunk a device at position `p` stores as its `u`-th in direction `d`. -/
def chunk (d : Bool) (u p : ℕ) : ℕ := (p + bif d then 33 - u else 31 + u) % 32
/-- The chunk of rows step `s` multiplies at position `p`. -/
def chunkX (d : Bool) (s p : ℕ) : ℕ := (p + bif d then 31 - s else 1 + s) % 32

theorem o_row : ∀ (d : Bool) (u : Fin 32) (c : Dev nD), ((offs c).o d u.val).1 0 = 256 * chunk d u.val (posN c) := by
  decide +kernel
theorem o_col : ∀ (d : Bool) (u : Fin 32) (c : Dev nD), ((offs c).o d u.val).1 1 = bif d then 0 else 2048 := by
  decide +kernel
theorem x_row : ∀ (d : Bool) (s : Fin 31) (c : Dev nD), ((offs c).x d s.val).1 0 = 256 * chunkX d s.val (posN c) := by
  decide +kernel
theorem x_col : ∀ (d : Bool) (s : Fin 31) (c : Dev nD), ((offs c).x d s.val).1 1 = 0 := by
  decide +kernel
theorem own_row : ∀ c : Dev nD, (offs c).own.1 0 = 256 * posN c := by decide +kernel
theorem own_col : ∀ c : Dev nD, (offs c).own.1 1 = 0 := by decide +kernel

theorem chunk_inj (d : Bool) {u u' p : ℕ} (hu : u < 32) (hu' : u' < 32) (h : chunk d u p = chunk d u' p) : u = u' := by
  cases d <;> simp only [chunk, cond_true, cond_false] at h <;> omega
/-- Every chunk is stored. -/
theorem chunk_surj (d : Bool) (p k : ℕ) (hk : k < 32) (hp : p < 32) : ∃ u, u < 32 ∧ chunk d u p = k := by
  cases d
  · exact ⟨(k + 33 - p) % 32, Nat.mod_lt _ (by decide), by simp only [chunk, cond_false]; omega⟩
  · exact ⟨(p + 33 - k) % 32, Nat.mod_lt _ (by decide), by simp only [chunk, cond_true]; omega⟩

/-- The device at a position. -/
def devAt (q : ℕ) : Dev nD := ⟨posT.idxOf q % 32, Nat.mod_lt _ (by decide)⟩
theorem devAt_pos : ∀ c : Dev nD, devAt (posN c) = c := by decide +kernel
theorem pos_devAt : ∀ q : Fin 32, posN (devAt q.val) = q.val := by decide +kernel
/-- The device that ends the reduction of a chunk. -/
def last (d : Bool) (k : ℕ) : Dev nD := devAt ((k + back d) % 32)

theorem pos_pv (d : Bool) (c : Dev nD) : posN (pv d c) = (posN c + back d) % 32 := by
  rw [pos_nx]; cases d <;> rfl

section Contents

variable (X : Dev nD → (cc0_stg1_0 : Ref sig .tc).ty.Contents (Elt F))
  (Wt : Dev nD → (cc0_stg2_0 : Ref sig .tc).ty.Contents (Elt F))

/-- What a device stores as its `u`-th chunk is the reduced chunk of the device that ended its reduction. -/
theorem gat_last (d : Bool) (u : ℕ) (hu : u < 32) (c : Dev nD) :
    gat X Wt d u c = reluV (acc X Wt d 31 (last d (chunk d u (posN c)))) := by
  induction u generalizing c with
  | zero =>
    have h : (chunk d 0 (posN c) + back d) % 32 = posN c := by
      have := pos_lt c
      cases d <;> simp only [chunk, back, cond_true, cond_false] <;> omega
    rw [last, h, devAt_pos, gat]
  | succ u ih =>
    have h : chunk d u (posN (pv d c)) = chunk d (u + 1) (posN c) := by
      rw [pos_pv]
      cases d <;> simp only [chunk, back, cond_true, cond_false] <;> omega
    rw [gat, ih (by omega), h]

/-- An index of the result, within its block. -/
def inBlk (i : S8192x4096.Idx) : S256x2048.Idx :=
  fun a => ⟨(i a).val % S256x2048.size a, Nat.mod_lt _ (by revert a; decide)⟩

/-- The result. -/
def res : (main_v24 : Ref sig .tc).ty.Contents (Elt F) := fun (i : S8192x4096.Idx) =>
  reluV (acc X Wt (Nat.blt (i 1).val 2048) 31 (last (Nat.blt (i 1).val 2048) ((i 0).val / 256))) (inBlk i)

/-- Every block of the result holds the chunk stored there. -/
theorem res_ok : ResOk X Wt (res X Wt) := by
  intro d u c hu
  funext x
  obtain ⟨i, hi⟩ : ∃ i : S8192x4096.Idx, i = (oMem ((offs c).o d u)).view.emb x := ⟨_, rfl⟩
  have e0 : (i 0).val = ((offs c).o d u).1 0 + (x 0).val :=
    (congrArg (fun j : S8192x4096.Idx => (j 0).val) hi).trans
      (ValueKit.view_emb_slice_whole_unit_val main_v24 _ _ ((offs c).o d u).2 x (0 : Fin 2))
  have e1 : (i 1).val = ((offs c).o d u).1 1 + (x 1).val :=
    (congrArg (fun j : S8192x4096.Idx => (j 1).val) hi).trans
      (ValueKit.view_emb_slice_whole_unit_val main_v24 _ _ ((offs c).o d u).2 x (1 : Fin 2))
  rw [o_row d ⟨u, hu⟩ c] at e0
  rw [o_col d ⟨u, hu⟩ c] at e1
  have l0 : (x 0).val < 256 := (x 0).isLt
  have l1 : (x 1).val < 2048 := (x 1).isLt
  rw [gat_last X Wt d u hu c]
  show res X Wt ((oMem ((offs c).o d u)).view.emb x) = _
  rw [← hi]
  have hd : Nat.blt (i 1).val 2048 = d := by
    cases d
    · rw [cond_false] at e1; rw [← Bool.not_eq_true, Nat.blt_eq]; omega
    · rw [cond_true] at e1; rw [Nat.blt_eq]; omega
  have hk : (i 0).val / 256 = chunk d u (posN c) := by dsimp only at e0; omega
  have hx : inBlk i = x := by
    refine funext (Fin.forall_fin_two.mpr ⟨Fin.ext ?_, Fin.ext ?_⟩)
    · show (i 0).val % 256 = _; dsimp only at e0; omega
    · show (i 1).val % 2048 = _; cases d <;> simp only [cond_true, cond_false] at e1 <;> omega
  show reluV (acc X Wt (Nat.blt (i 1).val 2048) 31 (last (Nat.blt (i 1).val 2048) ((i 0).val / 256))) (inBlk i) = _
  rw [hd, hk, hx]

end Contents

/-! ## The cut -/

/-- The elements of a block. -/
abbrev blk (c : Dev nD) (d : Bool) (u : ℕ) : Finset S8192x4096.Idx := (oMem ((offs c).o d u)).view.set

theorem mem_blk (c : Dev nD) (d : Bool) (u : ℕ) (hu : u < 32) (i : S8192x4096.Idx) :
    i ∈ blk c d u ↔ (i 0).val / 256 = chunk d u (posN c) ∧ Nat.blt (i 1).val 2048 = d := by
  refine (ValueKit.mem_set_slice_whole_iff main_v24 _ i Rect.mem_set_unit).trans ?_
  have h0 := o_row d ⟨u, hu⟩ c
  have h1 := o_col d ⟨u, hu⟩ c
  have l1 : (i 1).val < 4096 := (i 1).isLt
  dsimp only at h0 h1
  refine Fin.forall_fin_two.trans (and_congr ?_ ?_)
  · show ((offs c).o d u).1 0 ≤ (i 0).val ∧ (i 0).val < ((offs c).o d u).1 0 + 256 ↔ _
    rw [h0]; omega
  · show ((offs c).o d u).1 1 ≤ (i 1).val ∧ (i 1).val < ((offs c).o d u).1 1 + 2048 ↔ _
    rw [h1]
    cases d
    · rw [← Bool.not_eq_true, Nat.blt_eq, cond_false]; omega
    · rw [Nat.blt_eq, cond_true]; omega

theorem blk_disjoint (c : Dev nD) (d : Bool) : ∀ u ∈ Finset.range 32, ∀ u' ∈ Finset.range 32, u ≠ u' →
    Disjoint (blk c d u) (blk c d u') := by
  intro u hu u' hu' hne
  rw [Finset.mem_range] at hu hu'
  refine Finset.disjoint_left.mpr fun i hi hi' => hne (chunk_inj (p := posN c) d hu hu' ?_)
  exact (((mem_blk c d u hu i).mp hi).1.symm).trans ((mem_blk c d u' hu' i).mp hi').1

theorem dir_disjoint (c : Dev nD) : Disjoint ((Finset.range 32).biUnion (blk c true)) ((Finset.range 32).biUnion (blk c false)) := by
  refine Finset.disjoint_left.mpr fun i hi hi' => ?_
  obtain ⟨u, hu, hi⟩ := Finset.mem_biUnion.mp hi
  obtain ⟨u', hu', hi'⟩ := Finset.mem_biUnion.mp hi'
  exact Bool.false_ne_true (((mem_blk c false u' (Finset.mem_range.mp hu') i).mp hi').2.symm.trans
    ((mem_blk c true u (Finset.mem_range.mp hu) i).mp hi).2)

theorem blk_cover (c : Dev nD) :
    (Finset.range 32).biUnion (blk c true) ∪ (Finset.range 32).biUnion (blk c false) = Finset.univ := by
  refine Finset.eq_univ_iff_forall.mpr fun i => ?_
  have l0 : (i 0).val < 8192 := (i 0).isLt
  have h : ∀ d, Nat.blt (i 1).val 2048 = d → i ∈ (Finset.range 32).biUnion (blk c d) := by
    intro d hd
    obtain ⟨u, hu, h⟩ := chunk_surj d (posN c) ((i 0).val / 256) (by omega) (pos_lt c)
    exact Finset.mem_biUnion.mpr ⟨u, Finset.mem_range.mpr hu, (mem_blk c d u hu i).mpr ⟨h.symm, hd⟩⟩
  cases hd : Nat.blt (i 1).val 2048
  · exact Finset.mem_union_right _ (h _ hd)
  · exact Finset.mem_union_left _ (h _ hd)

/-- The result held whole is its blocks, direction by direction. -/
theorem whole_blocks (c : Dev nD) (f : (main_v24 : Ref sig .tc).ty.Contents (Elt F)) :
    (((c : Thread nD τ).loc main_v24) ↦{fullShare} f : sProp 𝕄)
      ⊣⊢ iprop(bigSep (Finset.range 32) (fun u => oPt true u c f) ∗ bigSep (Finset.range 32) (fun u => oPt false u c f)) := by
  have hb : ∀ d, (((c : Thread nD τ).loc main_v24) ↦[(Finset.range 32).biUnion (blk c d)]{fullShare} f : sProp 𝕄)
      = bigSep (Finset.range 32) (fun u => oPt d u c f) := fun d =>
    pointsTo_biUnion (ℓ := (c : Thread nD τ).loc main_v24) (Finset.range 32) (blk c d) (blk_disjoint c d)
  rw [← hb, ← hb]
  have hu := pointsTo_union (Ix := ℕ) (Name := ℕ) (U := UU) (Lvl := ℕ) (ℓ := (c : Thread nD τ).loc main_v24) (q := fullShare) (f := f) (dir_disjoint c)
  rw [blk_cover c] at hu
  exact hu

theorem outb_of_whole (c : Dev nD) (f : (main_v24 : Ref sig .tc).ty.Contents (Elt F)) :
    (((c : Thread nD τ).loc main_v24) ↦{fullShare} f : sProp 𝕄) ⊢ iprop(Outb true c ∗ Outb false c) := by
  refine (whole_blocks c f).1.trans ?_
  have h : ∀ d, (bigSep (Finset.range 32) (fun u => oPt d u c f) : sProp 𝕄) ⊢ Outb d c := fun d => by
    rw [Outb, ← Finset.range_eq_Ico]
    refine bigSep_mono fun u _ => ?_
    show (oPt d u c f : sProp 𝕄) ⊢ iprop(∃ f, oPt d u c f)
    iintro H; iexists f; iexact H
  exact BI.sep_mono (h true) (h false)

theorem whole_of_done (Rf : (main_v24 : Ref sig .tc).ty.Contents (Elt F)) (c : Dev nD) :
    iprop(Sdone Rf true c 32 ∗ Sdone Rf false c 32 : sProp 𝕄) ⊢ (((c : Thread nD τ).loc main_v24) ↦{fullShare} Rf) :=
  (whole_blocks c Rf).2

end Cert.KernelIdeal.Proto

end

end
-- ==== Proof.Words.lean ====
/-
# The words the host computes

The three words of a device the host hands to the kernel: its position on the ring and its two neighbours.
-/
module

public import proofs.«01_k».proof.Proof.Tiles
public import proofs.«01_k».proof.Proof.Gen.KernelIdeal.Regions
public import Idealize.ShloMosaic.Lib.StableHlo.RunRead

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

/-- The device's number, as the host reads it back. -/
def ixW (w : BitVec 32) : IVec S_ 32 :=
  let v : IVec S_ 32 := Host.remui (Host.divui (constantI S_ 32 w) (constantI S_ 32 1#32)) (constantI S_ 32 32#32)
  select (cmpi .slt v (constantI S_ 32 0#32)) (addi v (constantI S_ 32 32#32)) v
/-- An entry of a table of words at that number. -/
def pickW (t : IVec S32 32) (w : BitVec 32) : IVec S1 32 :=
  broadcastInDim S1 ![] bcast_S_S1 (shapeCast S_ (Host.dynamicSlice S1 t (fun _ => (ixW w (Shape.Idx.first h_S_)).toInt) sliceFits_S32_S1) shapeCasts_S1_S_)

/-- The position, as the host leaves it. -/
theorem pick0 (m : (ℓ : Loc nD τ sig) → Buf (Elt F) ℓ) (c : Dev nD) :
    StableHlo.after (hostOps0 c) (fun b => m (c, b)) (Proc.devRef .tc main_v20) = pickW (fun i => lit0 (S32.rowMajor i)) (Dev.word c) := by
  after_reads_simp
  refine congrArg (fun s => broadcastInDim S1 ![] bcast_S_S1 (shapeCast S_ (Host.dynamicSlice S1 (fun i => lit0 (S32.rowMajor i)) s
    sliceFits_S32_S1) shapeCasts_S1_S_)) (funext fun k => ?_)
  obtain rfl : k = 0 := Subsingleton.elim _ _
  show BitVec.toInt (StableHlo.upto (hostOps0 c) (fun b => m (c, b)) 14 (Proc.tc.devRef main_v7) (Shape.Idx.first h_S_)) = _
  after_reads_simp
  rfl

/-- The successor. -/
theorem pick1 (m : (ℓ : Loc nD τ sig) → Buf (Elt F) ℓ) (c : Dev nD) :
    StableHlo.after (hostOps0 c) (fun b => m (c, b)) (Proc.devRef .tc main_v21) = pickW (fun i => lit1 (S32.rowMajor i)) (Dev.word c) := by
  after_reads_simp
  refine congrArg (fun s => broadcastInDim S1 ![] bcast_S_S1 (shapeCast S_ (Host.dynamicSlice S1 (fun i => lit1 (S32.rowMajor i)) s
    sliceFits_S32_S1) shapeCasts_S1_S_)) (funext fun k => ?_)
  obtain rfl : k = 0 := Subsingleton.elim _ _
  show BitVec.toInt (StableHlo.upto (hostOps0 c) (fun b => m (c, b)) 21 (Proc.tc.devRef main_v12) (Shape.Idx.first h_S_)) = _
  after_reads_simp
  rfl

/-- The predecessor. -/
theorem pick2 (m : (ℓ : Loc nD τ sig) → Buf (Elt F) ℓ) (c : Dev nD) :
    StableHlo.after (hostOps0 c) (fun b => m (c, b)) (Proc.devRef .tc main_v22) = pickW (fun i => lit2 (S32.rowMajor i)) (Dev.word c) := by
  after_reads_simp
  refine congrArg (fun s => broadcastInDim S1 ![] bcast_S_S1 (shapeCast S_ (Host.dynamicSlice S1 (fun i => lit2 (S32.rowMajor i)) s
    sliceFits_S32_S1) shapeCasts_S1_S_)) (funext fun k => ?_)
  obtain rfl : k = 0 := Subsingleton.elim _ _
  show BitVec.toInt (StableHlo.upto (hostOps0 c) (fun b => m (c, b)) 28 (Proc.tc.devRef main_v17) (Shape.Idx.first h_S_)) = _
  after_reads_simp
  rfl

/-- The three words of a device. -/
def w3 (c : Dev nD) : IVec S3 32 :=
  concatenate S3 0 [⟨S1, pickW (fun i => lit0 (S32.rowMajor i)) (Dev.word c)⟩, ⟨S1, pickW (fun i => lit1 (S32.rowMajor i)) (Dev.word c)⟩,
    ⟨S1, pickW (fun i => lit2 (S32.rowMajor i)) (Dev.word c)⟩] concatenates_S1_S1_S1_S3_d0

set_option maxHeartbeats 4000000 in
theorem words_eq (m : (ℓ : Loc nD τ sig) → Buf (Elt F) ℓ) (c : Dev nD) :
    StableHlo.after (hostOps0 c) (fun b => m (c, b)) (Proc.devRef .tc main_v23) = w3 c := by
  have h : StableHlo.after (hostOps0 c) (fun b => m (c, b)) (Proc.devRef .tc main_v23)
      = concatenate S3 0 [⟨S1, StableHlo.after (hostOps0 c) (fun b => m (c, b)) (Proc.devRef .tc main_v20)⟩,
          ⟨S1, StableHlo.after (hostOps0 c) (fun b => m (c, b)) (Proc.devRef .tc main_v21)⟩,
          ⟨S1, StableHlo.after (hostOps0 c) (fun b => m (c, b)) (Proc.devRef .tc main_v22)⟩] concatenates_S1_S1_S1_S3_d0 := by
    refine (StableHlo.after_last_write (ops := (hostOps0 c : List (HloOp τ sig (Elt F)))) (i := 33) [] rfl rfl (by decide) _).trans ?_
    refine (StableHlo.nary_result ..).trans ?_
    refine congrArg₂ (fun (a : IVec S1 32) (p : IVec S1 32 × IVec S1 32) => concatenate S3 0 [⟨S1, a⟩, ⟨S1, p.1⟩, ⟨S1, p.2⟩] concatenates_S1_S1_S1_S3_d0)
      ?_ (congrArg₂ Prod.mk ?_ ?_)
    · exact (StableHlo.upto_last_write (ops := (hostOps0 c : List (HloOp τ sig (Elt F)))) (n := 33) (i := 30) (r := main_v20) [main_v21, main_v22] rfl rfl (by decide) _).trans
        (StableHlo.after_last_write (ops := (hostOps0 c : List (HloOp τ sig (Elt F)))) (i := 30) (r := main_v20) [main_v21, main_v22, main_v23] rfl rfl (by decide) _).symm
    · exact (StableHlo.upto_last_write (ops := (hostOps0 c : List (HloOp τ sig (Elt F)))) (n := 33) (i := 31) (r := main_v21) [main_v22] rfl rfl (by decide) _).trans
        (StableHlo.after_last_write (ops := (hostOps0 c : List (HloOp τ sig (Elt F)))) (i := 31) (r := main_v21) [main_v22, main_v23] rfl rfl (by decide) _).symm
    · exact (StableHlo.upto_last_write (ops := (hostOps0 c : List (HloOp τ sig (Elt F)))) (n := 33) (i := 32) (r := main_v22) [] rfl rfl (by decide) _).trans
        (StableHlo.after_last_write (ops := (hostOps0 c : List (HloOp τ sig (Elt F)))) (i := 32) (r := main_v22) [main_v23] rfl rfl (by decide) _).symm
  refine h.trans ?_
  rw [pick0, pick1, pick2]
  rfl

/-- An index of the words. -/
def ix3 (k : Fin 3) : S3.Idx := fun a => ⟨k.val % S3.size a, Nat.mod_lt _ (by revert a; decide)⟩

theorem w3_pos : ∀ c : Dev nD, w3 c (ix3 0) = posW c := by decide +kernel
theorem w3_suc : ∀ c : Dev nD, w3 c (ix3 1) = BitVec.ofNat 32 (nx true c).val := by decide +kernel
theorem w3_pre : ∀ c : Dev nD, w3 c (ix3 2) = BitVec.ofNat 32 (nx false c).val := by decide +kernel

/-- The words name the neighbours, and their side conditions hold. -/
theorem chk2 (c : Dev nD) : k0_chk2 (BitVec.ofNat 32 (nx true c).val) := by
  have h : ∀ c : Dev nD, @Decidable.decide (k0_chk2 (BitVec.ofNat 32 c.val)) (k0_chk2.dec _) = true := by decide +kernel
  exact @of_decide_eq_true _ (k0_chk2.dec _) (h _)
theorem chk1 (c : Dev nD) : k0_chk1 (BitVec.ofNat 32 (nx false c).val) := by
  have h : ∀ c : Dev nD, @Decidable.decide (k0_chk1 (BitVec.ofNat 32 c.val)) (k0_chk1.dec _) = true := by decide +kernel
  exact @of_decide_eq_true _ (k0_chk1.dec _) (h _)
theorem nxOf_eq (c : Dev nD) (h1 : k0_chk2 (BitVec.ofNat 32 (nx true c).val)) (h2 : k0_chk1 (BitVec.ofNat 32 (nx false c).val)) :
    nxOf (BitVec.ofNat 32 (nx true c).val) (BitVec.ofNat 32 (nx false c).val) h1 h2 = fun d => nx d c := by
  have e1 : ∀ c : Dev nD, k0_dev2 (BitVec.ofNat 32 c.val) = c.val := by decide +kernel
  have e2 : ∀ c : Dev nD, k0_dev1 (BitVec.ofNat 32 c.val) = c.val := by decide +kernel
  funext d
  cases d
  · exact Fin.ext (e2 _)
  · exact Fin.ext (e1 _)

end Cert.KernelIdeal.Proto

end

end
-- ==== Proof.BodyEq.lean ====
/-
# The printed body is the composition

The straight line the kernel prints, all its parts unfolded, is the composition of steps.
-/
module

public import proofs.«01_k».proof.Proof.Steps

@[expose] public section

set_option maxRecDepth 16384

noncomputable section

namespace Cert.KernelIdeal.Steps

open Idealize.ShloMosaic Idealize.ShloMosaic.TcCoe
open Idealize.SL Idealize.SL.Sem
open Cert.KernelIdeal Cert.KernelIdeal.Gen

variable {F : FTy → Type} [FloatOps F]

set_option maxHeartbeats 0 in
/-- The kernel's body is that composition. -/
theorem body_eq (t : Fin cfg0.N) :
    (bodyAt0 t : Pr F PUnit) = body (st0_1 t) (st0_2 t) (st0_0 t) := rfl

end Cert.KernelIdeal.Steps

end

end
-- ==== Proof.Body.lean ====
/-
# The body of the call

The whole body at a device: from what the launch dealt, the cells just opened, the scratch buffers and the whole
result, to the counters back at zero and the result computed.
-/
module

public import proofs.«01_k».proof.Proof.Words
public import proofs.«01_k».proof.Proof.BodyEq

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (X : Dev nD → (cc0_stg1_0 : Ref sig .tc).ty.Contents (Elt F))
  (Wt : Dev nD → (cc0_stg2_0 : Ref sig .tc).ty.Contents (Elt F)) (κ : Cl × Dev nD → ℕ) (ιs : Key → ℕ)

/-- The word buffer as the body is given it. -/
abbrev sM : Memref sig .tc .smem S3 .i32 := Memref.whole cc0_stg0_0
/-- The word buffer of a device, holding its words. -/
def sPt (c : Dev nD) : sProp 𝕄 := ((c : Thread nD τ).loc cc0_stg0_0) ↦{fullShare} (w3 c : (cc0_stg0_0 : Ref sig .tc).ty.Contents (Elt F))

/-- What is read at one of the words. -/
theorem read_word (c : Dev nD) (k : Fin 3) (o : Fin 1 → ℕ) (ho : ∀ a, o a + S1.size a ≤ S3.size a) (h : o 0 = k.val) (x : (Rect.unit (s := S3) o S1.size ho).shape.Idx) :
    ((sM.access (Rect.unit (s := S3) o S1.size ho)).read (Elt F) (w3 c : (cc0_stg0_0 : Ref sig .tc).ty.Contents (Elt F)) x : BitVec 32)
      = w3 c (ix3 k) := by
  have hx : (x 0).val < 1 := (x 0).isLt
  show w3 c ((sM.access (Rect.unit (s := S3) o S1.size ho)).emb x) = _
  refine congrArg (w3 c) ?_
  refine funext (Fin.forall_fin_one.mpr (Fin.ext ?_))
  refine (ValueKit.view_emb_slice_whole_unit_val cc0_stg0_0 o S1.size ho x (0 : Fin 1)).trans ?_
  show o 0 + (x 0).val = k.val % 3
  have := k.isLt
  omega

/-- The words read and checked, and the rest. -/
theorem words_run (c : Dev nD) (Q : PUnit → sProp 𝕄) :
    (sPt c : sProp 𝕄) ⊢ iprop((sPt c -∗ WP c (Steps.main xM wM (fun d => nx d c) (offs c)) Q) -∗ WP c (Steps.body (F := F) xM wM sM) Q) := by
  unfold Steps.body WP smemLoad sPt
  iintro H Hk
  simp only [smemLoadElt, Prog.lift, Prog.bind_op, Prog.bind_ret]
  iapply (wp_load_rect 𝒱₀ (c : Thread nD τ) none Set.univ (m := sM) (r := Rect.unit (s := S3) ![0] S1.size inb_S3_S1_0) (Finset.subset_univ _)) $$ H; iintro H
  rw [read_word c 0 _ _ rfl, w3_pos]
  iapply (wp_assume 𝒱₀ (c : Thread nD τ) none Set.univ (chk3 c))
  iapply (wp_load_rect 𝒱₀ (c : Thread nD τ) none Set.univ (m := sM) (r := Rect.unit (s := S3) ![1] S1.size inb_S3_S1_1) (Finset.subset_univ _)) $$ H; iintro H
  rw [read_word c 1 _ _ rfl, w3_suc]
  iapply (wp_assume 𝒱₀ (c : Thread nD τ) none Set.univ (chk2 c))
  iapply (wp_load_rect 𝒱₀ (c : Thread nD τ) none Set.univ (m := sM) (r := Rect.unit (s := S3) ![2] S1.size inb_S3_S1_2) (Finset.subset_univ _)) $$ H; iintro H
  rw [read_word c 2 _ _ rfl, w3_pre]
  iapply (wp_assume 𝒱₀ (c : Thread nD τ) none Set.univ (chk1 c))
  rw [nxOf_eq, show offsOf (posW c) (PLift.down ⟨chk3 c⟩) = offs c from rfl]
  iapply Hk; iexact H

/-- What a device's body starts from, besides its staged operands. -/
def BodyPre (c : Dev nD) : sProp 𝕄 :=
  iprop(ctx X Wt (res X Wt) κ ιs ∗ (reached ER (cell .bar (pv true c)) 0 ∗ reached ER (cell .bar (pv false c)) 0)
    ∗ atPos ER (cell .bar c) 0 ∅ 0 ∗ cred (tallyAt (cell .bar c) 1 2)
    ∗ (StartD true c ∗ StartD false c) ∗ (Posn true c ∗ Posn false c))

/-- The body of the call. -/
theorem body_run (c : Dev nD) (f : (main_v24 : Ref sig .tc).ty.Contents (Elt F)) (Q : PUnit → sProp 𝕄) :
    iprop(BodyPre X Wt κ ιs c ∗ (Bufs true c ∗ Bufs false c) ∗ (((c : Thread nD τ).loc main_v24) ↦{fullShare} f)
        ∗ sPt c ∗ xPt c (X c) ∗ wPt c (Wt c) ∗ owing c (due₀ c) : sProp 𝕄)
      ⊢ iprop(((Bufs true c ∗ Bufs false c) ∗ (((c : Thread nD τ).loc main_v24) ↦{fullShare} res X Wt)
            ∗ semVal (cell .bar c) 0 ∗ (Zero true c ∗ Zero false c) ∗ sPt c ∗ xPt c (X c) ∗ wPt c (Wt c) ∗ owing c 0 -∗ Q ⟨⟩)
          -∗ WP c (Steps.body (F := F) xM wM sM) Q) := by
  unfold BodyPre
  iintro ⟨⟨#Hctx, #Hre, Hat, Hcr, ⟨HsR, HsL⟩, HpR, HpL⟩, ⟨HbR, HbL⟩, Ho, Hs, Hx, Hw, HO⟩ Hk
  ihave Ho := (outb_of_whole c f) $$ Ho
  icases Ho with ⟨HoR, HoL⟩
  iapply (words_run c _) $$ Hs
  iintro Hs
  unfold WP
  iapply wp_fupd
  imod (start_dir X Wt (res X Wt) κ ιs true c) $$ [HsR HpR HbR HoR] with HR
  · isplitr; · iexact Hctx
    isplitl [HsR]; · iexact HsR
    isplitl [HpR]; · iexact HpR
    isplitl [HbR] <;> iassumption
  imod (start_dir X Wt (res X Wt) κ ιs false c) $$ [HsL HpL HbL HoL] with HL
  · isplitr; · iexact Hctx
    isplitl [HsL]; · iexact HsL
    isplitl [HpL]; · iexact HpL
    isplitl [HbL] <;> iassumption
  iapply (main_run X Wt (res X Wt) κ ιs (res_ok X Wt) c _) $$ [HR HL Hat Hcr Hx Hw HO]
  · isplitr; · iexact Hctx
    isplitr; · iexact Hre
    isplitl [HR]; · iexact HR
    isplitl [HL]; · iexact HL
    isplitl [Hat]; · iexact Hat
    isplitl [Hcr]; · iexact Hcr
    isplitl [Hx]; · iexact Hx
    isplitl [Hw] <;> iassumption
  iintro ⟨HR, HL, Hat, Hx, Hw, HO⟩
  imod (end_dir X Wt (res X Wt) κ ιs true c) $$ [HR] with ⟨HbR, HoR, HzR⟩
  · isplitr; · iexact Hctx
    iexact HR
  imod (end_dir X Wt (res X Wt) κ ιs false c) $$ [HL] with ⟨HbL, HoL, HzL⟩
  · isplitr; · iexact Hctx
    iexact HL
  imod (close X Wt (res X Wt) κ ιs .bar c 1 (fun r hr => by rw [dutiesC, if_neg (by omega)])) $$ [Hat] with Hz
  · isplitr; · iexact Hctx
    iexact Hat
  imodintro
  iapply Hk
  isplitl [HbR HbL]; · isplitl [HbR] <;> iassumption
  isplitl [HoR HoL]
  · iapply (whole_of_done (res X Wt) c)
    isplitl [HoR] <;> iassumption
  isplitl [Hz]; · iexact Hz
  isplitl [HzR HzL]; · isplitl [HzR] <;> iassumption
  isplitl [Hs]; · iexact Hs
  isplitl [Hx]; · iexact Hx
  isplitl [Hw] <;> iassumption

end Cert.KernelIdeal.Proto

end

end
-- ==== Proof.Region.lean ====
/-
# The call as a region

The proof data of the call, its body's obligation, and the region between what the launch dealt and the result.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (m : (ℓ : Loc nD τ sig) → Buf (Elt F) ℓ)

/-- A device's columns of the left operand. -/
def Xm (c : Dev nD) : (cc0_stg1_0 : Ref sig .tc).ty.Contents (Elt F) := m ((c : Thread nD τ).loc main_arg0)
/-- A device's rows of the right operand. -/
def Wm (c : Dev nD) : (cc0_stg2_0 : Ref sig .tc).ty.Contents (Elt F) := m ((c : Thread nD τ).loc main_arg1)
/-- The result. -/
def Rm : (main_v24 : Ref sig .tc).ty.Contents (Elt F) := res (Xm m) (Wm m)

/-! ## The own cells -/

/-- The scoped cells, by direction. -/
def ocl : Bool × Fin 6 → Cl
  | (d, 0) => .cred d
  | (d, 1) => .send d
  | (d, 2) => .recv d false
  | (d, 3) => .recv d true
  | (d, 4) => .store d false
  | (d, 5) => .store d true
/-- Their semaphores. -/
def osem (k : Bool × Fin 6) : SemLoc sig := (ocl k).sem

theorem ownSemFacts : Pipeline.OwnSemFacts cfg0.spec osem := by decide

/-- A conjunction over the scoped cells, by direction. -/
theorem bigSep_ocl {M : Type} [URA M] (Φ : Cl → sProp M) : bigSep Finset.univ (fun k : Bool × Fin 6 => Φ (ocl k))
    = iprop((Φ (.cred true) ∗ Φ (.send true) ∗ Φ (.recv true false) ∗ Φ (.recv true true) ∗ Φ (.store true false) ∗ Φ (.store true true))
      ∗ (Φ (.cred false) ∗ Φ (.send false) ∗ Φ (.recv false false) ∗ Φ (.recv false true) ∗ Φ (.store false false) ∗ Φ (.store false true))) := by
  rw [bigSep_univ_prod, bigSep_univ_eq_bigSepL [true, false] (by decide) (by decide)]
  show iprop(bigSep Finset.univ (fun i : Fin 6 => Φ (ocl (true, i))) ∗ bigSep Finset.univ (fun i : Fin 6 => Φ (ocl (false, i)))) = _
  rw [bigSep_univ_eq_bigSepL [(0 : Fin 6), 1, 2, 3, 4, 5] (by decide) (by decide),
    bigSep_univ_eq_bigSepL [(0 : Fin 6), 1, 2, 3, 4, 5] (by decide) (by decide)]
  rfl

theorem ownSems_eq (c : Dev nD) : (Pipeline.ownSems0 osem c : sProp 𝕄) = iprop(Zero true c ∗ Zero false c) :=
  bigSep_ocl (fun k => (semVal (cell k c) 0 : sProp 𝕄))

/-- A direction's tokens to open its cells. -/
def Opens (d : Bool) (c : Dev nD) : sProp 𝕄 :=
  iprop(openTok ER (cell (.cred d) c) ∗ openTok ER (cell (.send d) c) ∗ openTok ER (cell (.recv d false) c)
    ∗ openTok ER (cell (.recv d true) c) ∗ openTok ER (cell (.store d false) c) ∗ openTok ER (cell (.store d true) c))

section Open

variable (X : Dev nD → (cc0_stg1_0 : Ref sig .tc).ty.Contents (Elt F))
  (Wt : Dev nD → (cc0_stg2_0 : Ref sig .tc).ty.Contents (Elt F)) (Rf : (main_v24 : Ref sig .tc).ty.Contents (Elt F)) (κ : Cl × Dev nD → ℕ) (ιs : Key → ℕ)

/-- A cell whose counter is zero opens. -/
theorem open_cell (k : Cl) (c : Dev nD) :
    iprop(ctx X Wt Rf κ ιs ∗ openTok ER (cell k c) ∗ semVal (cell k c) 0 : sProp 𝕄) ⊢ iprop(|={Set.univ}=> posn k c) := by
  iintro ⟨#Hctx, Ho, Hs⟩
  ihave #HI := (ctx_cell X Wt Rf κ ιs k c) $$ Hctx
  unfold posn
  iapply (Rounds.cell_open ER (ringRd X Wt Rf) (g := cell k c) (Set.mem_univ (κ (k, c))))
  isplitr; · iexact HI
  isplitl [Ho] <;> iassumption

/-- So do a direction's. -/
theorem open_dir (d : Bool) (c : Dev nD) :
    iprop(ctx X Wt Rf κ ιs ∗ Opens d c ∗ Zero d c : sProp 𝕄) ⊢ iprop(|={Set.univ}=> Posn d c) := by
  unfold Opens Zero Posn
  iintro ⟨#Hctx, ⟨H1, H2, H3, H4, H5, H6⟩, ⟨S1, S2, S3, S4, S5, S6⟩⟩
  imod (open_cell X Wt Rf κ ιs (.cred d) c) $$ [H1 S1] with H1
  · isplitr; · iexact Hctx
    isplitl [H1] <;> iassumption
  imod (open_cell X Wt Rf κ ιs (.send d) c) $$ [H2 S2] with H2
  · isplitr; · iexact Hctx
    isplitl [H2] <;> iassumption
  imod (open_cell X Wt Rf κ ιs (.recv d false) c) $$ [H3 S3] with H3
  · isplitr; · iexact Hctx
    isplitl [H3] <;> iassumption
  imod (open_cell X Wt Rf κ ιs (.recv d true) c) $$ [H4 S4] with H4
  · isplitr; · iexact Hctx
    isplitl [H4] <;> iassumption
  imod (open_cell X Wt Rf κ ιs (.store d false) c) $$ [H5 S5] with H5
  · isplitr; · iexact Hctx
    isplitl [H5] <;> iassumption
  imod (open_cell X Wt Rf κ ιs (.store d true) c) $$ [H6 S6] with H6
  · isplitr; · iexact Hctx
    isplitl [H6] <;> iassumption
  imodintro
  isplitl [H1]; · iexact H1
  isplitl [H2]; · iexact H2
  isplitl [H3]; · iexact H3
  isplitl [H4]; · iexact H4
  isplitl [H5] <;> iassumption

end Open

/-! ## The invariants -/

/-- What the launch leaves a device for the call. -/
def Tk (c : Dev nD) : sProp 𝕄 := iprop(∃ κ ιs, ctx (Xm m) (Wm m) (Rm m) κ ιs
  ∗ (reached ER (cell .bar (pv true c)) 0 ∗ reached ER (cell .bar (pv false c)) 0)
  ∗ atPos ER (cell .bar c) 0 ∅ 0 ∗ cred (tallyAt (cell .bar c) 1 2)
  ∗ (StartD true c ∗ StartD false c) ∗ (Opens true c ∗ Opens false c))
/-- The same with the cells opened. -/
def Xk (c : Dev nD) : sProp 𝕄 := iprop(∃ κ ιs, BodyPre (Xm m) (Wm m) κ ιs c)
/-- The barrier's counter, back at zero. -/
def Yk (c : Dev nD) : sProp 𝕄 := semVal (cell .bar c) 0
/-- The register of the device. -/
def prng (c : Dev nD) : sProp 𝕄 := iprop(∃ r, prngReg c r)
/-- The result's buffer. -/
def oAll (c : Dev nD) (f : (main_v24 : Ref sig .tc).ty.Contents (Elt F)) : sProp 𝕄 := ((c : Thread nD τ).loc main_v24) ↦{fullShare} f

theorem hopen (c : Dev nD) : iprop(Tk m c ∗ Pipeline.ownSems0 osem c ∗ levAts L lv : sProp 𝕄) ⊢ iprop(|={Set.univ}=> Xk m c) := by
  rw [ownSems_eq]
  unfold Tk Xk BodyPre
  iintro ⟨⟨%κ, %ιs, #Hctx, #Hre, Hat, Hcr, Hst, ⟨HoR, HoL⟩⟩, ⟨HzR, HzL⟩, -⟩
  imod (open_dir (Xm m) (Wm m) (Rm m) κ ιs true c) $$ [HoR HzR] with HR
  · isplitr; · iexact Hctx
    isplitl [HoR] <;> iassumption
  imod (open_dir (Xm m) (Wm m) (Rm m) κ ιs false c) $$ [HoL HzL] with HL
  · isplitr; · iexact Hctx
    isplitl [HoL] <;> iassumption
  imodintro
  iexists κ; iexists ιs
  isplitr; · iexact Hctx
  isplitr; · iexact Hre
  isplitl [Hat]; · iexact Hat
  isplitl [Hcr]; · iexact Hcr
  isplitl [Hst]; · iexact Hst
  isplitl [HR] <;> iassumption

/-! ## The proof data -/

/-- What the regions leave: the result. -/
def outs : Gen.Outs (F := F) := fun _ r c => if h : r = main_v24 then (by subst h; exact Rm m) else V1 m c r
theorem V2_v24 (c : Dev nD) : V2 m (outs m) c main_v24 = Rm m := by
  unfold V2
  rw [Function.update_self]
  unfold outs
  rw [dif_pos rfl]

/-- The state before the body and the state after it. -/
def Φ₀ (c : Dev nD) : sProp 𝕄 := iprop(Xk m c ∗ (Bufs true c ∗ Bufs false c) ∗ oAll c (V1 m c main_v24) ∗ prng c)
def Φ₁ (c : Dev nD) : sProp 𝕄 := iprop((Bufs true c ∗ Bufs false c) ∗ oAll c (Rm m) ∗ Yk c ∗ (Zero true c ∗ Zero false c) ∗ prng c)

def dat (c : Dev nD) : Pipeline.Dat τ (Elt F) ℕ ℕ UU ℕ cfg0 c where
  A w := V1 m c (Proc.devRef .tc (Pipeline.arrRef cfg0.spec w))
  after w _ := match w with
    | ⟨0, _⟩ => w3 c
    | ⟨1, _⟩ => Xm m c
    | ⟨2, _⟩ => Wm m c
  Φ t := match t with
    | ⟨0, _⟩ => Φ₀ m c
    | ⟨_ + 1, _⟩ => Φ₁ m c
  q _ := fullShare
  owed t := match t with
    | ⟨0, _⟩ => due₀ c
    | ⟨_ + 1, _⟩ => 0

def pdats : (p : Fin 1) → (c : Dev nD) → Pipeline.Dat τ (Elt F) ℕ ℕ UU ℕ (cfgs p) c := fun | 0 => dat m

abbrev t₀ : Fin cfg0.N := t0_0

theorem fin_N (t : Fin cfg0.N) : t = t₀ := fin_N0 t
theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window over a whole array places each index at itself, -/
theorem off_0 (y : (cfg0.win (0 : Fin 3)).block.Idx) (a : Fin _) : (((cfg0.win (0 : Fin 3)).blk t₀).view.emb y a).val = (y a).val := by
  show (cfg0.win (0 : Fin 3)).kind.off ((cfg0.win (0 : Fin 3)).index t₀ a) ((cfg0.win (0 : Fin 3)).size a) + 1 * (y a).val = (y a).val
  rw [show (cfg0.win (0 : Fin 3)).kind.off ((cfg0.win (0 : Fin 3)).index t₀ a) ((cfg0.win (0 : Fin 3)).size a) = 0 from by fin_cases a <;> rfl, one_mul, zero_add]
theorem off_1 (y : (cfg0.win (1 : Fin 3)).block.Idx) (a : Fin _) : (((cfg0.win (1 : Fin 3)).blk t₀).view.emb y a).val = (y a).val := by
  show (cfg0.win (1 : Fin 3)).kind.off ((cfg0.win (1 : Fin 3)).index t₀ a) ((cfg0.win (1 : Fin 3)).size a) + 1 * (y a).val = (y a).val
  rw [show (cfg0.win (1 : Fin 3)).kind.off ((cfg0.win (1 : Fin 3)).index t₀ a) ((cfg0.win (1 : Fin 3)).size a) = 0 from by fin_cases a <;> rfl, one_mul, zero_add]
theorem off_2 (y : (cfg0.win (2 : Fin 3)).block.Idx) (a : Fin _) : (((cfg0.win (2 : Fin 3)).blk t₀).view.emb y a).val = (y a).val := by
  show (cfg0.win (2 : Fin 3)).kind.off ((cfg0.win (2 : Fin 3)).index t₀ a) ((cfg0.win (2 : Fin 3)).size a) + 1 * (y a).val = (y a).val
  rw [show (cfg0.win (2 : Fin 3)).kind.off ((cfg0.win (2 : Fin 3)).index t₀ a) ((cfg0.win (2 : Fin 3)).size a) = 0 from by fin_cases a <;> rfl, one_mul, zero_add]
/-- and so is filled with the array. -/
theorem fetched_0 (c : Dev nD) (d : (cc0_stg0_0 : Ref sig .tc).ty.Contents (Elt F)) : (dat m c).fetched (0 : Fin 3) t₀ d = V1 m c main_v23 :=
  funext fun y => congrArg (V1 m c main_v23) (funext fun a => Fin.ext (off_0 y a))
theorem fetched_1 (c : Dev nD) (d : (cc0_stg1_0 : Ref sig .tc).ty.Contents (Elt F)) : (dat m c).fetched (1 : Fin 3) t₀ d = V1 m c main_arg0 :=
  funext fun y => congrArg (V1 m c main_arg0) (funext fun a => Fin.ext (off_1 y a))
theorem fetched_2 (c : Dev nD) (d : (cc0_stg2_0 : Ref sig .tc).ty.Contents (Elt F)) : (dat m c).fetched (2 : Fin 3) t₀ d = V1 m c main_arg1 :=
  funext fun y => congrArg (V1 m c main_arg1) (funext fun a => Fin.ext (off_2 y a))
/-- What the windows fetch: the words and the operands. -/
theorem before_0 (c : Dev nD) (d : (cc0_stg0_0 : Ref sig .tc).ty.Contents (Elt F)) : (dat m c).before (0 : Fin 3) t₀ d = w3 c := by
  unfold Pipeline.Dat.before; rw [if_pos (fetch0_0 t₀)]
  exact (fetched_0 m c d).trans (words_eq m c)
theorem before_1 (c : Dev nD) (d : (cc0_stg1_0 : Ref sig .tc).ty.Contents (Elt F)) : (dat m c).before (1 : Fin 3) t₀ d = Xm m c := by
  unfold Pipeline.Dat.before; rw [if_pos (fetch0_1 t₀)]
  exact (fetched_1 m c d).trans (V1_of m c main_arg0 (by decide))
theorem before_2 (c : Dev nD) (d : (cc0_stg2_0 : Ref sig .tc).ty.Contents (Elt F)) : (dat m c).before (2 : Fin 3) t₀ d = Wm m c := by
  unfold Pipeline.Dat.before; rw [if_pos (fetch0_2 t₀)]
  exact (fetched_2 m c d).trans (V1_of m c main_arg1 (by decide))

theorem owed_first (c : Dev nD) : (dat m c).owed t₀.castSucc = due₀ c := rfl
theorem owed_last (c : Dev nD) : (dat m c).owed t₀.succ = 0 := rfl

theorem owesAt_intro (c : Dev nD) (t : Fin (cfg0.N + 1)) (O : CellTallies nD τ sig ℕ) (h0 : (dat m c).owed t = O) :
    (owing c O : sProp 𝕄) ⊢ ((dat m c).owesAt 0 t : sProp 𝕄) := by
  unfold owing Pipeline.Dat.owesAt Pipeline.owesWithin Pipeline.Dat.bound
  rw [h0, show (dat m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig ℕ) (h0 : (dat m c).owed t = O) :
    ((dat m c).owesAt 0 t : sProp 𝕄) ⊢ (owing c O : sProp 𝕄) := by
  unfold owing Pipeline.Dat.owesAt Pipeline.owesWithin; rw [h0]
  iintro ⟨%W, -, HO⟩; iexists W; iexact HO

/-- A staged buffer holding something. -/
def stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))
def bodyPre (c : Dev nD) : sProp 𝕄 :=
  iprop(Φ₀ m c ∗ (dat m c).owesAt 0 t₀.castSucc
    ∗ (∃ d, stg c cc0_stg0_0 ((dat m c).before (0 : Fin 3) t₀ d))
    ∗ (∃ d, stg c cc0_stg1_0 ((dat m c).before (1 : Fin 3) t₀ d))
    ∗ (∃ d, stg c cc0_stg2_0 ((dat m c).before (2 : Fin 3) t₀ d)))
def bodyPost (c : Dev nD) : sProp 𝕄 :=
  iprop(Φ₁ m c ∗ (dat m c).owesAt 0 t₀.succ
    ∗ stg c cc0_stg0_0 (w3 c) ∗ stg c cc0_stg1_0 (Xm m c) ∗ stg c cc0_stg2_0 (Wm m c))

/-- The body between the two states. -/
theorem body_state (c : Dev nD) : bodyPre m c ⊢ WP c (Steps.body (F := F) xM wM sM) fun _ => bodyPost m c := by
  unfold bodyPre Φ₀ Xk stg
  iintro ⟨⟨⟨%κ, %ιs, Hg⟩, Hb, Ho, Hp⟩, HO, ⟨%d0, %f0, %e0, H0⟩, ⟨%d1, %f1, %e1, H1⟩, ⟨%d2, %f2, %e2, H2⟩⟩
  ihave HO := (owesAt_elim m c t₀.castSucc (due₀ c) (owed_first m c)) $$ HO
  rw [before_0] at e0; rw [before_1] at e1; rw [before_2] at e2
  subst e0 e1 e2
  iapply (body_run (Xm m) (Wm m) κ ιs c (V1 m c main_v24) (fun _ => bodyPost m c)) $$ [Hg Hb Ho H0 H1 H2 HO]
  · unfold sPt xPt wPt oAll
    isplitl [Hg]; · iexact Hg
    isplitl [Hb]; · iexact Hb
    isplitl [Ho]; · iexact Ho
    isplitl [H0]; · iexact H0
    isplitl [H1]; · iexact H1
    isplitl [H2]; · iexact H2
    iexact HO
  unfold bodyPost Φ₁ Yk stg sPt xPt wPt oAll
  iintro ⟨Hb, Ho, Hz, Hzz, H0, H1, H2, HO⟩
  isplitl [Hb Ho Hz Hzz Hp]
  · isplitl [Hb]; · iexact Hb
    isplitl [Ho]; · iexact Ho
    isplitl [Hz]; · iexact Hz
    isplitl [Hzz]; · iexact Hzz
    iexact Hp
  isplitl [HO]; · iapply (owesAt_intro m c t₀.succ 0 (owed_last m c)); iexact HO
  isplitl [H0]
  · iexists _; isplitr; · (ipureintro; rfl)
    iexact H0
  isplitl [H1]
  · iexists _; isplitr; · (ipureintro; rfl)
    iexact H1
  iexists _; isplitr; · (ipureintro; rfl)
  iexact H2

/-- The body as the pipeline calls it. -/
theorem defs₀_row (t : Fin cfg0.N) : defs₀ (F := F) .tc cfg0.body (cfg0.bodyArgs t (cfg0.slots t)) = bodyAt0 t := by
  unfold defs₀; rw [Defs.onTc_tc]
theorem body_at : Steps.body (F := F) xM wM sM = bodyAt0 t₀ := by
  rw [body_eq t₀]
theorem body_triple (c : Dev nD) :
    bodyPre m c ⊢ wp frame (wpE (defs₀ (F := F)) Variants.none c none) Set.univ (bodyAt0 t₀) (fun _ => bodyPost m c) :=
  Idealize.ShloMosaic.triple_restated (body_state m c) (congrArg (wp frame (wpE (defs₀ (F := F)) Variants.none c none) Set.univ) body_at) .rfl fun _ => .rfl
/-- The body's obligation. -/
theorem body_obligation (c : Dev nD) : Pipeline.BodyObligation (dat m c) (defs₀ (F := F)) Variants.none 0 Set.univ := fun t => by
  obtain rfl := fin_N t
  rw [bigSep_W, bigSep_W, defs₀_row]
  simp only [owns_whole_eq]
  exact Idealize.ShloMosaic.triple_restated (body_triple m c) rfl .rfl fun _ => .rfl

/-! ## The region -/

/-- The buffer the body addresses itself, and the buffers that are no operand's. -/
def Hs : Finset (DevRef τ sig) := {Proc.devRef .tc main_v24}
def Sr : Finset (DevRef τ sig) := Pipeline.ucRefs τ sig \ Pipeline.arrRefs (τ := τ) (pcfgs (F := F) 0).spec
theorem arr_sub : Pipeline.arrRefs (τ := τ) (pcfgs (F := F) 0).spec ⊆ Pipeline.ucRefs τ sig := by
  show Pipeline.arrRefs (τ := τ) spec0 ⊆ Pipeline.ucRefs τ sig
  decide
theorem Hs_sub : Hs ⊆ Sr (F := F) := by
  show ({Proc.devRef .tc main_v24} : Finset (DevRef τ sig)) ⊆ Pipeline.ucRefs τ sig \ Pipeline.arrRefs (τ := τ) spec0
  decide

/-- The contents after the call. -/
abbrev V₂ (c : Dev nD) : Valuation τ sig (Elt F) := V2 m (outs m) c

theorem held_Hs (c : Dev nD) (W : Valuation τ sig (Elt F)) :
    (StableHlo.held (c.tc : Thread nD τ) Hs W : sProp 𝕄) = oAll c (W main_v24) := by
  unfold StableHlo.held Hs
  rw [bigSep_singleton]; rfl

theorem rest_eq (c : Dev nD) : (Pipeline.scopedRest (Ix := ℕ) (Name := ℕ) (U := UU) (Lvl := ℕ) (Val := Elt F) spec0 c : sProp 𝕄)
    ⊢ iprop(Bufs true c ∗ Bufs false c) := by
  rw [scopedRest0_eq]
  unfold Bufs Bf.pt
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7
theorem rest_of (c : Dev nD) : iprop(Bufs true c ∗ Bufs false c)
    ⊢ (Pipeline.scopedRest (Ix := ℕ) (Name := ℕ) (U := UU) (Lvl := ℕ) (Val := Elt F) spec0 c : sProp 𝕄) := by
  rw [scopedRest0_eq]
  unfold Bufs Bf.pt
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem hin (c : Dev nD) : iprop(Pipeline.scopedRest spec0 c ∗ (∃ r, prngReg c r) ∗ StableHlo.held (c.tc : Thread nD τ) Hs (V1 m c) ∗ Xk m c : sProp 𝕄) ⊢ Φ₀ m c := by
  rw [held_Hs]
  unfold Φ₀ prng
  iintro ⟨Hr, Hp, Ho, HX⟩
  isplitl [HX]; · iexact HX
  isplitl [Hr]; · iapply (rest_eq c) $$ Hr
  isplitl [Ho] <;> iassumption
theorem hout (c : Dev nD) : Φ₁ m c ⊢ iprop(Pipeline.scopedRest spec0 c ∗ (∃ r, prngReg c r) ∗ StableHlo.held (c.tc : Thread nD τ) Hs (V₂ m c)
    ∗ Pipeline.ownSems0 osem c ∗ Yk c : sProp 𝕄) := by
  rw [held_Hs, show V₂ m c main_v24 = Rm m from V2_v24 m c, ownSems_eq]
  unfold Φ₁ prng
  iintro ⟨Hb, Ho, Hy, Hz, Hp⟩
  isplitl [Hb]; · iapply (rest_of c) $$ Hb
  isplitl [Hp]; · iexact Hp
  isplitl [Ho]; · iexact Ho
  isplitl [Hz] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cutD (c : Dev nD) (t : Fin (cfg0.N + 1)) (g : GSem nD τ sig) (i : ℕ) (h : 0 < (dat m c).owed t g i) : i ∈ L g ∧ (0 : ℕ) < lv g i := by
  obtain ⟨t, ht⟩ := t
  cases t with
  | zero =>
    obtain ⟨⟨k, y, rfl⟩, h1, h2⟩ := due₀_pos (c := c) (g := g) (i := i) h
    exact ⟨by rw [L_tc]; exact Finset.mem_range.mpr h1, h2⟩
  | succ n => exact absurd h (Nat.lt_irrefl 0)

theorem share_eq (c : Dev nD) (w : Fin cfg0.W) : (dat m c).share w = fullShare := by unfold Pipeline.Dat.share; split <;> rfl

theorem arr_end (c : Dev nD) (w : Fin cfg0.W) : (dat m c).arrAt w cfg0.N = V₂ m c (Proc.devRef .tc (Pipeline.arrRef cfg0.spec w)) := by
  have h (w : Fin cfg0.W) : (cfg0.win w).isOut = false := by fin_cases w <;> rfl
  refine ((dat m c).arrAt_in w (h w) _).trans ?_
  show V1 m c (Proc.devRef .tc (Pipeline.arrRef cfg0.spec w)) = _
  have hw : (Pipeline.arrRef cfg0.spec w) ∉ ([main_v24] : List (Ref sig .tc)) := by fin_cases w <;> decide
  exact (V2_of m (outs m) c _ hw).symm

set_option backward.isDefEq.respectTransparency.types false in
/-- The call as a region. -/
def reg0 : Pipeline.RegionSeg (pcfgs (F := F)) adm (pdats m) 0 defs₀ Variants.none L lv 0 :=
  Pipeline.RegionSeg.ofTalk (pcfgs (F := F)) adm (pdats m) 0 defs₀ Variants.none L lv 0 osem ownSemFacts
    Hs (Sr (F := F)) Hs_sub kitP rfl (fun c => (body_obligation m c).loose)
    (fun _ => 0) due₀ (fun c => (zero_add (due₀ c)).symm) (fun c => rfl) (fun _ => rfl) (fun c w => share_eq m c w)
    (V1 m) (V₂ m) (fun c b hb => by
      have hne : b ≠ Proc.devRef .tc main_v24 := fun e => (Finset.mem_sdiff.mp hb).2 (Finset.mem_singleton.mpr e)
      exact Function.update_of_ne hne _ _)
    (Tk m) Yk (Xk m) Yk (hopen m) (hin m) (hout m)
    (fun c => by iintro H; imodintro; iexact H)
    (fun _ => 0)
    ⟨fun c w s => by rw [L_tc]; exact Finset.mem_range.mpr (by decide), fun c w s => le_refl 0, fun c t g i h => cutD m c t g i h⟩
    (fun _ => iprop(emp))
    (fun c w => rfl) (fun c w => arr_end m c w)

/-- What rides beside the buffers before the call and after it. -/
def Ea (c : Dev nD) : sProp 𝕄 := iprop(prng c ∗ Tk m c ∗ owing c (due₀ c))
def Eb (c : Dev nD) : sProp 𝕄 := iprop(Yk c ∗ owing c 0)

theorem reg_pre (c : Dev nD) : iprop(StableHlo.held (c : Thread nD τ) (Pipeline.ucRefs τ sig) (V1 m c) ∗ Ea m c : sProp 𝕄) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (Sr (F := F)) (V1 m c) ∗ emp) ∗ Tk m c ∗ ∃ Wd, owes (c : Thread nD τ) (0 + due₀ c) Wd)
  rw [StableHlo.held_sub_split (c.tc : Thread nD τ) (arr_sub (F := F)) (V1 m c), zero_add]
  unfold Ea prng owing Sr
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption
theorem reg_post (c : Dev nD) : (reg0 m).post c ⊢ iprop(StableHlo.held (c : Thread nD τ) (Pipeline.ucRefs τ sig) (V₂ m c) ∗ Eb c : sProp 𝕄) := by
  show iprop(StableHlo.held (c.tc : Thread nD τ) (Pipeline.arrRefs (τ := τ) (pcfgs (F := F) 0).spec) (V₂ m c) ∗ (∃ r, prngReg c r)
    ∗ (StableHlo.held (c.tc : Thread nD τ) (Sr (F := F)) (V₂ m c) ∗ emp) ∗ Yk c ∗ ∃ Wd, owes (c : Thread nD τ) 0 Wd) ⊢ _
  rw [StableHlo.held_sub_split (c.tc : Thread nD τ) (arr_sub (F := F)) (V₂ m c)]
  unfold Eb owing Sr
  iintro ⟨Ha, -, ⟨Hs, -⟩, Hy, HO⟩
  isplitl [Ha Hs]
  · isplitl [Ha] <;> iassumption
  isplitl [Hy] <;> iassumption

end Cert.KernelIdeal.Proto

end

end
-- ==== Proof.Launch.lean ====
/-
# The launch and the run

What the launch deals the devices, dealt round the ring, and the run of the whole program.
-/
module

public import proofs.«01_k».proof.Proof.Region
public import Idealize.ShloMosaic.Lib.SparseCore.Launch

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen Cert.KernelIdeal.Steps

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

theorem ocl_inj : Function.Injective ocl := by decide
theorem ocl_ne_bar : ∀ k, ocl k ≠ .bar := by decide
theorem ocl_surj (k : Cl) (h : k ≠ .bar) : ∃ o, ocl o = k := by
  cases k with
  | bar => exact absurd rfl h
  | cred d => exact ⟨(d, 0), rfl⟩
  | send d => exact ⟨(d, 1), rfl⟩
  | recv d p => cases p; exacts [⟨(d, 2), rfl⟩, ⟨(d, 3), rfl⟩]
  | store d p => cases p; exacts [⟨(d, 4), rfl⟩, ⟨(d, 5), rfl⟩]

def barEmb : Dev nD ↪ GSem nD τ sig := ⟨fun c => cell .bar c, fun _ _ h => (cell_inj h).2⟩
def scEmb : Dev nD × (Bool × Fin 6) ↪ GSem nD τ sig :=
  ⟨fun x => cell (ocl x.2) x.1, fun _ _ h => Prod.ext (cell_inj h).2 (ocl_inj (cell_inj h).1)⟩

/-- The barrier's cells, and the cells of the call. -/
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact ocl_ne_bar x.2 (cell_inj h).1

theorem cell_mem (k : Cl) (c : Dev nD) : cell k c ∈ barCells ∪ scCells := by
  by_cases h : k = .bar
  · subst h; exact Finset.mem_union_left _ (Finset.mem_map_of_mem barEmb (Finset.mem_univ c))
  · obtain ⟨o, rfl⟩ := ocl_surj k h
    exact Finset.mem_union_right _ (Finset.mem_map_of_mem scEmb (Finset.mem_univ (c, o)))

/-! ## The tokens -/

/-- The duties of a direction: sends, landings, credits, stores, and the handshake's. -/
abbrev Ti : Type := Fin 62 ⊕ (Fin 62 ⊕ (Fin 60 ⊕ (Fin 32 ⊕ Unit)))
def tokOf (d : Bool) : Ti → Cl × ℕ × ℕ
  | .inl j => (.send d, j.val, 0)
  | .inr (.inl j) => (.recv d (sl j.val), cnt (sl j.val) j.val, 0)
  | .inr (.inr (.inl k)) => (.cred d, 0, k.val)
  | .inr (.inr (.inr (.inl u))) => (.store d (stP u.val), stR u.val, 0)
  | .inr (.inr (.inr (.inr _))) => (.bar, 0, dutyOf d)

/-- A duty's kind and number, read back. -/
def kindOf : Cl × ℕ × ℕ → Bool × ℕ × ℕ
  | (.send d, r, _) => (d, 0, r)
  | (.recv d p, r, _) => (d, 1, jOf p r)
  | (.cred d, _, j) => (d, 2, j)
  | (.store d p, r, _) => (d, 3, uOf p r)
  | (.bar, _, j) => (dirOf j, 4, 0)
def numOf : Ti → ℕ × ℕ
  | .inl j => (0, j.val)
  | .inr (.inl j) => (1, j.val)
  | .inr (.inr (.inl k)) => (2, k.val)
  | .inr (.inr (.inr (.inl u))) => (3, u.val)
  | .inr (.inr (.inr (.inr _))) => (4, 0)
theorem kind_tok (d : Bool) (t : Ti) : kindOf (tokOf d t) = (d, numOf t) := by
  rcases t with j | j | k | u | x
  · rfl
  · exact congrArg (fun n => (d, 1, n)) (jOf_cnt j.val j.isLt)
  · rfl
  · exact congrArg (fun n => (d, 3, n)) (uOf_st u.val u.isLt)
  · cases d <;> rfl
theorem num_inj : Function.Injective numOf := by
  rintro (a | a | a | a | a) (b | b | b | b | b) h <;> simp only [numOf, Prod.mk.injEq] at h <;> first
    | (exfalso; omega)
    | (have := Fin.ext h.2; subst this; rfl)
    | rfl

def tokEmb : Dev nD × (Bool × Ti) ↪ GSem nD τ sig × ℕ × ℕ :=
  ⟨fun x => (cell (tokOf x.2.1 x.2.2).1 x.1, (tokOf x.2.1 x.2.2).2), fun x y h => by
    have h1 := cell_inj (congrArg (fun t : GSem nD τ sig × ℕ × ℕ => t.1) h)
    have h2 : tokOf x.2.1 x.2.2 = tokOf y.2.1 y.2.2 := Prod.ext h1.1 (congrArg (fun t : GSem nD τ sig × ℕ × ℕ => t.2) h)
    have h3 := congrArg kindOf h2
    rw [kind_tok, kind_tok] at h3
    exact Prod.ext h1.2 (Prod.ext (congrArg (fun t : Bool × ℕ × ℕ => t.1) h3) (num_inj (congrArg (fun t : Bool × ℕ × ℕ => t.2) h3)))⟩
/-- Every duty's token. -/
def toks : Finset (GSem nD τ sig × ℕ × ℕ) := Finset.univ.map tokEmb

/-- The duties of a direction that a device's own cells await. -/
def toksAt (d : Bool) (c : Dev nD) : sProp 𝕄 :=
  iprop((bigSep (Finset.Ico 0 62) fun j => dutyTok ER (cell (.send d) c) j 0)
    ∗ (bigSep (Finset.Ico 0 62) fun j => dutyTok ER (cell (.recv d (sl j)) c) (cnt (sl j) j) 0)
    ∗ (bigSep (Finset.Ico 0 60) fun k => dutyTok ER (cell (.cred d) c) 0 k)
    ∗ (bigSep (Finset.Ico 0 32) fun u => dutyTok ER (cell (.store d (stP u)) c) (stR u) 0)
    ∗ dutyTok ER (cell .bar c) 0 (dutyOf d))

theorem fin_Ico {M : Type} [URA M] (n : ℕ) (Ψ : ℕ → sProp M) : bigSep Finset.univ (fun i : Fin n => Ψ i.val) = bigSep (Finset.Ico 0 n) Ψ := by
  have e : (Finset.univ : Finset (Fin n)).map Fin.valEmbedding = Finset.Ico 0 n := by
    ext x; simp only [Finset.mem_map, Finset.mem_univ, true_and, Finset.mem_Ico, Nat.zero_le]
    exact ⟨fun ⟨a, h⟩ => h ▸ a.isLt, fun h => ⟨⟨x, h⟩, rfl⟩⟩
  rw [← e, bigSep_map]; rfl

/-- A conjunction over the two directions. -/
theorem bigSep_bool {M : Type} [URA M] (Φ : Bool → sProp M) : bigSep Finset.univ Φ = iprop(Φ true ∗ Φ false) :=
  bigSep_univ_eq_bigSepL [true, false] (by decide) (by decide) Φ

theorem toks_eq : bigSep toks (fun x => (dutyTok ER x.1 x.2.1 x.2.2 : sProp 𝕄))
    = bigSep Finset.univ fun c : Dev nD => iprop(toksAt true c ∗ toksAt false c) := by
  unfold toks
  rw [bigSep_map, bigSep_univ_prod]
  refine bigSep_congr fun c _ => ?_
  rw [bigSep_univ_prod, bigSep_bool]
  have h (d : Bool) : bigSep Finset.univ (fun t : Ti => (dutyTok ER (tokEmb (c, (d, t))).1 (tokEmb (c, (d, t))).2.1 (tokEmb (c, (d, t))).2.2 : sProp 𝕄))
      = toksAt d c := by
    unfold toksAt
    rw [bigSep_univ_sum, bigSep_univ_sum, bigSep_univ_sum, bigSep_univ_sum,
      ← fin_Ico 62, ← fin_Ico 62, ← fin_Ico 60, ← fin_Ico 32]
    rw [show (Finset.univ : Finset Unit) = {()} from rfl, bigSep_singleton]
    rfl
  rw [← h true, ← h false]

/-! ## Round the ring -/

def nxE (d : Bool) : Dev nD ≃ Dev nD := ⟨nx d, nx (!d), pv_nx d, nx_pv d⟩

theorem to_next (d : Bool) (Φ : Dev nD → sProp 𝕄) : bigSep Finset.univ Φ ⊢ bigSep Finset.univ fun c => Φ (nx d c) :=
  Entails.of_eq (bigSep_univ_equiv (nxE d) Φ)

/-- The tokens of the writes to a device's slots. -/
def writesAt (d : Bool) (c : Dev nD) : sProp 𝕄 :=
  bigSep (Finset.Ico 0 62) fun j => writeTok ES (c, d, sl j) (1 + cnt (sl j) j)
def readsAt (d : Bool) (c : Dev nD) : sProp 𝕄 := iprop(readerAt ES (c, d, false) 0 ∗ readerAt ES (c, d, true) 0)

/-- What of a direction is dealt a device, the credits apart. -/
def Dealt (d : Bool) (c : Dev nD) : sProp 𝕄 :=
  iprop(Tok d c 0 ∗ readsAt d c
    ∗ (bigSep (Finset.Ico 0 60) fun k => dutyTok ER (cell (.cred d) (pv d c)) 0 k)
    ∗ (bigSep (Finset.Ico 0 32) fun u => dutyTok ER (cell (.store d (stP u)) c) (stR u) 0)
    ∗ dutyTok ER (cell .bar (pv d c)) 0 (dutyOf d))
/-- The credits. -/
def Creds (d : Bool) (c : Dev nD) : sProp 𝕄 :=
  iprop((bigSep (Finset.Ico 0 62) fun j => cred (tallyAt (cell (.recv d (sl j)) c) (2 * j + 2) NN))
    ∗ (bigSep (Finset.Ico 0 60) fun k => cred (tallyAt (cell (.cred d) c) (ci k) 1)))

theorem start_of (d : Bool) (c : Dev nD) : iprop(Dealt d c ∗ Creds d c : sProp 𝕄) ⊢ StartD d c := by
  unfold Dealt Creds StartD readsAt
  iintro ⟨⟨Ht, Hr, Hc, Hs, Hb⟩, Hcr, Hcc⟩
  isplitl [Ht]; · iexact Ht
  isplitl [Hcr]; · iexact Hcr
  isplitl [Hr]; · iexact Hr
  isplitl [Hc]; · iexact Hc
  isplitl [Hcc]; · iexact Hcc
  isplitl [Hs] <;> iassumption

theorem tok_eq (d : Bool) (c : Dev nD) : (Tok d c 0 : sProp 𝕄) = iprop(writesAt d (nx d c)
    ∗ (bigSep (Finset.Ico 0 62) fun j => dutyTok ER (cell (.send d) c) j 0)
    ∗ (bigSep (Finset.Ico 0 62) fun j => dutyTok ER (cell (.recv d (sl j)) (nx d c)) (cnt (sl j) j) 0)) := by
  unfold Tok writesAt
  rw [bigSep_sep', bigSep_sep']

theorem deal (d : Bool) : iprop((bigSep Finset.univ fun c => toksAt d c) ∗ (bigSep Finset.univ fun c => writesAt d c)
    ∗ (bigSep Finset.univ fun c => readsAt d c) : sProp 𝕄) ⊢ bigSep Finset.univ fun c => Dealt d c := by
  unfold toksAt
  rw [bigSep_sep', bigSep_sep', bigSep_sep', bigSep_sep']
  iintro ⟨⟨Hs, Hr, Hc, Ht, Hb⟩, Hw, Hn⟩
  ihave Hr := (to_next d (fun c => bigSep (Finset.Ico 0 62) fun j => (dutyTok ER (cell (.recv d (sl j)) c) (cnt (sl j) j) 0 : sProp 𝕄))) $$ Hr
  ihave Hw := (to_next d (fun c => (writesAt d c : sProp 𝕄))) $$ Hw
  ihave Hc := (to_next (!d) (fun c => bigSep (Finset.Ico 0 60) fun k => (dutyTok ER (cell (.cred d) c) 0 k : sProp 𝕄))) $$ Hc
  ihave Hb := (to_next (!d) (fun c => (dutyTok ER (cell .bar c) 0 (dutyOf d) : sProp 𝕄))) $$ Hb
  unfold Dealt
  rw [bigSep_sep', bigSep_sep', bigSep_sep', bigSep_sep']
  isplitl [Hs Hr Hw]
  · rw [show (fun c => (Tok d c 0 : sProp 𝕄)) = _ from funext (tok_eq d), bigSep_sep', bigSep_sep']
    isplitl [Hw]; · iexact Hw
    isplitl [Hs] <;> iassumption
  isplitl [Hn]; · iexact Hn
  isplitl [Hc]; · iexact Hc
  isplitl [Ht] <;> iassumption

theorem deal_apart {Φ Ψ : Dev nD → sProp 𝕄} :
    bigSep Finset.univ (fun c => iprop(Φ c ∗ Ψ c)) ⊢ iprop(bigSep Finset.univ Φ ∗ bigSep Finset.univ Ψ) :=
  Entails.of_eq (bigSep_sep' _ _ _)
theorem deal_together {Φ Ψ : Dev nD → sProp 𝕄} :
    iprop(bigSep Finset.univ Φ ∗ bigSep Finset.univ Ψ) ⊢ bigSep Finset.univ (fun c => iprop(Φ c ∗ Ψ c)) :=
  Entails.of_eq (bigSep_sep' _ _ _).symm

/-! ## Slots -/

theorem reads_of : bigSep Finset.univ (fun k : Key => (readerAt ES k 0 : sProp 𝕄))
    ⊢ bigSep Finset.univ fun c : Dev nD => iprop(readsAt true c ∗ readsAt false c) := by
  rw [bigSep_univ_prod]
  refine bigSep_mono fun c _ => ?_
  rw [bigSep_univ_prod, bigSep_bool, bigSep_bool, bigSep_bool]
  unfold readsAt
  show (_ : sProp 𝕄) ⊢ _
  iintro ⟨⟨H1, H2⟩, H3, H4⟩
  isplitl [H1 H2]
  · isplitl [H2] <;> iassumption
  isplitl [H4] <;> iassumption

theorem writes_dir (d : Bool) (c : Dev nD) :
    bigSep Finset.univ (fun p : Bool => bigSep (Finset.range 32) fun t => (writeTok ES (c, d, p) (t + 1) : sProp 𝕄)) ⊢ writesAt d c := by
  rw [← SparseCore.bigSep_product Finset.univ (Finset.range 32) (fun x : Bool × ℕ => (writeTok ES (c, d, x.1) (x.2 + 1) : sProp 𝕄))]
  have hs : (Finset.Ico 0 62).image (fun j => (sl j, cnt (sl j) j)) ⊆ (Finset.univ : Finset Bool) ×ˢ Finset.range 32 := by decide +kernel
  have hi : Set.InjOn (fun j => (sl j, cnt (sl j) j)) (Finset.Ico 0 62 : Finset ℕ) := fun a ha b hb e => by
    have h1 := jOf_cnt a (Finset.mem_Ico.mp ha).2
    have h2 := jOf_cnt b (Finset.mem_Ico.mp hb).2
    rw [← h1, ← h2]
    exact congrArg (fun x : Bool × ℕ => jOf x.1 x.2) e
  refine (bigSep_subset hs).trans (Entails.of_eq ((bigSep_image_of_injOn hi _).trans ?_))
  unfold writesAt
  exact bigSep_congr fun j _ => by rw [Nat.add_comm]

theorem writes_of : bigSep ((Finset.univ : Finset Key) ×ˢ Finset.range 32) (fun x => (writeTok ES x.1 (x.2 + 1) : sProp 𝕄))
    ⊢ bigSep Finset.univ fun c : Dev nD => iprop(writesAt true c ∗ writesAt false c) := by
  rw [SparseCore.bigSep_product, bigSep_univ_prod]
  refine bigSep_mono fun c _ => ?_
  rw [bigSep_univ_prod, bigSep_bool]
  exact BI.sep_mono (writes_dir true c) (writes_dir false c)

/-! ## Credits -/

theorem send_creds (d : Bool) (c : Dev nD) : (Pipeline.launchCred (fun c => sendDue d c 0) c : sProp 𝕄)
    ⊢ bigSep (Finset.Ico 0 62) fun j => cred (tallyAt (cell (.recv d (sl j)) c) (2 * j + 2) NN) := by
  unfold sendDue
  rw [Pipeline.launchCred_sum (Finset.Ico 0 62) (fun j c => tallyAt (cell (.recv d (sl j)) (nx d c)) (2 * j + 2) NN) c]
  exact bigSep_mono fun j _ => Pipeline.launchCred_tallyAt _ (nx d) (nx (!d)) (nx_pv d) (pv_nx d) _ _ c
theorem cred_creds (d : Bool) (c : Dev nD) : (Pipeline.launchCred (fun c => credDue d c 0) c : sProp 𝕄)
    ⊢ bigSep (Finset.Ico 0 60) fun k => cred (tallyAt (cell (.cred d) c) (ci k) 1) := by
  unfold credDue
  rw [Pipeline.launchCred_sum (Finset.Ico 0 60) (fun k c => tallyAt (cell (.cred d) (pv d c)) (ci k) 1) c]
  exact bigSep_mono fun j _ => Pipeline.launchCred_tallyAt _ (nx (!d)) (nx d) (pv_nx d) (nx_pv d) _ _ c
theorem bar_creds (d : Bool) (c : Dev nD) : (Pipeline.launchCred (fun c => tallyAt (cell .bar (nx d c)) 1 1) c : sProp 𝕄)
    ⊢ cred (tallyAt (cell .bar c) 1 1) :=
  Pipeline.launchCred_tallyAt _ (nx d) (nx (!d)) (nx_pv d) (pv_nx d) _ _ c

/-- The credit the launch deals a device. -/
theorem creds (c : Dev nD) : (Pipeline.launchCred due₀ c : sProp 𝕄)
    ⊢ iprop(cred (tallyAt (cell .bar c) 1 2) ∗ Creds true c ∗ Creds false c) := by
  rw [show due₀ = fun c => (((sendDue true c 0 + sendDue false c 0) + (credDue true c 0 + credDue false c 0)) + tallyAt (cell .bar (nx true c)) 1 1)
    + tallyAt (cell .bar (nx false c)) 1 1 from rfl]
  rw [Pipeline.launchCred_add, Pipeline.launchCred_add, Pipeline.launchCred_add, Pipeline.launchCred_add, Pipeline.launchCred_add]
  iintro ⟨⟨⟨⟨Ht, Hf⟩, Hct, Hcf⟩, Hb⟩, Hb'⟩
  ihave Ht := (send_creds true c) $$ Ht
  ihave Hf := (send_creds false c) $$ Hf
  ihave Hct := (cred_creds true c) $$ Hct
  ihave Hcf := (cred_creds false c) $$ Hcf
  ihave Hb := (bar_creds true c) $$ Hb
  ihave Hb' := (bar_creds false c) $$ Hb'
  isplitl [Hb Hb']
  · rw [show (tallyAt (cell .bar c) 1 2 : CellTallies nD τ sig ℕ) = tallyAt (cell .bar c) 1 1 + tallyAt (cell .bar c) 1 1 from (tallyAt_add (cell .bar c) (1 : ℕ) 1 1).symm]
    iapply (cred_add _ _).2
    isplitl [Hb] <;> iassumption
  unfold Creds
  isplitl [Ht Hct]
  · isplitl [Ht] <;> iassumption
  isplitl [Hf] <;> iassumption

/-! ## The launch -/

/-- The launch's ghost state: the staging cells', the cells', the slots'. -/
def u₀ : UU :=
  (initOf (Pipeline.cells cfgs (cellOf_inj)) (Pipeline.launchToks cfgs (cellOf_inj)),
    (launchOf barCells scCells toks, initSlots (Finset.univ : Finset Key) 32))

/-- A resource of the whole launch, kept at one device until it is dealt. -/
def onDev (P : sProp 𝕄) (c : Dev nD) : sProp 𝕄 := if c = 0 then P else iprop(emp)
theorem bigSep_onDev (P : sProp 𝕄) : bigSep Finset.univ (onDev P) = P := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G₀ : sProp 𝕄 := iprop(BI.own (ER (launchOf barCells scCells toks)) ∗ BI.own (ES (initSlots (Finset.univ : Finset Key) 32)))
def G : Dev nD → sProp 𝕄 := onDev G₀

/-- What every device may consult. -/
def records (κ : GSem nD τ sig → ℕ) (ιs : Key → ℕ) : sProp 𝕄 :=
  iprop(ctx (Xm m) (Wm m) (Rm m) (fun x => κ (cell x.1 x.2)) ιs ∗ bigSep barCells fun g => reached ER g 0)
instance records_persistent (κ : GSem nD τ sig → ℕ) (ιs : Key → ℕ) : BI.Persistent (records m κ ιs : sProp 𝕄) := by unfold records; infer_instance
theorem reached_at (c : Dev nD) : (bigSep barCells fun g => (reached ER g 0 : sProp 𝕄)) ⊢ reached ER (cell .bar c) 0 :=
  bigSep_elim (Finset.mem_map_of_mem barEmb (Finset.mem_univ c))

/-- A device's part of the ghost state. -/
def linear (c : Dev nD) : sProp 𝕄 :=
  iprop(atPos ER (cell .bar c) 0 ∅ 0 ∗ (Opens true c ∗ Opens false c) ∗ (Dealt true c ∗ Dealt false c))
/-- The rest of what it starts with. -/
def bundle (c : Dev nD) : sProp 𝕄 :=
  iprop(StableHlo.held (c : Thread nD τ) (Pipeline.ucRefs τ sig) (V0 m c) ∗ (cred (tallyAt (cell .bar c) 1 2) ∗ Creds true c ∗ Creds false c)
    ∗ owes (c : Thread nD τ) (due₀ c) ∅ ∗ prng c)
def T₀ (c : Dev nD) : sProp 𝕄 := iprop(StableHlo.held (c : Thread nD τ) (Pipeline.ucRefs τ sig) (V0 m c) ∗ Ea m c)

theorem T₀_intro (κ : GSem nD τ sig → ℕ) (ιs : Key → ℕ) (c : Dev nD) : iprop(records m κ ιs ∗ (linear c ∗ bundle m c) : sProp 𝕄) ⊢ T₀ m c := by
  unfold records linear bundle T₀ Ea Tk owing
  iintro ⟨⟨#Hctx, #Hre⟩, ⟨Hat, Ho, HdT, HdF⟩, Hh, ⟨Hb, HcT, HcF⟩, HO, Hp⟩
  isplitl [Hh]; · iexact Hh
  isplitl [Hp]; · iexact Hp
  isplitr [HO]
  · iexists (fun x => κ (cell x.1 x.2)); iexists ιs
    isplitr; · iexact Hctx
    isplitr
    · isplitr; · iapply (reached_at (pv true c)); iexact Hre
      iapply (reached_at (pv false c)); iexact Hre
    isplitl [Hat]; · iexact Hat
    isplitl [Hb]; · iexact Hb
    isplitl [HdT HcT HdF HcF]
    · isplitl [HdT HcT]
      · iapply (start_of true c); isplitl [HdT] <;> iassumption
      · iapply (start_of false c); isplitl [HdF] <;> iassumption
    iexact Ho
  iexists ∅; iexact HO

theorem unscoped_eq : ∀ sm : SemLoc sig, sm.isScoped .tc = false → sm = .reg barrier0 := by decide
theorem unscopedSems0_eq (c : Dev nD) : (unscopedSems0 c : sProp 𝕄) = semVal (cell .bar c) 0 := by
  unfold unscopedSems0
  rw [show (Finset.univ.filter fun sm : SemLoc sig => ¬ sm.isScoped .tc) = {SemLoc.reg barrier0} from by decide, BI.bigSep_singleton]
  rfl

theorem opens_of : bigSep scCells (fun g => (openTok ER g : sProp 𝕄))
    ⊢ bigSep Finset.univ (fun c : Dev nD => iprop(Opens true c ∗ Opens false c)) :=
  Entails.of_eq (by
    rw [bigSep_map, bigSep_univ_prod]
    exact bigSep_congr fun c _ => bigSep_ocl (fun k => (openTok ER (cell k c) : sProp 𝕄)))

theorem cells_of (κ : GSem nD τ sig → ℕ) : (bigSep (barCells ∪ scCells) fun g => (cellInv ER (ringRd (Xm m) (Wm m) (Rm m)) (κ g) g : sProp 𝕄))
    ⊢ bigSep Finset.univ (fun x : Cl × Dev nD => cellInv ER (ringRd (Xm m) (Wm m) (Rm m)) (κ (cell x.1 x.2)) (cell x.1 x.2)) :=
  bigSep_intro_persistent fun x _ => bigSep_elim (Φ := fun g => (cellInv ER (ringRd (Xm m) (Wm m) (Rm m)) (κ g) g : sProp 𝕄)) (cell_mem x.1 x.2)

theorem init :
    iprop((bigSep Finset.univ fun c : Dev nD => iprop(unscopedBufs c (fun b => m ((c.tc : Thread nD τ).loc b)) ∗ unscopedSems0 c
          ∗ owes (c.tc : Thread nD τ) (due₀ c) ∅ ∗ Pipeline.launchCred due₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (due₀ c) ∅ ∗ Pipeline.launchCred due₀ c ∗ prngReg c (ρ c) ∗ G c)
      ⊢ (iprop(bundle m c ∗ (semVal (cell .bar c) 0 ∗ G c)) : sProp 𝕄) := by
    rw [show (unscopedBufs c (fun b => m ((c.tc : Thread nD τ).loc b)) : sProp 𝕄) = StableHlo.held (c : Thread nD τ) (Pipeline.ucRefs τ sig) (V0 m c) from
      Pipeline.unscopedBufs_held (Ix := ℕ) (Name := ℕ) (U := UU) (Lvl := ℕ) c (V0 m c), unscopedSems0_eq]
    unfold bundle prng
    iintro ⟨Hh, Hus, HO, Hcr, Hp, HG⟩
    ihave Hc := (creds c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell .bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell .bar c) 0 ∅ 0 : sProp 𝕄)) :=
    Entails.of_eq (bigSep_map (s := Finset.univ) barEmb (Φ := fun g : GSem nD τ sig => (atPos ER g 0 ∅ 0 : sProp 𝕄)))
  iintro ⟨H, #Hlev⟩
  ihave H' := (show (bigSep Finset.univ fun c : Dev nD => iprop(unscopedBufs c (fun b => m ((c.tc : Thread nD τ).loc b)) ∗ unscopedSems0 c
          ∗ owes (c.tc : Thread nD τ) (due₀ c) ∅ ∗ Pipeline.launchCred due₀ c ∗ prngReg c (ρ c) ∗ G c))
      ⊢ (bigSep Finset.univ fun c : Dev nD => iprop(bundle m c ∗ (semVal (cell .bar c) 0 ∗ G c)) : sProp 𝕄) from bigSep_mono fun c _ => hcore c) $$ H
  ihave H2 := deal_apart $$ H'; icases H2 with ⟨HB, H3⟩
  ihave H4 := deal_apart $$ H3; icases H4 with ⟨Hv, HG⟩
  ihave Hu := (show bigSep Finset.univ (G (F := F)) ⊢ G₀ from Entails.of_eq (bigSep_onDev (F := F) G₀)) $$ HG
  unfold G₀
  icases Hu with ⟨Hu, Hsl⟩
  imod (Rounds.fund_launch ER (ringRd (Xm m) (Wm m) (Rm m)) disjoint_cells (fun g _ h => h) toks) $$ [Hv Hu] with ⟨%κ, -, #Hinv, #Hr, Hat, Hopen, Htok⟩
  · isplitl [Hv]
    · iapply hv $$ Hv
    · iexact Hu
  imod (Release.slots_init ES (Finset.univ : Finset Key) 32 (fun k => slotA (F := F) k)) $$ Hsl with ⟨%ιs, -, #Hsi, Hrd, Hwr⟩
  imodintro
  ihave #Hcells := (cells_of m κ) $$ Hinv
  iapply (bigSep_with_persistent (R := records m κ ιs) (Φ := fun c => iprop(linear c ∗ bundle m c)) fun c _ => T₀_intro m κ ιs c)
  isplitr
  · unfold records ctx
    isplitr
    · isplitr; · iexact Hcells
      isplitr; · iexact Hsi
      iexact Hlev
    iexact Hr
  iapply deal_together
  isplitr [HB]
  · ihave Hat := hat $$ Hat
    ihave Hopen := opens_of $$ Hopen
    ihave Htok := (Entails.of_eq (toks_eq (F := F))) $$ Htok
    ihave Hrd := reads_of $$ Hrd
    ihave Hwr := writes_of $$ Hwr
    ihave Htok := deal_apart $$ Htok; icases Htok with ⟨HtT, HtF⟩
    ihave Hrd := deal_apart $$ Hrd; icases Hrd with ⟨HrT, HrF⟩
    ihave Hwr := deal_apart $$ Hwr; icases Hwr with ⟨HwT, HwF⟩
    unfold linear
    iapply deal_together; isplitl [Hat]; · iexact Hat
    iapply deal_together; isplitl [Hopen]; · iexact Hopen
    iapply deal_together
    isplitl [HtT HrT HwT]
    · iapply (deal true)
      isplitl [HtT]; · iexact HtT
      isplitl [HwT] <;> iassumption
    · iapply (deal false)
      isplitl [HtF]; · iexact HtF
      isplitl [HwF] <;> iassumption
  · iexact HB

/-! ## The run -/

def Tₙ (c : Dev nD) : sProp 𝕄 := iprop(StableHlo.held (c : Thread nD τ) (Pipeline.ucRefs τ sig) (V₂ m c) ∗ semVal (cell .bar c) 0)
/-- What rides beside the buffers, before each item of @main. -/
def Erest (k : Fin 2) (c : Dev nD) : sProp 𝕄 := if k = 0 then Ea m c else Eb c

theorem launch_parts : (ownU u₀ : sProp 𝕄)
    ⊢ |={Set.univ}=> iprop(BI.own (EP (initOf (Pipeline.cells cfgs cellOf_inj) (Pipeline.launchToks cfgs cellOf_inj))) ∗ bigSep Finset.univ (G (F := F))) := by
  unfold u₀ G
  rw [bigSep_onDev]
  iintro Hu
  ihave H := (ownU_pair _ _) $$ Hu
  icases H with ⟨HP, HX⟩
  imodintro
  isplitl [HP]; · iexact HP
  ihave H := (own_pair_emb embR _ _) $$ HX
  unfold G₀
  iexact H

set_option backward.isDefEq.respectTransparency.types false in
/-- The run: from any memory with zero counters, every weakly fair execution of @main ends, the result is `Rm m` on every device,
    the arguments are unchanged, and every counter is zero. -/
theorem run_main : θ_run defs (onTc (τ := τ) (Cert.KernelIdeal.main (F := F))) ⟨m, fun _ => 0, ρ⟩
    (fun r => (∀ c : Dev nD, r.2.mem ((c.tc : Thread nD τ).loc main_v24) = Rm m
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ Variants.none L lv m ρ Cert.KernelIdeal.main
    (segs m Variants.none L lv (Erest m) 0 (pdats m) (reg0 m))
    (fun c Q => by
      rewrite [main_chain c, Pipeline.Seg.run_eq_chain,
        show (segs m Variants.none L lv (Erest m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) due₀ L_of_ne G u₀ launch_parts
    (T₀ := T₀ m) (Tₙ := Tₙ m)
    (hch := fun c => ⟨.rfl, reg_pre m c, (reg_post m c).trans ?_⟩)
    (hinit := init m ρ)
    (QY := fun c s => (∀ b ∈ Pipeline.ucRefs τ sig, s.mem ((c : Thread nD τ).1, b) = V₂ m c b) ∧ s.sem (cell .bar c) = 0)
    (hfin := fun c s' => ?_) (hQ := fun s h hs => ⟨fun c => ?_, ?_⟩)
  · unfold Tₙ Eb Yk owing
    iintro ⟨Hh, Hy, HO⟩
    isplitr [HO]
    · isplitl [Hh] <;> iassumption
    · iexact HO
  · unfold Tₙ StableHlo.held
    iintro ⟨⟨Hh, Hb0⟩, HSI⟩
    icombine HSI Hb0 gives %hb
    ihave Hr := (pointsTo_read_all (Pipeline.ucRefs τ sig) (fun b => ((c : Thread nD τ).1, b)) (V₂ m c) s') $$ [Hh HSI]
    · isplitl [Hh] <;> iassumption
    icases Hr with ⟨%h, HSI⟩
    imodintro
    isplitr
    · ipureintro
      exact ⟨h, by simpa using hb⟩
    · iexact HSI
  · obtain ⟨h, -⟩ := h c
    exact ⟨(h (Proc.devRef .tc main_v24) (Finset.mem_filter.mpr ⟨StableHlo.devRef_mem_tcRefs main_v24, by decide⟩)).trans (V2_v24 m c),
      (h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c)⟩
  · exact sem_eq_zero hs fun c sm hsm => by
      obtain rfl := unscoped_eq sm hsm
      exact (h c).2

end Cert.KernelIdeal.Proto

end

end
-- ==== Proof.Value.lean ====
/-
# The value

What the devices leave is the activation of the whole product, over the reals.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pointwise.Sums

@[expose] public section

set_option maxRecDepth 16384

noncomputable section

namespace Cert.KernelIdeal.Proto

open Idealize.ShloMosaic Idealize.ShloMosaic.TcCoe
open Cert.KernelIdeal Cert.KernelIdeal.Gen Cert.KernelIdeal.Steps
open scoped BigOperators

/-! ## The operations at an index -/

theorem dot_plain : dot_S256x256_S256x2048_S256x2048_1_0_0_1_n_n = DotDims.plain 256 256 2048 := rfl

theorem zero_word : (constant S256x2048 .f32 0x00000000#32 : FVec Ideal S256x2048 .f32) = fun _ => (0 : EReal) :=
  funext fun _ => Ideal.ofBits_zero_f32

/-- A block product at an index is the sum over the contracted coordinate. -/
theorem dotV_at (a : Vec Ideal S256x256 .f32) (b : Vec Ideal S256x2048 .f32) (r : Fin 256) (q : Fin 2048) :
    dotV a b (ValueIdx.ix2 r q) = ∑ k : Fin 256, (a (ValueIdx.ix2 r k) : EReal) * b (ValueIdx.ix2 k q) := by
  unfold dotV
  rw [shapeCast_self, shapeCast_self, shapeCast_self, dot_plain, zero_word]
  refine (Ideal.matmul_plain_apply none a b _ r q).trans ?_
  exact zero_add _

/-- The activation at an index. -/
theorem reluV_at (a : Vec Ideal S256x2048 .f32) (i : S256x2048.Idx) : reluV a i = max (a i : EReal) 0 := by
  unfold reluV
  rw [shapeCast_self]
  exact congrArg (max (a i : EReal)) Ideal.ofBits_zero_f32

theorem addV_at (a b : Vec Ideal S256x2048 .f32) (i : S256x2048.Idx) : addV a b i = (a i : EReal) + b i := by
  unfold addV
  rw [shapeCast_self]
  rfl

/-- Row `r` of chunk `k`. -/
def rowAt (k : ℕ) (hk : k < 32) (r : Fin 256) : Fin 8192 := ⟨256 * k + r.val, by omega⟩
/-- Column `q` of a direction's half. -/
def colAt (d : Bool) (q : Fin 2048) : Fin 4096 := ⟨(bif d then 0 else 2048) + q.val, by cases d <;> simp only [cond_true, cond_false] <;> omega⟩

theorem xRows_at (f : (cc0_stg1_0 : Ref sig .tc).ty.Contents (Elt Ideal))
    (o : {o : Fin 2 → ℕ // ∀ a, o a + S256x256.size a ≤ S8192x256.size a}) (k : ℕ) (hk : k < 32)
    (h0 : o.1 0 = 256 * k) (h1 : o.1 1 = 0) (r j : Fin 256) :
    xRows f o (ValueIdx.ix2 r j) = (f (ValueIdx.ix2 (rowAt k hk r) j : S8192x256.Idx) : EReal) := by
  refine congrArg (f : S8192x256.Idx → EReal) (funext (Fin.forall_fin_two.mpr ⟨Fin.ext ?_, Fin.ext ?_⟩))
  · show o.1 0 + 1 * r.val = 256 * k + r.val
    rw [h0]; omega
  · show o.1 1 + 1 * j.val = j.val
    rw [h1]; omega

theorem wHalf_at (f : (cc0_stg2_0 : Ref sig .tc).ty.Contents (Elt Ideal)) (d : Bool) (j : Fin 256) (q : Fin 2048) :
    wHalf f d (ValueIdx.ix2 j q) = (f (ValueIdx.ix2 j (colAt d q) : S256x4096.Idx) : EReal) := by
  refine congrArg (f : S256x4096.Idx → EReal) (funext (Fin.forall_fin_two.mpr ⟨Fin.ext ?_, Fin.ext ?_⟩))
  · show (wOff d).1 0 + 1 * j.val = j.val
    cases d <;> show 0 + 1 * j.val = j.val <;> omega
  · show (wOff d).1 1 + 1 * q.val = (bif d then 0 else 2048) + q.val
    cases d
    · show 2048 + 1 * q.val = 2048 + q.val; omega
    · show 0 + 1 * q.val = 0 + q.val; omega

/-- A device's part of the product at a row and a column. -/
def term (x : S8192x256.Idx → EReal) (w : S256x4096.Idx → EReal) (r : Fin 8192) (q : Fin 4096) : EReal :=
  ∑ k : Fin 256, x (ValueIdx.ix2 r k) * w (ValueIdx.ix2 k q)

section Sums

variable (X : Dev nD → (cc0_stg1_0 : Ref sig .tc).ty.Contents (Elt Ideal))
  (Wt : Dev nD → (cc0_stg2_0 : Ref sig .tc).ty.Contents (Elt Ideal))

theorem dot_term (c : Dev nD) (d : Bool) (o : {o : Fin 2 → ℕ // ∀ a, o a + S256x256.size a ≤ S8192x256.size a}) (k : ℕ) (hk : k < 32)
    (h0 : o.1 0 = 256 * k) (h1 : o.1 1 = 0) (r : Fin 256) (q : Fin 2048) :
    dotV (xRows (X c) o) (wHalf (Wt c) d) (ValueIdx.ix2 r q) = term (X c) (Wt c) (rowAt k hk r) (colAt d q) := by
  rw [dotV_at]
  exact Finset.sum_congr rfl fun j _ => by rw [xRows_at (X c) o k hk h0 h1, wHalf_at]

/-- The chunk a device at position `p` has summed after `s` steps. -/
def chunkA (d : Bool) (s p : ℕ) : ℕ := (p + bif d then 32 - s else s) % 32
theorem chunkA_lt (d : Bool) (s p : ℕ) : chunkA d s p < 32 := Nat.mod_lt _ (by decide)

/-- After `s` steps an accumulator holds the sum of the parts of the devices it has passed. -/
theorem acc_at (d : Bool) (s : ℕ) (hs : s < 32) (c : Dev nD) (r : Fin 256) (q : Fin 2048) :
    acc X Wt d s c (ValueIdx.ix2 r q)
      = ∑ t ∈ Finset.range (s + 1), term (X (devAt ((posN c + back d * t) % 32))) (Wt (devAt ((posN c + back d * t) % 32))) (rowAt (chunkA d s (posN c)) (chunkA_lt d s _) r) (colAt d q) := by
  have hc : devAt ((posN c + back d * 0) % 32) = c := by
    rw [Nat.mul_zero, Nat.add_zero, Nat.mod_eq_of_lt (pos_lt c), devAt_pos]
  induction s generalizing c with
  | zero =>
    have e : 256 * chunkA d 0 (posN c) = 256 * posN c := by
      have := pos_lt c
      cases d <;> simp only [chunkA, cond_true, cond_false] <;> omega
    rw [Finset.sum_range_one, hc]
    exact dot_term X Wt c d _ _ _ ((own_row c).trans e.symm) (own_col c) r q
  | succ s ih =>
    have e : chunkX d s (posN c) = chunkA d (s + 1) (posN c) := by
      cases d <;> simp only [chunkX, chunkA, cond_true, cond_false] <;> omega
    have ep : chunkA d s (posN (pv d c)) = chunkA d (s + 1) (posN c) := by
      rw [pos_pv]
      cases d <;> simp only [back, chunkA, cond_true, cond_false] <;> omega
    have hx : ((offs c).x d s).1 0 = 256 * chunkA d (s + 1) (posN c) := by
      rw [← e]; exact x_row d ⟨s, by omega⟩ c
    have hc' : devAt ((posN (pv d c) + back d * 0) % 32) = pv d c := by
      rw [Nat.mul_zero, Nat.add_zero, Nat.mod_eq_of_lt (pos_lt _), devAt_pos]
    rw [Finset.sum_range_succ', hc]
    show addV (acc X Wt d s (pv d c)) (dotV (xRows (X c) ((offs c).x d s)) (wHalf (Wt c) d)) (ValueIdx.ix2 r q) = _
    rw [addV_at, ih (by omega) (pv d c) hc',
      dot_term X Wt c d _ _ (chunkA_lt d (s + 1) (posN c)) hx (x_col d ⟨s, by omega⟩ c) r q]
    refine congrArg (· + _) (Finset.sum_congr rfl fun t _ => ?_)
    have hrow : rowAt (chunkA d s (posN (pv d c))) (chunkA_lt d s _) r = rowAt (chunkA d (s + 1) (posN c)) (chunkA_lt d (s + 1) _) r :=
      Fin.ext (congrArg (256 * · + r.val) ep)
    have hdev : (posN (pv d c) + back d * t) % 32 = (posN c + back d * (t + 1)) % 32 := by
      rw [pos_pv]
      cases d <;> simp only [back, cond_true, cond_false] <;> omega
    rw [hrow, hdev]

/-- Passing every position is passing every device. -/
theorem sum_round (d : Bool) (p : ℕ) (g : Dev nD → EReal) :
    ∑ t ∈ Finset.range 32, g (devAt ((p + back d * t) % 32)) = ∑ c : Dev nD, g c := by
  rw [Finset.sum_range (fun t => g (devAt ((p + back d * t) % 32)))]
  have hpos : ∀ n, posN (devAt (n % 32)) = n % 32 := fun n => pos_devAt ⟨n % 32, Nat.mod_lt _ (by decide)⟩
  have hi : Function.Injective (fun t : Fin 32 => devAt ((p + back d * t.val) % 32)) := fun t t' h => by
    have := congrArg posN h
    dsimp only at this
    rw [hpos, hpos] at this
    refine Fin.ext ?_
    have := t.isLt
    have := t'.isLt
    cases d <;> simp only [back, cond_true, cond_false] at * <;> omega
  exact Fintype.sum_bijective _ (Finite.injective_iff_bijective.mp hi) _ _ fun _ => rfl

/-- The result at an index: the activation of the sum of the devices' parts. -/
theorem res_at (i : S8192x4096.Idx) : (res X Wt i : EReal) = max (∑ c : Dev nD, term (X c) (Wt c) (i 0) (i 1)) (0 : EReal) := by
  have l0 : (i 0).val < 8192 := (i 0).isLt
  have l1 : (i 1).val < 4096 := (i 1).isLt
  show reluV (acc X Wt (Nat.blt (i 1).val 2048) 31 (last (Nat.blt (i 1).val 2048) ((i 0).val / 256))) (inBlk i) = _
  obtain ⟨d, hd⟩ : ∃ d, Nat.blt (i 1).val 2048 = d := ⟨_, rfl⟩
  rw [hd, reluV_at, ValueIdx.eq_ix2 (inBlk i)]
  have hb := acc_at X Wt d 31 (by decide) (last d ((i 0).val / 256)) (inBlk i 0) (inBlk i 1)
  have hk : chunkA d 31 (posN (last d ((i 0).val / 256))) = (i 0).val / 256 := by
    have hp : posN (last d ((i 0).val / 256)) = ((i 0).val / 256 + back d) % 32 :=
      pos_devAt ⟨((i 0).val / 256 + back d) % 32, Nat.mod_lt _ (by decide)⟩
    rw [hp]
    cases d <;> simp only [chunkA, back, cond_true, cond_false] <;> omega
  have hr : rowAt (chunkA d 31 (posN (last d ((i 0).val / 256)))) (chunkA_lt d 31 _) (inBlk i 0) = i 0 := by
    refine Fin.ext ?_
    show 256 * chunkA d 31 (posN (last d ((i 0).val / 256))) + (i 0).val % 256 = (i 0).val
    rw [hk]; omega
  have hq : colAt d (inBlk i 1) = i 1 := by
    refine Fin.ext ?_
    show (bif d then 0 else 2048) + (i 1).val % 2048 = (i 1).val
    cases d
    · rw [← Bool.not_eq_true, Nat.blt_eq] at hd; rw [cond_false]; omega
    · rw [Nat.blt_eq] at hd; rw [cond_true]; omega
  rw [hr, hq] at hb
  refine congrArg (max · 0) (hb.trans ?_)
  exact sum_round d _ fun c => term (X c) (Wt c) (i 0) (i 1)

end Sums

/-! ## The whole product -/

theorem ref_plain : Cert.ReferenceIdeal.dot_S8192x8192_S8192x4096_S8192x4096_1_0_0_1_n_n = DotDims.plain 8192 8192 4096 := rfl

/-- The reference's result at an index. -/
theorem ref_at (x : FVec Ideal Cert.ReferenceIdeal.S8192x8192 .f32) (w : FVec Ideal Cert.ReferenceIdeal.S8192x4096 .f32) (i : Cert.ReferenceIdeal.S8192x4096.Idx) :
    (maximumf (Host.dotGeneral Cert.ReferenceIdeal.dot_S8192x8192_S8192x4096_S8192x4096_1_0_0_1_n_n none x w)
      (broadcastInDim Cert.ReferenceIdeal.S8192x4096 ![] Cert.ReferenceIdeal.Gen.bcast_S_S8192x4096 (constant Cert.ReferenceIdeal.S_ .f32 0x00000000#32 : FVec Ideal Cert.ReferenceIdeal.S_ .f32)) i : EReal)
      = max (∑ k : Fin 8192, (x (ValueIdx.ix2 (i 0) k) : EReal) * w (ValueIdx.ix2 k (i 1))) 0 := by
  have h := (congrArg (Host.dotGeneral (DotDims.plain 8192 8192 4096) none x w) (ValueIdx.eq_ix2 i)).trans
    (StackMember.dotGeneral_plain_apply none x w (i 0) (i 1))
  rw [ref_plain]
  exact congrArg₂ max h Ideal.ofBits_zero_f32

/-- A block of columns by a block of rows is a part of the whole sum. -/
theorem term_block (x : Cert.ReferenceIdeal.S8192x8192.Idx → EReal) (w : Cert.ReferenceIdeal.S8192x4096.Idx → EReal) (c : Fin 32) (r : Fin 8192) (q : Fin 4096) :
    term (Layout.block ⟨2, ![8192, 256]⟩ ⟨2, ![8192, 8192]⟩ 1 32 c x) (Layout.block ⟨2, ![256, 4096]⟩ ⟨2, ![8192, 4096]⟩ 0 32 c w) r q
      = ∑ k : Fin 256, x (ValueIdx.ix2 r ⟨c.val * 256 + k.val, by have := c.isLt; have := k.isLt; omega⟩)
          * w (ValueIdx.ix2 ⟨c.val * 256 + k.val, by have := c.isLt; have := k.isLt; omega⟩ q) := by
  refine Finset.sum_congr rfl fun k _ => congrArg₂ (· * ·) (congrArg x ?_) (congrArg w ?_)
  · exact funext (Fin.forall_fin_two.mpr ⟨Fin.ext rfl, Fin.ext rfl⟩)
  · exact funext (Fin.forall_fin_two.mpr ⟨Fin.ext rfl, Fin.ext rfl⟩)

/-- From the devices' blocks of the operands, the result is the reference's. -/
theorem result_eq (m : (ℓ : Loc nD τ sig) → Buf (Elt Ideal) ℓ)
    (x : FVec Ideal Cert.ReferenceIdeal.S8192x8192 .f32) (w : FVec Ideal Cert.ReferenceIdeal.S8192x4096 .f32)
    (hx : ∀ c : Dev nD, m ((c.tc : Thread nD τ).loc main_arg0) = Layout.block ⟨2, ![8192, 256]⟩ ⟨2, ![8192, 8192]⟩ 1 32 c x)
    (hw : ∀ c : Dev nD, m ((c.tc : Thread nD τ).loc main_arg1) = Layout.block ⟨2, ![256, 4096]⟩ ⟨2, ![8192, 4096]⟩ 0 32 c w) :
    Rm m = maximumf (Host.dotGeneral Cert.ReferenceIdeal.dot_S8192x8192_S8192x4096_S8192x4096_1_0_0_1_n_n none x w)
      (broadcastInDim Cert.ReferenceIdeal.S8192x4096 ![] Cert.ReferenceIdeal.Gen.bcast_S_S8192x4096 (constant Cert.ReferenceIdeal.S_ .f32 0x00000000#32 : FVec Ideal Cert.ReferenceIdeal.S_ .f32)) := by
  funext i
  refine (res_at (Xm m) (Wm m) i).trans ((ref_at x w i).trans ?_).symm
  refine congrArg (max · (0 : EReal)) ((Fin.sum_univ_tiles 32 256 rfl _).trans (Finset.sum_congr rfl fun c _ => ?_))
  refine (term_block x w c (i 0) (i 1)).symm.trans ?_
  exact congrArg₂ (fun a b => term a b (i 0) (i 1)) (hx c).symm (hw c).symm

end Cert.KernelIdeal.Proto

end

end
-- ==== Proof.Bits.BodyEq.lean ====
/-
# The printed body is the composition

The straight line the kernel prints, all its parts unfolded, is the composition of steps.
-/
module

public import proofs.«01_k».proof.Proof.Bits.Steps

@[expose] public section

set_option maxRecDepth 16384

noncomputable section

namespace Cert.Kernel.Steps

open Idealize.ShloMosaic Idealize.ShloMosaic.TcCoe
open Idealize.SL Idealize.SL.Sem
open Cert.Kernel Cert.Kernel.Gen

variable {F : FTy → Type} [FloatOps F]

set_option maxHeartbeats 0 in
/-- The kernel's body is that composition. -/
theorem body_eq (t : Fin cfg0.N) :
    (bodyAt0 t : Pr F PUnit) = body (st0_1 t) (st0_2 t) (st0_0 t) := rfl

end Cert.Kernel.Steps

end

end
-- ==== Proof.lean ====
/-
# The certificate

The kernel runs at both instances and leaves the reference's result on every device.
-/
module

public import proofs.«01_k».proof.Defs
public import proofs.«01_k».proof.Proof.Value
public import proofs.«01_k».proof.Proof.Bits.Launch
public import proofs.«01_k».proof.Proof.Gen.ReferenceIdeal.Run
public import Idealize.ShloMosaic.Lib.Quiescent

@[expose] public section

noncomputable section

namespace Cert.Proof

open Idealize.ShloMosaic Idealize.SL.Sem

/-- The kernel's frame, at the machine's floats. -/
theorem frame_kernel : Cert.quiescent_Kernel (hKernel := Cert.Kernel.Gen.facts) := fun m g _ =>
  (θ_run _ _ _).mono (fun _ h => ⟨fun c => (h.1 c).2, h.2⟩) (Cert.Kernel.Proto.run_main (F := Bits) m g)

/-- The kernel's frame, over the reals. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Proto.run_main (F := Ideal) m g)

/-- The reference's frame. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Every device's result is the reference's. -/
theorem value : Cert.algebraic_KernelIdeal_ReferenceIdeal (hKernelIdeal := Cert.KernelIdeal.Gen.facts) (hReferenceIdeal := Cert.ReferenceIdeal.Gen.facts) := by
  intro m g m' g' _ hm
  have hr := Cert.KernelIdeal.Proto.result_eq m _ _ (fun c => (hm c).1) (fun c => (hm c).2)
  exact ⟨_,
    (θ_run _ _ _).mono (fun _ h c => ⟨((h.1 c).1).trans hr, (h.1 c).2⟩) (Cert.KernelIdeal.Proto.run_main (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
